-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_sized [hKernelIdeal : Cert.KernelIdeal.Facts] [hReferenceIdeal : Cert.ReferenceIdeal.Facts] [hOn_sized : Cert.On_sized.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![8192, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![8192]⟩ (Layout.meshBlock [2, 4, 4] ![[2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Layout.blockN ⟨2, ![2048, 1024]⟩ ⟨2, ![8192, 1024]⟩ (Layout.meshBlock [2, 4, 4] ![[2], []] c) ((Cert.On_sized.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![2048, 1024]⟩ : Shape).Idx → _) i = 1#1 → r.2.mem ((c.tc : Thread Cert.KernelIdeal.nD Cert.KernelIdeal.τ).loc Cert.KernelIdeal.main_v1) i = (Layout.blockN ⟨2, ![2048, 1024]⟩ ⟨2, ![8192, 1024]⟩ (Layout.meshBlock [2, 4, 4] ![[2], []] c) v0 : (⟨2, ![2048, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![8192, 1024]⟩ : Shape).Idx, (Cert.On_sized.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v7) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_sized : Cert.On_sized.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_sized (hKernelIdeal := hKernelIdeal) (hReferenceIdeal := hReferenceIdeal) (hOn_sized := hOn_sized)
-- ==== On_sized.lean ====
abbrev S8192x1024 : Shape := ⟨2, ![8192, 1024]⟩
abbrev S8192 : Shape := ⟨1, ![8192]⟩
abbrev S4x2048x1 : Shape := ⟨3, ![4, 2048, 1]⟩
abbrev S4 : Shape := ⟨1, ![4]⟩
abbrev S1x1x4 : Shape := ⟨3, ![1, 1, 4]⟩
abbrev S4x2048x4 : Shape := ⟨3, ![4, 2048, 4]⟩
abbrev S_ : Shape := ⟨0, ![]⟩
abbrev S4x4 : Shape := ⟨2, ![4, 4]⟩

class Facts : Prop where
  shapeCasts_S8192_S4x2048x1 : S8192.ShapeCasts S4x2048x1
  bcast_S4_S1x1x4_2 : S4.BroadcastsInDim S1x1x4 (![2] : Fin 1 → Fin S1x1x4.rank)
  bcast_S4x2048x1_S4x2048x4_0_1_2 : S4x2048x1.BroadcastsInDim S4x2048x4 (![0, 1, 2] : Fin 3 → Fin S4x2048x4.rank)
  bcast_S1x1x4_S4x2048x4_0_1_2 : S1x1x4.BroadcastsInDim S4x2048x4 (![0, 1, 2] : Fin 3 → Fin S4x2048x4.rank)
  natLt_1_32 : 1 < 32
  reducesTo_S4x2048x4_S4x4_d1 : S4x2048x4.ReducesTo [1] S4x4
  h_S_ : 0 < S_.numel
  reducesTo_S4x4_S4_d0 : S4x4.ReducesTo [0] S4
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S8192x1024 : S_.BroadcastsInDim S8192x1024 (![] : Fin 0 → Fin S8192x1024.rank)

variable [Facts]

def fn {F : FTy → Type} [FloatOps F] (main_arg0 : FVec F S8192x1024 .bf16) (main_arg1 : IVec S8192 32) : IVec S8192x1024 1 :=
  let main_v0 : IVec S4x2048x1 32 := shapeCast S4x2048x1 main_arg1 shapeCasts_S8192_S4x2048x1
  let main_v1 : IVec S4 32 := iotaInDim S4 32 0
  let main_v2 : IVec S1x1x4 32 := broadcastInDim S1x1x4 ![2] bcast_S4_S1x1x4_2 main_v1
  let main_v3 : IVec S4x2048x4 32 := broadcastInDim S4x2048x4 ![0, 1, 2] bcast_S4x2048x1_S4x2048x4_0_1_2 main_v0
  let main_v4 : IVec S4x2048x4 32 := broadcastInDim S4x2048x4 ![0, 1, 2] bcast_S1x1x4_S4x2048x4_0_1_2 main_v2
  let main_v5 : IVec S4x2048x4 1 := cmpi .eq main_v3 main_v4
  let main_v6 : IVec S4x2048x4 32 := (extui 32 · natLt_1_32) main_v5
  let main_c : IVec S_ 32 := constantI S_ 32 0#32
  let main_v7 : IVec S4x4 32 := (fun x v => Host.reduce IntOp.addi x v reducesTo_S4x2048x4_S4x4_d1 h_S_) main_v6 main_c
  let main_c_0 : IVec S_ 32 := constantI S_ 32 0#32
  let main_v8 : IVec S4 32 := (fun x v => Host.reduce IntOp.addi x v reducesTo_S4x4_S4_d0 h_S_) main_v7 main_c_0
  let main_c_1 : IVec S_ 32 := constantI S_ 32 2048#32
  let main_v9 : IVec S4 32 := broadcastInDim S4 ![] bcast_S_S4 main_c_1
  let main_v10 : IVec S4 1 := cmpi .eq main_v8 main_v9
  let main_c_2 : IVec S_ 1 := constantI S_ 1 1#1
  let main_v11 : IVec S_ 1 := (fun x v => Host.reduce IntOp.andi x v reducesTo_S4_S_d0 h_S_) main_v10 main_c_2
  let main_c_3 : IVec S_ 32 := constantI S_ 32 560#32
  let main_v12 : IVec S4x4 32 := broadcastInDim S4x4 ![] bcast_S_S4x4 main_c_3
  let main_v13 : IVec S4x4 1 := cmpi .sle main_v7 main_v12
  let main_c_4 : IVec S_ 1 := constantI S_ 1 1#1
  let main_v14 : IVec S_ 1 := (fun x v => Host.reduce IntOp.andi x v reducesTo_S4x4_S_d0_1 h_S_) main_v13 main_c_4
  let main_v15 : IVec S_ 1 := andi main_v11 main_v14
  let main_v16 : IVec S8192x1024 1 := broadcastInDim S8192x1024 ![] bcast_S_S8192x1024 main_v15
  main_v16
-- ==== Kernel.lean ====
abbrev S2048x1024 : Shape := ⟨2, ![2048, 1024]⟩
abbrev S2048 : Shape := ⟨1, ![2048]⟩
abbrev S3x560x512 : Shape := ⟨3, ![3, 560, 512]⟩
abbrev S4x2x560x512 : Shape := ⟨4, ![4, 2, 560, 512]⟩
abbrev S2x2048x512 : Shape := ⟨3, ![2, 2048, 512]⟩
abbrev S8x128 : Shape := ⟨2, ![8, 128]⟩
abbrev S3x8x128 : Shape := ⟨3, ![3, 8, 128]⟩
abbrev S3 : Shape := ⟨1, ![3]⟩
abbrev S_ : Shape := ⟨0, ![]⟩
abbrev S2048x1 : Shape := ⟨2, ![2048, 1]⟩
abbrev S2048x128 : Shape := ⟨2, ![2048, 128]⟩
abbrev S128 : Shape := ⟨1, ![128]⟩
abbrev S1x128 : Shape := ⟨2, ![1, 128]⟩
abbrev S1 : Shape := ⟨1, ![1]⟩
abbrev S1x8x128 : Shape := ⟨3, ![1, 8, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S2048x560 : Shape := ⟨2, ![2048, 560]⟩
abbrev S2048x512 : Shape := ⟨2, ![2048, 512]⟩
abbrev S1x2048x512 : Shape := ⟨3, ![1, 2048, 512]⟩
abbrev S560x512 : Shape := ⟨2, ![560, 512]⟩
abbrev S1x560x512 : Shape := ⟨3, ![1, 560, 512]⟩
abbrev S1x1x560x512 : Shape := ⟨4, ![1, 1, 560, 512]⟩
abbrev S1x1x1 : Shape := ⟨3, ![1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S2048x1024, .bf16⟩
  | .local _ .vmem, ⟨0, _⟩ => ⟨S2048x1024, .bf16⟩
  | .local _ .vmem, ⟨1, _⟩ => ⟨S2048, .i32⟩
  | .local _ .vmem, ⟨2, _⟩ => ⟨S2048x1024, .bf16⟩
  | .local _ .vmem, ⟨3, _⟩ => ⟨S3x560x512, .bf16⟩
  | .local _ .vmem, ⟨4, _⟩ => ⟨S4x2x560x512, .bf16⟩
  | .local _ .vmem, ⟨5, _⟩ => ⟨S2x2048x512, .bf16⟩
  | .local _ .vmem, ⟨6, _⟩ => ⟨S2x2048x512, .bf16⟩
  | .local _ .vmem, ⟨7, _⟩ => ⟨S8x128, .i32⟩
  | .local _ .vmem, ⟨8, _⟩ => ⟨S3x8x128, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v24 : BitVec 32 := Scalar.muli v5 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_13 : BitVec 32 := 1#32
  let v26 : BitVec 32 := Scalar.muli v21 c1_i32_13
  let v27 : BitVec 32 := Scalar.addi v25 v26
  v27.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v28 : BitVec 32 := Scalar.addi v8 c2_i32_14
  let c4_i32_15 : BitVec 32 := 4#32
  let c0_i32_16 : BitVec 32 := 0#32
  let v29 : BitVec 1 := Scalar.cmpi .eq c4_i32_15 c0_i32_16
  let c1_i32_17 : BitVec 32 := 1#32
  let v30 : BitVec 32 := Scalar.select v29 c1_i32_17 c4_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_25 : BitVec 32 := 1#32
  let v43 : BitVec 32 := Scalar.muli v38 c1_i32_25
  let v44 : BitVec 32 := Scalar.addi v42 v43
  v44.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v56 : BitVec 32 := Scalar.muli v2 c16_i32_33
  let v57 : BitVec 32 := Scalar.addi c0_i32_34 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v58 : BitVec 32 := Scalar.muli v5 c4_i32_35
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v45 : BitVec 32 := Scalar.addi v8 c3_i32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_36 : BitVec 32 := 1#32
  let v60 : BitVec 32 := Scalar.muli v55 c1_i32_36
  let v61 : BitVec 32 := Scalar.addi v59 v60
  v61.toNat
def k0_dev4 (d0 : Dev nD) : Nat :=
  let c0_i32_39 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_38 : BitVec 32 := 16#32
  let v62 : BitVec 32 := Scalar.muli v9 c16_i32_38
  let v63 : BitVec 32 := Scalar.addi c0_i32_39 v62
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v64 : BitVec 32 := Scalar.muli v5 c4_i32_40
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v66 : BitVec 32 := Scalar.muli v8 c1_i32_41
  let v67 : BitVec 32 := Scalar.addi v65 v66
  v67.toNat
def k0_dev5 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v100 : BitVec 32 := Scalar.muli v2 c16_i32_57
  let v101 : BitVec 32 := Scalar.addi c0_i32_58 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v102 : BitVec 32 := Scalar.muli v5 c4_i32_59
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v89 : BitVec 32 := Scalar.addi v8 c1_i32_47
  let c4_i32_48 : BitVec 32 := 4#32
  let c0_i32_49 : BitVec 32 := 0#32
  let v90 : BitVec 1 := Scalar.cmpi .eq c4_i32_48 c0_i32_49
  let c1_i32_50 : BitVec 32 := 1#32
  let v91 : BitVec 32 := Scalar.select v90 c1_i32_50 c4_i32_48
  let v92 : BitVec 32 := Scalar.remsi v89 v91
  let c0_i32_52 : BitVec 32 := 0#32
  let v94 : BitVec 1 := Scalar.cmpi .slt v92 c0_i32_52
  let c0_i32_53 : BitVec 32 := 0#32
  let v95 : BitVec 1 := Scalar.cmpi .slt v91 c0_i32_53
  let v96 : BitVec 1 := Scalar.xori v94 v95
  let c0_i32_51 : BitVec 32 := 0#32
  let v93 : BitVec 1 := Scalar.cmpi .ne v92 c0_i32_51
  let v97 : BitVec 1 := Scalar.andi v96 v93
  let v98 : BitVec 32 := Scalar.addi v92 v91
  let v99 : BitVec 32 := Scalar.select v97 v98 v92
  let c1_i32_60 : BitVec 32 := 1#32
  let v104 : BitVec 32 := Scalar.muli v99 c1_i32_60
  let v105 : BitVec 32 := Scalar.addi v103 v104
  v105.toNat
def k0_dev6 (d0 : Dev nD) : Nat :=
  let c0_i32_74 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_73 : BitVec 32 := 16#32
  let v123 : BitVec 32 := Scalar.muli v2 c16_i32_73
  let v124 : BitVec 32 := Scalar.addi c0_i32_74 v123
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v125 : BitVec 32 := Scalar.muli v5 c4_i32_75
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_63 : BitVec 32 := 2#32
  let v112 : BitVec 32 := Scalar.addi v8 c2_i32_63
  let c4_i32_64 : BitVec 32 := 4#32
  let c0_i32_65 : BitVec 32 := 0#32
  let v113 : BitVec 1 := Scalar.cmpi .eq c4_i32_64 c0_i32_65
  let c1_i32_66 : BitVec 32 := 1#32
  let v114 : BitVec 32 := Scalar.select v113 c1_i32_66 c4_i32_64
  let v115 : BitVec 32 := Scalar.remsi v112 v114
  let c0_i32_68 : BitVec 32 := 0#32
  let v117 : BitVec 1 := Scalar.cmpi .slt v115 c0_i32_68
  let c0_i32_69 : BitVec 32 := 0#32
  let v118 : BitVec 1 := Scalar.cmpi .slt v114 c0_i32_69
  let v119 : BitVec 1 := Scalar.xori v117 v118
  let c0_i32_67 : BitVec 32 := 0#32
  let v116 : BitVec 1 := Scalar.cmpi .ne v115 c0_i32_67
  let v120 : BitVec 1 := Scalar.andi v119 v116
  let v121 : BitVec 32 := Scalar.addi v115 v114
  let v122 : BitVec 32 := Scalar.select v120 v121 v115
  let c1_i32_76 : BitVec 32 := 1#32
  let v127 : BitVec 32 := Scalar.muli v122 c1_i32_76
  let v128 : BitVec 32 := Scalar.addi v126 v127
  v128.toNat
def k0_dev7 (d0 : Dev nD) : Nat :=
  let c0_i32_90 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_89 : BitVec 32 := 16#32
  let v146 : BitVec 32 := Scalar.muli v2 c16_i32_89
  let v147 : BitVec 32 := Scalar.addi c0_i32_90 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v148 : BitVec 32 := Scalar.muli v5 c4_i32_91
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_79 : BitVec 32 := 3#32
  let v135 : BitVec 32 := Scalar.addi v8 c3_i32_79
  let c4_i32_80 : BitVec 32 := 4#32
  let c0_i32_81 : BitVec 32 := 0#32
  let v136 : BitVec 1 := Scalar.cmpi .eq c4_i32_80 c0_i32_81
  let c1_i32_82 : BitVec 32 := 1#32
  let v137 : BitVec 32 := Scalar.select v136 c1_i32_82 c4_i32_80
  let v138 : BitVec 32 := Scalar.remsi v135 v137
  let c0_i32_84 : BitVec 32 := 0#32
  let v140 : BitVec 1 := Scalar.cmpi .slt v138 c0_i32_84
  let c0_i32_85 : BitVec 32 := 0#32
  let v141 : BitVec 1 := Scalar.cmpi .slt v137 c0_i32_85
  let v142 : BitVec 1 := Scalar.xori v140 v141
  let c0_i32_83 : BitVec 32 := 0#32
  let v139 : BitVec 1 := Scalar.cmpi .ne v138 c0_i32_83
  let v143 : BitVec 1 := Scalar.andi v142 v139
  let v144 : BitVec 32 := Scalar.addi v138 v137
  let v145 : BitVec 32 := Scalar.select v143 v144 v138
  let c1_i32_92 : BitVec 32 := 1#32
  let v150 : BitVec 32 := Scalar.muli v145 c1_i32_92
  let v151 : BitVec 32 := Scalar.addi v149 v150
  v151.toNat
def k0_off1 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v323 : Index := Scalar.indexCast v2
  let c0_143 : Index := 0#32
  let c0_144 : Index := 0#32
  ![v323.toNat, 0, 0]
def k0_off2 (d0 : Dev nD) : Fin 4 → Nat :=
  let c3_i32_149 : BitVec 32 := 3#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_156 : BitVec 32 := 0#32
  let c0_i32_157 : BitVec 32 := 0#32
  ![3, v2.toNat, 0, 0]
def k0_dev8 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_152 : BitVec 32 := 16#32
  let v331 : BitVec 32 := Scalar.muli v2 c16_i32_152
  let v332 : BitVec 32 := Scalar.addi c0_i32_153 v331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v333 : BitVec 32 := Scalar.muli v5 c4_i32_154
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_135 : BitVec 32 := 3#32
  let v304 : BitVec 32 := Scalar.addi v8 c3_i32_135
  let c4_i32_136 : BitVec 32 := 4#32
  let c0_i32_137 : BitVec 32 := 0#32
  let v305 : BitVec 1 := Scalar.cmpi .eq c4_i32_136 c0_i32_137
  let c1_i32_138 : BitVec 32 := 1#32
  let v306 : BitVec 32 := Scalar.select v305 c1_i32_138 c4_i32_136
  let v307 : BitVec 32 := Scalar.remsi v304 v306
  let c0_i32_140 : BitVec 32 := 0#32
  let v309 : BitVec 1 := Scalar.cmpi .slt v307 c0_i32_140
  let c0_i32_141 : BitVec 32 := 0#32
  let v310 : BitVec 1 := Scalar.cmpi .slt v306 c0_i32_141
  let v311 : BitVec 1 := Scalar.xori v309 v310
  let c0_i32_139 : BitVec 32 := 0#32
  let v308 : BitVec 1 := Scalar.cmpi .ne v307 c0_i32_139
  let v312 : BitVec 1 := Scalar.andi v311 v308
  let v313 : BitVec 32 := Scalar.addi v307 v306
  let v314 : BitVec 32 := Scalar.select v312 v313 v307
  let c1_i32_155 : BitVec 32 := 1#32
  let v335 : BitVec 32 := Scalar.muli v314 c1_i32_155
  let v336 : BitVec 32 := Scalar.addi v334 v335
  v336.toNat
def k0_off3 (d0 : Dev nD) : Fin 4 → Nat :=
  let c2_i32_175 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_182 : BitVec 32 := 0#32
  let c0_i32_183 : BitVec 32 := 0#32
  ![2, v2.toNat, 0, 0]
def k0_dev9 (d0 : Dev nD) : Nat :=
  let c0_i32_179 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_178 : BitVec 32 := 16#32
  let v372 : BitVec 32 := Scalar.muli v2 c16_i32_178
  let v373 : BitVec 32 := Scalar.addi c0_i32_179 v372
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_180 : BitVec 32 := 4#32
  let v374 : BitVec 32 := Scalar.muli v5 c4_i32_180
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_160 : BitVec 32 := 2#32
  let v345 : BitVec 32 := Scalar.addi v8 c2_i32_160
  let c4_i32_161 : BitVec 32 := 4#32
  let c0_i32_162 : BitVec 32 := 0#32
  let v346 : BitVec 1 := Scalar.cmpi .eq c4_i32_161 c0_i32_162
  let c1_i32_163 : BitVec 32 := 1#32
  let v347 : BitVec 32 := Scalar.select v346 c1_i32_163 c4_i32_161
  let v348 : BitVec 32 := Scalar.remsi v345 v347
  let c0_i32_165 : BitVec 32 := 0#32
  let v350 : BitVec 1 := Scalar.cmpi .slt v348 c0_i32_165
  let c0_i32_166 : BitVec 32 := 0#32
  let v351 : BitVec 1 := Scalar.cmpi .slt v347 c0_i32_166
  let v352 : BitVec 1 := Scalar.xori v350 v351
  let c0_i32_164 : BitVec 32 := 0#32
  let v349 : BitVec 1 := Scalar.cmpi .ne v348 c0_i32_164
  let v353 : BitVec 1 := Scalar.andi v352 v349
  let v354 : BitVec 32 := Scalar.addi v348 v347
  let v355 : BitVec 32 := Scalar.select v353 v354 v348
  let c1_i32_181 : BitVec 32 := 1#32
  let v376 : BitVec 32 := Scalar.muli v355 c1_i32_181
  let v377 : BitVec 32 := Scalar.addi v375 v376
  v377.toNat
def k0_off4 (d0 : Dev nD) : Fin 4 → Nat :=
  let c1_i32_201 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_208 : BitVec 32 := 0#32
  let c0_i32_209 : BitVec 32 := 0#32
  ![1, v2.toNat, 0, 0]
def k0_dev10 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_204 : BitVec 32 := 16#32
  let v413 : BitVec 32 := Scalar.muli v2 c16_i32_204
  let v414 : BitVec 32 := Scalar.addi c0_i32_205 v413
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_206 : BitVec 32 := 4#32
  let v415 : BitVec 32 := Scalar.muli v5 c4_i32_206
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v386 : BitVec 32 := Scalar.addi v8 c1_i32_186
  let c4_i32_187 : BitVec 32 := 4#32
  let c0_i32_188 : BitVec 32 := 0#32
  let v387 : BitVec 1 := Scalar.cmpi .eq c4_i32_187 c0_i32_188
  let c1_i32_189 : BitVec 32 := 1#32
  let v388 : BitVec 32 := Scalar.select v387 c1_i32_189 c4_i32_187
  let v389 : BitVec 32 := Scalar.remsi v386 v388
  let c0_i32_191 : BitVec 32 := 0#32
  let v391 : BitVec 1 := Scalar.cmpi .slt v389 c0_i32_191
  let c0_i32_192 : BitVec 32 := 0#32
  let v392 : BitVec 1 := Scalar.cmpi .slt v388 c0_i32_192
  let v393 : BitVec 1 := Scalar.xori v391 v392
  let c0_i32_190 : BitVec 32 := 0#32
  let v390 : BitVec 1 := Scalar.cmpi .ne v389 c0_i32_190
  let v394 : BitVec 1 := Scalar.andi v393 v390
  let v395 : BitVec 32 := Scalar.addi v389 v388
  let v396 : BitVec 32 := Scalar.select v394 v395 v389
  let c1_i32_207 : BitVec 32 := 1#32
  let v417 : BitVec 32 := Scalar.muli v396 c1_i32_207
  let v418 : BitVec 32 := Scalar.addi v416 v417
  v418.toNat
def k0_dev11 (d0 : Dev nD) : Nat :=
  let c0_i32_381 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_380 : BitVec 32 := 16#32
  let v690 : BitVec 32 := Scalar.muli v9 c16_i32_380
  let v691 : BitVec 32 := Scalar.addi c0_i32_381 v690
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_382 : BitVec 32 := 4#32
  let v692 : BitVec 32 := Scalar.muli v5 c4_i32_382
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v694 : BitVec 32 := Scalar.muli v8 c1_i32_383
  let v695 : BitVec 32 := Scalar.addi v693 v694
  v695.toNat
def k0_off5 (d0 : Dev nD) : Fin 4 → Nat :=
  let c1_390 : Index := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v707 : Index := Scalar.indexCast v2
  let c0_391 : Index := 0#32
  let c0_392 : Index := 0#32
  ![1, v707.toNat, 0, 0]
def k0_dev12 (d0 : Dev nD) : Nat :=
  let c0_i32_422 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_421 : BitVec 32 := 16#32
  let v735 : BitVec 32 := Scalar.muli v9 c16_i32_421
  let v736 : BitVec 32 := Scalar.addi c0_i32_422 v735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_423 : BitVec 32 := 4#32
  let v737 : BitVec 32 := Scalar.muli v5 c4_i32_423
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v739 : BitVec 32 := Scalar.muli v8 c1_i32_424
  let v740 : BitVec 32 := Scalar.addi v738 v739
  v740.toNat
def k0_off6 (d0 : Dev nD) : Fin 4 → Nat :=
  let c2_431 : Index := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v752 : Index := Scalar.indexCast v2
  let c0_432 : Index := 0#32
  let c0_433 : Index := 0#32
  ![2, v752.toNat, 0, 0]
def k0_dev13 (d0 : Dev nD) : Nat :=
  let c0_i32_463 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_462 : BitVec 32 := 16#32
  let v780 : BitVec 32 := Scalar.muli v9 c16_i32_462
  let v781 : BitVec 32 := Scalar.addi c0_i32_463 v780
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_464 : BitVec 32 := 4#32
  let v782 : BitVec 32 := Scalar.muli v5 c4_i32_464
  let v783 : BitVec 32 := Scalar.addi v781 v782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v784 : BitVec 32 := Scalar.muli v8 c1_i32_465
  let v785 : BitVec 32 := Scalar.addi v783 v784
  v785.toNat
def k0_off7 (d0 : Dev nD) : Fin 4 → Nat :=
  let c3 : Index := 3#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v797 : Index := Scalar.indexCast v2
  let c0_472 : Index := 0#32
  let c0_473 : Index := 0#32
  ![3, v797.toNat, 0, 0]
def k0_off8 (d0 : Dev nD) : Fin 3 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v825 : Index := Scalar.indexCast v9
  let c0_498 : Index := 0#32
  let c0_499 : Index := 0#32
  ![v825.toNat, 0, 0]
def k0_off9 (d0 : Dev nD) : Fin 4 → Nat :=
  let c1_500 : Index := 1#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v828 : Index := Scalar.indexCast v9
  let c0_501 : Index := 0#32
  let c0_502 : Index := 0#32
  ![1, v828.toNat, 0, 0]
def k0_off10 (d0 : Dev nD) : Fin 4 → Nat :=
  let c2_529 : Index := 2#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v859 : Index := Scalar.indexCast v9
  let c0_530 : Index := 0#32
  let c0_531 : Index := 0#32
  ![2, v859.toNat, 0, 0]
def k0_off11 (d0 : Dev nD) : Fin 4 → Nat :=
  let c3_558 : Index := 3#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let v890 : Index := Scalar.indexCast v9
  let c0_559 : Index := 0#32
  let c0_560 : Index := 0#32
  ![3, v890.toNat, 0, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Values.lean ====
/-
The values the kernel computes, as functions of the device: the words it derives from its position, the packed chunks
it sends, the counts it exchanges, what it receives, and the two halves of its result. Each is the printed kernel's own
expression (the payloads of the skeleton), named here once so that the protocol can speak of contents by name.
-/
module

public import proofs.«01_k».proof.Proof.Gen.KernelIdeal
public import proofs.«01_k».proof.Proof.Gen.KernelIdeal.Skeleton
public import Idealize.ShloMosaic.Lib.ValueIdxCore

@[expose] public section

noncomputable section

namespace Cert.K01

open Cert.KernelIdeal Cert.KernelIdeal.Gen
open Idealize.ShloMosaic Idealize.SL.Sem

variable {F : FTy → Type} [FloatOps F]

/-! ## The mesh: device `16 x + 4 y + z` -/

set_option backward.proofsInPublic true in
/-- The device `j + 1` places up the z axis. -/
def up (j : Fin 3) (c : Dev nD) : Dev nD := ⟨c.val / 4 * 4 + (c.val % 4 + j.val + 1) % 4, by have := c.isLt; simp only [nD] at *; omega⟩
set_option backward.proofsInPublic true in
/-- The device `j + 1` places down the z axis. -/
def dn (j : Fin 3) (c : Dev nD) : Dev nD := ⟨c.val / 4 * 4 + (c.val % 4 + 3 - j.val) % 4, by have := c.isLt; simp only [nD] at *; omega⟩
set_option backward.proofsInPublic true in
/-- The device across the x axis. -/
def xp (c : Dev nD) : Dev nD := ⟨(c.val + 16) % 32, by have := c.isLt; simp only [nD] at *; omega⟩
set_option backward.proofsInPublic true in
/-- The device's x coordinate: the half of the columns it exchanges along z. -/
def hx (c : Dev nD) : Fin 2 := ⟨c.val / 16, by have := c.isLt; simp only [nD] at *; omega⟩
/-- The other half. -/
def ot (h : Fin 2) : Fin 2 := 1 - h

theorem dn_up (j : Fin 3) (c : Dev nD) : dn j (up j c) = c := by revert j c; decide +kernel
theorem up_dn (j : Fin 3) (c : Dev nD) : up j (dn j c) = c := by revert j c; decide +kernel
theorem xp_xp (c : Dev nD) : xp (xp c) = c := by revert c; decide +kernel
theorem hx_up (j : Fin 3) (c : Dev nD) : hx (up j c) = hx c := by revert j c; decide +kernel
theorem hx_dn (j : Fin 3) (c : Dev nD) : hx (dn j c) = hx c := by revert j c; decide +kernel
theorem hx_xp (c : Dev nD) : hx (xp c) = ot (hx c) := by revert c; decide +kernel
theorem ot_ot (h : Fin 2) : ot (ot h) = h := by revert h; decide
theorem up_rev0 (c : Dev nD) : up 2 (up 0 c) = c := by revert c; decide +kernel
theorem up_rev1 (c : Dev nD) : up 1 (up 1 c) = c := by revert c; decide +kernel
theorem up_rev2 (c : Dev nD) : up 0 (up 2 c) = c := by revert c; decide +kernel

theorem dev1_eq (c : Dev nD) : (⟨k0_dev1 c, k0_dev1_lt c⟩ : Dev nD) = up 0 c := by revert c; decide +kernel
theorem dev2_eq (c : Dev nD) : (⟨k0_dev2 c, k0_dev2_lt c⟩ : Dev nD) = up 1 c := by revert c; decide +kernel
theorem dev3_eq (c : Dev nD) : (⟨k0_dev3 c, k0_dev3_lt c⟩ : Dev nD) = up 2 c := by revert c; decide +kernel
theorem dev4_eq (c : Dev nD) : (⟨k0_dev4 c, k0_dev4_lt c⟩ : Dev nD) = xp c := by revert c; decide +kernel
theorem dev5_eq (c : Dev nD) : (⟨k0_dev5 c, k0_dev5_lt c⟩ : Dev nD) = up 0 c := by revert c; decide +kernel
theorem dev6_eq (c : Dev nD) : (⟨k0_dev6 c, k0_dev6_lt c⟩ : Dev nD) = up 1 c := by revert c; decide +kernel
theorem dev7_eq (c : Dev nD) : (⟨k0_dev7 c, k0_dev7_lt c⟩ : Dev nD) = up 2 c := by revert c; decide +kernel
theorem dev8_eq (c : Dev nD) : (⟨k0_dev8 c, k0_dev8_lt c⟩ : Dev nD) = up 2 c := by revert c; decide +kernel
theorem dev9_eq (c : Dev nD) : (⟨k0_dev9 c, k0_dev9_lt c⟩ : Dev nD) = up 1 c := by revert c; decide +kernel
theorem dev10_eq (c : Dev nD) : (⟨k0_dev10 c, k0_dev10_lt c⟩ : Dev nD) = up 0 c := by revert c; decide +kernel
theorem dev11_eq (c : Dev nD) : (⟨k0_dev11 c, k0_dev11_lt c⟩ : Dev nD) = xp c := by revert c; decide +kernel
theorem dev12_eq (c : Dev nD) : (⟨k0_dev12 c, k0_dev12_lt c⟩ : Dev nD) = xp c := by revert c; decide +kernel
theorem dev13_eq (c : Dev nD) : (⟨k0_dev13 c, k0_dev13_lt c⟩ : Dev nD) = xp c := by revert c; decide +kernel

/-! ## Words -/

/-- The word of the device's z coordinate, as the kernel computes it. -/
def zw (c : Dev nD) : BitVec 32 := Scalar.remsi (Scalar.divsi (Dev.word c) 1#32) 4#32

/-- The divisor 4 as the kernel's remainder guards it. -/
def w4 : BitVec 32 := Scalar.select (Scalar.cmpi .eq 4#32 0#32) 1#32 4#32
/-- A remainder by `b` made non-negative: the correction's condition, -/
def rfix (r b : BitVec 32) : BitVec 1 := Scalar.andi (Scalar.xori (Scalar.cmpi .slt r 0#32) (Scalar.cmpi .slt b 0#32)) (Scalar.cmpi .ne r 0#32)
/-- and the corrected remainder. -/
def rmod (r b : BitVec 32) : BitVec 32 := Scalar.select (rfix r b) (Scalar.addi r b) r
/-- The remainder of `w + k`. -/
def radd (w k : BitVec 32) : BitVec 32 := Scalar.remsi (Scalar.addi w k) w4
/-- The remainder of `w - k`. -/
def rsub (w k : BitVec 32) : BitVec 32 := Scalar.remsi (Scalar.subi w k) w4
/-- Of four words, the one the source index `s` names. -/
def pick (s a0 a1 a2 a3 : BitVec 32) : BitVec 32 :=
  Scalar.select (Scalar.cmpi .eq s 3#32) a3 (Scalar.select (Scalar.cmpi .eq s 2#32) a2 (Scalar.select (Scalar.cmpi .eq s 1#32) a1 a0))

/-! ## What a device packs, from its rows' destinations `D` and its rows `X` -/

section Pack
variable (D : Vec F S2048 .i32)

/-- The packing key of each row: 560 times its destination, plus its rank among the block's rows of that destination. -/
def key : IVec S2048x1 32 :=
  let v73 := k0_pay3 D
  let v163 := k0_pay5 (F := F)
  let v180 := k0_pay9 (F := F) v73
  let v228 := k0_pay18 v73 v180
  k0_pay28 (k0_pay2 D) v73 v163 (k0_pay8 (F := F) v73) (k0_pay11 v73 v163 v180) (k0_pay14 v73 v163 v180) (k0_pay17 v73 v163 v180)
    (k0_pay20 v73 v163 v228) (k0_pay23 v73 v163 v228) (k0_pay26 v73 v163 v228) (k0_pay27 v73 v228)

end Pack

/-- The columns' indices of a 560-wide one-hot matrix. -/
def io : IVec S2048x560 32 := iota .tc S2048x560 32 [1] iota_S2048x560_d1_w32

/-- The left columns of the rows, -/
abbrev rLo : Rect S2048x1024 := Rect.unit (s := S2048x1024) ![0, 0] S2048x512.size inb_S2048x1024_S2048x512_0_0
/-- and the right ones. -/
abbrev rHi : Rect S2048x1024 := Rect.unit (s := S2048x1024) ![0, 512] S2048x512.size inb_S2048x1024_S2048x512_0_512
abbrev colLo (X : Vec F S2048x1024 .bf16) : Vec F S2048x512 .bf16 := fun i => X (rLo.emb i)
abbrev colHi (X : Vec F S2048x1024 .bf16) : Vec F S2048x512 .bf16 := fun i => X (rHi.emb i)

/-- Half `h` of the rows' columns. -/
def xbf (X : Vec F S2048x1024 .bf16) : Fin 2 → Vec F S1x2048x512 .bf16
  | 0 => k0_pay29 (colLo X)
  | 1 => k0_pay30 (colHi X)

/-- A chunk on its way: the same elements under the receive buffer's slab. -/
def asSlab (v : Vec F S1x560x512 .bf16) : Vec F S1x1x560x512 .bf16 := fun i =>
  v (Shape.reshapeEquiv (squeezes_S1x560x512_S560x512).numel_eq
    ((Shape.reshapeEquiv (squeezes_S1x1x560x512_S560x512).numel_eq).symm i))
/-- A count block under the receive buffer's slab. -/
def asCnt (v : Vec F S8x128 .i32) : Vec F S1x8x128 .i32 := fun i => v ((Shape.reshapeEquiv (squeezes_S1x8x128_S8x128).numel_eq).symm i)

/-! ## The contents, device by device -/

variable (D : Dev nD → Vec F S2048 .i32) (X : Dev nD → Vec F S2048x1024 .bf16)

/-- The chunk device `c` packs for the device `j + 1` up z: its half of the columns. -/
def sendV (c : Dev nD) : Fin 3 → Vec F S1x560x512 .bf16
  | 0 => k0_pay33 (zw c) (key (D c)) io (xbf (X c) (hx c))
  | 1 => k0_pay32 (key (D c)) io w4 (radd (zw c) 2#32) (xbf (X c) (hx c))
  | 2 => k0_pay31 (key (D c)) io (radd (zw c) 3#32) (rfix (radd (zw c) 3#32) w4) (Scalar.addi (radd (zw c) 3#32) w4) (xbf (X c) (hx c))

/-- The rows device `c` keeps, half `h`. -/
def keepV (c : Dev nD) : Fin 2 → Vec F S1x1x560x512 .bf16
  | 0 => k0_pay35 (zw c) (key (D c)) io (xbf (X c) 0)
  | 1 => k0_pay36 (zw c) (key (D c)) io (xbf (X c) 1)

/-- Device `c`'s row counts by destination. -/
def cntV (c : Dev nD) : Vec F S8x128 .i32 := k0_pay4 (D c)
/-- The counts it receives from `j + 1` down z. -/
def crV (c : Dev nD) (j : Fin 3) : Vec F S1x8x128 .i32 := asCnt (cntV D (dn j c))

/-- The chunk of device `c`'s own half that it receives from `j + 1` down z. -/
def rcvV (c : Dev nD) (j : Fin 3) : Vec F S1x1x560x512 .bf16 := asSlab (sendV D X (dn j c) j)

/-- The number of rows for device `c` that each source slot holds: 0 its own, `d` from `d` down z. -/
def len0 (c : Dev nD) : BitVec 32 := extractAt ![0, 0, 0] (k0_pay38 (zw c) (cntV D c)) inpos_S1x1x1_p0_0_0
def len1 (c : Dev nD) : BitVec 32 := extractAt ![0, 0, 0] (k0_pay39 (zw c) (crV D c 0)) inpos_S1x1x1_p0_0_0
def len2 (c : Dev nD) : BitVec 32 := extractAt ![0, 0, 0] (k0_pay40 (k0_pay37 (zw c)) (crV D c 1)) inpos_S1x1x1_p0_0_0
def len3 (c : Dev nD) : BitVec 32 := extractAt ![0, 0, 0] (k0_pay41 (k0_pay37 (zw c)) (crV D c 2)) inpos_S1x1x1_p0_0_0

/-- The slot of source `s`, as a word. -/
def slot (c : Dev nD) (k : BitVec 32) : BitVec 32 := rmod (rsub (zw c) k) w4
/-- The number of rows source `s` sends device `c`. -/
def slen (c : Dev nD) (k : BitVec 32) : BitVec 32 := pick (slot c k) (len0 D c) (len1 D c) (len2 D c) (len3 D c)

/-- Each output row's place among the four slots' rows. -/
def place (c : Dev nD) : IVec S2048x1 32 :=
  k0_pay42 (slot c 0#32) (slen D c 0#32) (slot c 1#32) (slen D c 1#32) (slot c 2#32) (slen D c 2#32)
    (rsub (zw c) 3#32) (rfix (rsub (zw c) 3#32) w4) (Scalar.addi (rsub (zw c) 3#32) w4)
/-- The one-hot matrix of the rows that come from the device's own slot, -/
def hot0 (c : Dev nD) : FVec F S2048x560 .bf16 :=
  k0_pay43 io (slot c 0#32) (slen D c 0#32) (slot c 1#32) (slen D c 1#32) (slot c 2#32) (slen D c 2#32)
    (rsub (zw c) 3#32) (rfix (rsub (zw c) 3#32) w4) (Scalar.addi (rsub (zw c) 3#32) w4)
/-- and of those from slot `j + 1`. -/
def hot (c : Dev nD) : Fin 3 → FVec F S2048x560 .bf16
  | 0 => k0_pay47 io (place D c)
  | 1 => k0_pay48 io (place D c)
  | 2 => k0_pay49 io (place D c)

/-- The rows from the own slot, half `h`; -/
def stg0V (c : Dev nD) : Fin 2 → Vec F S1x2048x512 .bf16
  | 0 => k0_pay45 (hot0 D c) (k0_pay44 (keepV D X c 0))
  | 1 => k0_pay46 (hot0 D c) (keepV D X c 1)
/-- with the first `j + 1` slots of the own half added, -/
def ownV (c : Dev nD) : Fin 3 → Vec F S1x2048x512 .bf16
  | 0 => k0_pay50 (hot D c 0) (stg0V D X c (hx c)) (rcvV D X c 0)
  | 1 => k0_pay51 (hot D c 1) (k0_pay50 (hot D c 0) (stg0V D X c (hx c)) (rcvV D X c 0)) (rcvV D X c 1)
  | 2 => k0_pay52 (hot D c 2) (k0_pay51 (hot D c 1) (k0_pay50 (hot D c 0) (stg0V D X c (hx c)) (rcvV D X c 0)) (rcvV D X c 1)) (rcvV D X c 2)
/-- and of the other half, from across x. -/
def peerV (c : Dev nD) : Fin 3 → Vec F S1x2048x512 .bf16
  | 0 => k0_pay53 (hot D c 0) (stg0V D X c (ot (hx c))) (rcvV D X (xp c) 0)
  | 1 => k0_pay54 (hot D c 1) (k0_pay53 (hot D c 0) (stg0V D X c (ot (hx c))) (rcvV D X (xp c) 0)) (rcvV D X (xp c) 1)
  | 2 => k0_pay55 (hot D c 2) (k0_pay54 (hot D c 1) (k0_pay53 (hot D c 0) (stg0V D X c (ot (hx c))) (rcvV D X (xp c) 0)) (rcvV D X (xp c) 1)) (rcvV D X (xp c) 2)
/-- Half `h` of the result, staged. -/
def finV (c : Dev nD) (h : Fin 2) : Vec F S1x2048x512 .bf16 := if h = hx c then ownV D X c 2 else peerV D X c 2

set_option backward.proofsInPublic true in
/-- The device's result: the left columns from the first half staged, the right ones from the second. -/
def outV (c : Dev nD) : Vec F S2048x1024 .bf16 := fun i =>
  if h : (i (1 : Fin 2)).val < 512 then k0_pay56 (finV D X c 0) (ValueIdx.ix2 (i (0 : Fin 2)) ⟨(i (1 : Fin 2)).val, h⟩)
  else k0_pay1 (finV D X c 1) (ValueIdx.ix2 (i (0 : Fin 2)) ⟨(i (1 : Fin 2)).val - 512, by have := ValueIdx.idx2_lt1 i; omega⟩)

end Cert.K01

end
-- ==== Proof.Own.lean ====
/-
Rules for memory held as slices of a memref: reading and writing through an access, a slice under a squeezed shape,
a slice that is the whole memref, and halving a share.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and this kernel's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- The TensorCore program `p` of device `c` ends in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` holds the elements of `m` at share `q`, reading `X`. -/
abbrev own (c : Dev nD) {sh : Shape} {e : EltTy} (m : Memref sig .tc .vmem sh e) (q : PosShare TreeShare) (X : sh.Idx → Elt F e) : sProp 𝕄 :=
  owns (Ix := Unit) (Name := ℕ) (U := UU) (Lvl := ℕ) (c : Thread nD τ) m q X

section Rules
variable (c : Dev nD) {sh : Shape} {e : EltTy} (m : Memref sig .tc .vmem sh e)

omit [FloatOps F] in
theorem own_unfold (q : PosShare TreeShare) (X : sh.Idx → Elt F e) :
    own c m q X ⊢ (iprop(∃ f, ⌜m.view.read (Elt F) f = X⌝ ∗ (m.view.loc (c : Thread nD τ) ↦[m.view.set]{q} f)) : sProp 𝕄) := .rfl
omit [FloatOps F] in
theorem own_fold (q : PosShare TreeShare) (X : sh.Idx → Elt F e) :
    (iprop(∃ f, ⌜m.view.read (Elt F) f = X⌝ ∗ (m.view.loc (c : Thread nD τ) ↦[m.view.set]{q} f)) : sProp 𝕄) ⊢ own c m q X := .rfl

/-- A load from a rectangle of a memref held at `X` reads `X` there. -/
theorem wp_load_sub {r : Rect sh} {hl : m.view.LoadsAt r.toLoadRect} {q : PosShare TreeShare} {X : sh.Idx → Elt F e}
    {α : Type} {Q : α → sProp 𝕄} {k : (r.shape.Idx → Elt F e) → Prog (TpuEff nD τ sig (Elt F) Λ₀ .tc) α} :
    own c m q X ⊢ iprop((own c m q X -∗ wpc c (k fun i => X (r.emb i)) Q) -∗ wpc c (.op (.load m r.toLoadRect hl) k) Q) := by
  iintro H Hk
  ihave H' := (own_unfold c m q X) $$ H
  icases H' with ⟨%f, %hf, H⟩
  iapply (wp_load_rect 𝒱₀ (c : Thread nD τ) none Set.univ (m := m) (r := r) (m.view.set_slice_subset r)) $$ H
  iintro H
  have : (m.access r).read (Elt F) f = fun i => X (r.emb i) := by rw [← hf]; rfl
  rw [this]
  iapply Hk
  iapply (own_fold c m q X)
  iexists f; isplitr; · ipureintro; exact hf
  iexact H

/-- A load from a slice held at `X` reads `X`. -/
theorem wp_load_at {off off' size : Fin sh.rank → Nat} {inb : ∀ a, off a + size a ≤ sh.size a} {inb' : ∀ a, off' a + size a ≤ sh.size a} {hs}
    (hoff : off = off') {hl : m.view.LoadsAt (Rect.unit (s := sh) off size inb).toLoadRect} {q : PosShare TreeShare}
    {X : (Rect.unit (s := sh) off' size inb').shape.Idx → Elt F e}
    {α : Type} {Q : α → sProp 𝕄} {k : ((Rect.unit (s := sh) off size inb).shape.Idx → Elt F e) → Prog (TpuEff nD τ sig (Elt F) Λ₀ .tc) α} :
    own c (m.slice (Rect.unit (s := sh) off' size inb') hs) q X
      ⊢ iprop((own c (m.slice (Rect.unit (s := sh) off' size inb') hs) q X -∗ wpc c (k X) Q)
        -∗ wpc c (.op (.load m (Rect.unit (s := sh) off size inb).toLoadRect hl) k) Q) := by
  subst hoff
  iintro H Hk
  ihave H' := (own_unfold c _ q X) $$ H
  icases H' with ⟨%f, %hf, H⟩
  iapply (wp_load_rect 𝒱₀ (c : Thread nD τ) none Set.univ (m := m) (r := Rect.unit (s := sh) off size inb) (Finset.Subset.refl _)) $$ H
  iintro H
  have : (m.access (Rect.unit (s := sh) off size inb)).read (Elt F) f = X := hf
  rw [this]
  iapply Hk
  iapply (own_fold c _ q X)
  iexists f; isplitr; · ipureintro; exact hf
  iexact H

/-- A store of `w` to a slice held whole leaves it at `w`. -/
theorem wp_store_at {off off' size : Fin sh.rank → Nat} {inb : ∀ a, off a + size a ≤ sh.size a} {inb' : ∀ a, off' a + size a ≤ sh.size a} {hs}
    (hoff : off = off') {w : (Rect.unit (s := sh) off size inb).shape.Idx → Elt F e}
    {hx : (m.access (Rect.unit (s := sh) off size inb)).Stores Finset.univ}
    {hm : (Finset.univ : Finset (Rect.unit (s := sh) off size inb).shape.Idx) = Finset.univ ∨ ∀ a, (Rect.unit (s := sh) off size inb).stride a = 1}
    {X : (Rect.unit (s := sh) off' size inb').shape.Idx → Elt F e}
    {α : Type} {Q : α → sProp 𝕄} {k : PUnit → Prog (TpuEff nD τ sig (Elt F) Λ₀ .tc) α} :
    own c (m.slice (Rect.unit (s := sh) off' size inb') hs) fullShare X
      ⊢ iprop((own c (m.slice (Rect.unit (s := sh) off' size inb') hs) fullShare w -∗ wpc c (k ⟨⟩) Q)
        -∗ wpc c (.op (.store m (Rect.unit (s := sh) off size inb) w Finset.univ hx hm) k) Q) := by
  subst hoff
  iintro H Hk
  ihave H' := (own_unfold c _ fullShare X) $$ H
  icases H' with ⟨%f, %hf, H⟩
  iapply (wp_store 𝒱₀ (c : Thread nD τ) none Set.univ (m := m) (r := Rect.unit (s := sh) off size inb) (Mk := Finset.univ)
      (S := (m.access (Rect.unit (s := sh) off size inb)).set) (Finset.Subset.refl _)) $$ H
  iintro H
  iapply Hk
  iapply (own_fold c _ fullShare w)
  iexists _; isplitr; swap; · iexact H
  ipureintro; exact View.read_write_univ _ _

variable (q : PosShare TreeShare)

omit [FloatOps F] in
/-- A memref held under a squeezed shape. -/
theorem own_squeeze {s' : Shape} (h : sh.Squeezes s') (X : sh.Idx → Elt F e) :
    own c (m.squeeze s' h) q (fun i => X (Shape.reshapeEquiv h.numel_eq i)) = own c m q X := by
  have hset : (m.squeeze s' h).view.set = m.view.set := View.set_reshape (v := m.view) h.numel_eq
  have h₁ : own c (m.squeeze s' h) q (fun i => X (Shape.reshapeEquiv h.numel_eq i)) ⊢ own c m q X := by
    iintro H
    ihave H' := (own_unfold c _ q _) $$ H
    icases H' with ⟨%f, %hf, H⟩
    iapply (own_fold c m q X)
    iexists f
    isplitr
    · ipureintro; funext i
      have := congrFun hf ((Shape.reshapeEquiv h.numel_eq).symm i)
      rw [Equiv.apply_symm_apply] at this
      rw [← this]
      show m.view.read (Elt F) f i = m.view.read (Elt F) f (Shape.reshapeEquiv h.numel_eq ((Shape.reshapeEquiv h.numel_eq).symm i))
      rw [Equiv.apply_symm_apply]
    · rw [← hset]; iexact H
  have h₂ : own c m q X ⊢ own c (m.squeeze s' h) q (fun i => X (Shape.reshapeEquiv h.numel_eq i)) := by
    iintro H
    ihave H' := (own_unfold c m q X) $$ H
    icases H' with ⟨%f, %hf, H⟩
    iapply (own_fold c (m.squeeze s' h) q _)
    iexists f
    isplitr
    · ipureintro; rw [← hf]; rfl
    · rw [hset]; iexact H
  exact BI.equiv_iff.mp ⟨h₁, h₂⟩

omit [FloatOps F] in
/-- A slice that is the whole memref. -/
theorem own_full {off : Fin sh.rank → Nat} (h0 : off = fun _ => 0) (inb : ∀ a, off a + sh.size a ≤ sh.size a) (hs) (X : sh.Idx → Elt F e) :
    own c (m.slice (Rect.unit (s := sh) off sh.size inb) hs) q X = own c m q X := by
  subst h0
  have hemb : ∀ i, (Rect.unit (s := sh) (fun _ => 0) sh.size inb).emb i = i := fun i => Rect.emb_whole_apply _ i
  have hset : (m.slice (Rect.unit (s := sh) (fun _ => 0) sh.size inb) hs).view.set = m.view.set := by
    ext x
    rw [View.set, View.set, Finset.mem_map, Finset.mem_map]
    constructor
    · rintro ⟨i, -, rfl⟩; exact ⟨i, Finset.mem_univ _, congrArg m.view.emb (hemb i).symm⟩
    · rintro ⟨i, -, rfl⟩; exact ⟨i, Finset.mem_univ _, congrArg m.view.emb (hemb i)⟩
  have hread (f) : (m.slice (Rect.unit (s := sh) (fun _ => 0) sh.size inb) hs).view.read (Elt F) f = m.view.read (Elt F) f := by
    funext i
    show m.view.read (Elt F) f ((Rect.unit (s := sh) (fun _ => 0) sh.size inb).emb i) = _
    rw [hemb]
  have h₁ : own c (m.slice (Rect.unit (s := sh) (fun _ => 0) sh.size inb) hs) q X ⊢ own c m q X := by
    iintro H
    ihave H' := (own_unfold c _ q X) $$ H
    icases H' with ⟨%f, %hf, H⟩
    iapply (own_fold c m q X)
    iexists f
    isplitr; · ipureintro; rw [← hread]; exact hf
    rw [← hset]; iexact H
  have h₂ : own c m q X ⊢ own c (m.slice (Rect.unit (s := sh) (fun _ => 0) sh.size inb) hs) q X := by
    iintro H
    ihave H' := (own_unfold c _ q X) $$ H
    icases H' with ⟨%f, %hf, H⟩
    iapply (own_fold c (m.slice _ hs) q X)
    iexists f
    isplitr; · ipureintro; rw [hread]; exact hf
    rw [hset]; iexact H
  exact BI.equiv_iff.mp ⟨h₁, h₂⟩

omit [FloatOps F] in
/-- A share halved, -/
theorem own_halve (X : sh.Idx → Elt F e) : own c m q X ⊢ iprop(own c m q.left X ∗ own c m q.right X) := by
  iintro H
  ihave H' := (own_unfold c m q X) $$ H
  icases H' with ⟨%f, %hf, H⟩
  ihave H2 := (pointsTo_share (PosShare.mem_left_op_right q)).1 $$ H
  icases H2 with ⟨H1, H2⟩
  isplitl [H1]
  · iapply (own_fold c m q.left X)
    iexists f; isplitr; · ipureintro; exact hf
    iexact H1
  · iapply (own_fold c m q.right X)
    iexists f; isplitr; · ipureintro; exact hf
    iexact H2

omit [FloatOps F] in
/-- and the halves joined. -/
theorem own_join (X : sh.Idx → Elt F e) : iprop(own c m q.left X ∗ own c m q.right X) ⊢ own c m q X := by
  iintro ⟨H1, H2⟩
  ihave H1' := (own_unfold c m q.left X) $$ H1
  icases H1' with ⟨%f, %hf, H1⟩
  ihave H2' := (own_unfold c m q.right X) $$ H2
  icases H2' with ⟨%g, %hg, H2⟩
  have e : (m.view.loc (c : Thread nD τ) ↦[m.view.set]{q.right} g : sProp 𝕄) = (m.view.loc (c : Thread nD τ) ↦[m.view.set]{q.right} f : sProp 𝕄) :=
    pointsTo_congr fun i hi => by
      rw [View.set, Finset.mem_map] at hi
      obtain ⟨x, -, rfl⟩ := hi
      have := congrFun (hg.trans hf.symm) x
      simp only [View.read] at this
      exact (cast_inj _).mp this
  ihave H2' := (Entails.of_eq e) $$ H2
  iapply (own_fold c m q X)
  iexists f; isplitr; · ipureintro; exact hf
  iapply (pointsTo_share (PosShare.mem_left_op_right q)).2
  isplitl [H1] <;> iassumption

end Rules

end Cert.K01

end
-- ==== Proof.Sched.lean ====
/-
The kernel's protocol. Every semaphore cell has one round: a barrier cell takes one unit from each of the three devices
of its z ring and from the device across x; each transfer cell takes one transfer's credit. What a device hands over
with each unit is its payload; the levels order the waits.
-/
module

public import proofs.«01_k».proof.Proof.Own

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers and their slabs -/

abbrev xM : Memref sig .tc .vmem S2048x1024 .bf16 := Memref.whole cc0_stg0_0
abbrev dM : Memref sig .tc .vmem S2048 .i32 := Memref.whole cc0_stg1_0
abbrev oM : Memref sig .tc .vmem S2048x1024 .bf16 := Memref.whole cc0_stg2_0
abbrev sendM : Memref sig .tc .vmem S3x560x512 .bf16 := Memref.whole cc0_scratch0
abbrev recvM : Memref sig .tc .vmem S4x2x560x512 .bf16 := Memref.whole cc0_scratch1
abbrev xbfM : Memref sig .tc .vmem S2x2048x512 .bf16 := Memref.whole cc0_scratch2
abbrev stgM : Memref sig .tc .vmem S2x2048x512 .bf16 := Memref.whole cc0_scratch3
abbrev csM : Memref sig .tc .vmem S8x128 .i32 := Memref.whole cc0_scratch4
abbrev crM : Memref sig .tc .vmem S3x8x128 .i32 := Memref.whole cc0_scratch5

set_option backward.proofsInPublic true in
theorem recv_inb (d : Fin 4) (h : Fin 2) : ∀ a, (![d.val, h.val, 0, 0] : Fin 4 → ℕ) a + S1x1x560x512.size a ≤ S4x2x560x512.size a := by
  revert d h; decide
theorem send_inb (j : Fin 3) : ∀ a, (![j.val, 0, 0] : Fin 3 → ℕ) a + S1x560x512.size a ≤ S3x560x512.size a := by
  revert j; decide
theorem cr_inb (j : Fin 3) : ∀ a, (![j.val, 0, 0] : Fin 3 → ℕ) a + S1x8x128.size a ≤ S3x8x128.size a := by
  revert j; decide
theorem half_inb (h : Fin 2) : ∀ a, (![h.val, 0, 0] : Fin 3 → ℕ) a + S1x2048x512.size a ≤ S2x2048x512.size a := by
  revert h; decide

/-- The receive buffer's slab of slot `d`, half `h`; -/
abbrev recvS (d : Fin 4) (h : Fin 2) : Memref sig .tc .vmem S1x1x560x512 .bf16 :=
  recvM.slice (Rect.unit (s := S4x2x560x512) ![d.val, h.val, 0, 0] S1x1x560x512.size (recv_inb d h)) (fun _ => rfl)
/-- the send buffer's chunk `j`; -/
abbrev sendS (j : Fin 3) : Memref sig .tc .vmem S1x560x512 .bf16 :=
  sendM.slice (Rect.unit (s := S3x560x512) ![j.val, 0, 0] S1x560x512.size (send_inb j)) (fun _ => rfl)
/-- the received counts of `j + 1` down z; -/
abbrev crS (j : Fin 3) : Memref sig .tc .vmem S1x8x128 .i32 :=
  crM.slice (Rect.unit (s := S3x8x128) ![j.val, 0, 0] S1x8x128.size (cr_inb j)) (fun _ => rfl)
/-- half `h` of the copied rows; -/
abbrev xbfS (h : Fin 2) : Memref sig .tc .vmem S1x2048x512 .bf16 :=
  xbfM.slice (Rect.unit (s := S2x2048x512) ![h.val, 0, 0] S1x2048x512.size (half_inb h)) (fun _ => rfl)
/-- half `h` of the staged result; -/
abbrev stgS (h : Fin 2) : Memref sig .tc .vmem S1x2048x512 .bf16 :=
  stgM.slice (Rect.unit (s := S2x2048x512) ![h.val, 0, 0] S1x2048x512.size (half_inb h)) (fun _ => rfl)
abbrev oLo : Memref sig .tc .vmem S2048x512 .bf16 := oM.slice rLo (fun _ => rfl)
abbrev oHi : Memref sig .tc .vmem S2048x512 .bf16 := oM.slice rHi (fun _ => rfl)

/-- The same slabs with their leading ones dropped, as the transfers name them. -/
abbrev recvQ (d : Fin 4) (h : Fin 2) : Memref sig .tc .vmem S560x512 .bf16 := (recvS d h).squeeze S560x512 squeezes_S1x1x560x512_S560x512
abbrev sendQ (j : Fin 3) : Memref sig .tc .vmem S560x512 .bf16 := (sendS j).squeeze S560x512 squeezes_S1x560x512_S560x512
abbrev crQ (j : Fin 3) : Memref sig .tc .vmem S8x128 .i32 := (crS j).squeeze S8x128 squeezes_S1x8x128_S8x128

/-! ## The cells -/

abbrev barS : Sem sig := (sig.barrier 0 rfl : Sem sig)
set_option backward.proofsInPublic true in
/-- The transfer semaphores, in the order of the kernel's arguments: z sends 0–2, z receives 3–5, x sends 6–8, x receives
    9–11, count sends 12–14, count receives 15–17. -/
def ds (k : Fin 18) : DmaSem sig := ⟨k.val + 3, by have := k.isLt; show k.val + 3 < 21; omega⟩

abbrev barCell (c : Dev nD) : GSem nD τ sig := ((c : Thread nD τ), .reg barS)
abbrev dcell (c : Dev nD) (k : Fin 18) : GSem nD τ sig := ((c : Thread nD τ), .dma (ds k))

theorem bar_sem : (SemArray.scalar barS : Sems sig S_).sem = barS := by decide

theorem ds_inj {k k' : Fin 18} (h : ds k = ds k') : k = k' := by
  have := congrArg Fin.val h; simp only [ds] at this; exact Fin.ext (by omega)

/-- A chunk's credit, and a count block's. -/
abbrev N : ℕ := (recvQ 0 0).view.dmaCredit
abbrev Nc : ℕ := (crQ 0).view.dmaCredit
/-- The credit of each cell's transfer. -/
def amt (k : Fin 18) : ℕ := if k.val < 12 then N else Nc

theorem N_recv (d h) : (recvQ d h).view.dmaCredit = N := rfl
theorem N_send (j) : (sendQ j).view.dmaCredit = N := rfl
theorem Nc_cr (j) : (crQ j).view.dmaCredit = Nc := rfl
theorem Nc_cs : (csM).view.dmaCredit = Nc := rfl

theorem N_pos : 0 < N := View.dmaCredit_pos _ (by decide)
theorem Nc_pos : 0 < Nc := View.dmaCredit_pos _ (by decide)
theorem amt_pos (k : Fin 18) : 0 < amt k := by unfold amt; split; exacts [N_pos, Nc_pos]

/-! ## What is handed over -/

/-- Device `c` holds the whole of `m`, whatever its contents. -/
abbrev ownAny (c : Dev nD) {sh : Shape} {e : EltTy} (m : Memref sig .tc .vmem sh e) : sProp 𝕄 := iprop(∃ Y, own c m fullShare Y)

/-- The three shares the count block is sent at. -/
def csq : Fin 3 → PosShare TreeShare
  | 0 => fullShare.left
  | 1 => fullShare.right.left
  | 2 => fullShare.right.right

variable (D : Dev nD → Vec F S2048 .i32) (X : Dev nD → Vec F S2048x1024 .bf16)

/-- With the unit that `up k d` gives device `d`'s barrier: the slab that `d` sends its chunk `k` to, and the count slab. With
    the unit from across x: the three slabs that `d` forwards to. -/
def barPay (d : Dev nD) : Fin 4 → sProp 𝕄
  | 0 => iprop(ownAny (up 0 d) (recvS 1 (hx d)) ∗ ownAny (up 0 d) (crS 0))
  | 1 => iprop(ownAny (up 1 d) (recvS 2 (hx d)) ∗ ownAny (up 1 d) (crS 1))
  | 2 => iprop(ownAny (up 2 d) (recvS 3 (hx d)) ∗ ownAny (up 2 d) (crS 2))
  | 3 => iprop(ownAny (xp d) (recvS 1 (hx d)) ∗ ownAny (xp d) (recvS 2 (hx d)) ∗ ownAny (xp d) (recvS 3 (hx d)))

abbrev zsPay (c : Dev nD) (j : Fin 3) : sProp 𝕄 := own c (sendS j) fullShare (sendV D X c j)
abbrev zrPay (c : Dev nD) (j : Fin 3) : sProp 𝕄 := own c (recvS j.succ (hx c)) fullShare (rcvV D X c j)
abbrev xsPay (c : Dev nD) (j : Fin 3) : sProp 𝕄 := own c (recvS j.succ (hx c)) fullShare.left (rcvV D X c j)
abbrev xrPay (c : Dev nD) (j : Fin 3) : sProp 𝕄 := own c (recvS j.succ (ot (hx c))) fullShare (rcvV D X (xp c) j)
abbrev csPay (c : Dev nD) (j : Fin 3) : sProp 𝕄 := own c csM (csq j) (cntV D c)
abbrev crPay (c : Dev nD) (j : Fin 3) : sProp 𝕄 := own c (crS j) fullShare (crV D c j)

/-- What the transfer crediting device `c`'s DMA semaphore `n` hands over. -/
def dmaPay (c : Dev nD) : ℕ → sProp 𝕄
  | 3 => zsPay D X c 0 | 4 => zsPay D X c 1 | 5 => zsPay D X c 2
  | 6 => zrPay D X c 0 | 7 => zrPay D X c 1 | 8 => zrPay D X c 2
  | 9 => xsPay D X c 0 | 10 => xsPay D X c 1 | 11 => xsPay D X c 2
  | 12 => xrPay D X c 0 | 13 => xrPay D X c 1 | 14 => xrPay D X c 2
  | 15 => csPay D c 0 | 16 => csPay D c 1 | 17 => csPay D c 2
  | 18 => crPay D c 0 | 19 => crPay D c 1 | 20 => crPay D c 2
  | _ => iprop(emp)

instance barPay_storable (d : Dev nD) (k : Fin 4) : BI.Storable (upEmb : UEmb _ 𝕄) (barPay (F := F) d k) := by
  unfold barPay; split <;> infer_instance
instance dmaPay_storable (c : Dev nD) (n : ℕ) : BI.Storable (upEmb : UEmb _ 𝕄) (dmaPay D X c n) := by
  unfold dmaPay; split <;> infer_instance

/-- One round, round 0. -/
def sched : Rounds.Schedule (GSem nD τ sig) (Fin 4) 𝕄 where
  duties g r := if r = 0 ∧ g.1.2 = .tc then (match g.2 with
    | .reg s => if s = barS then Finset.univ else ∅
    | .dma q => if 3 ≤ q.val then {0} else ∅) else ∅
  unitless _ := False
  amount g _ _ := match g.2 with
    | .reg _ => 1
    | .dma q => if q.val < 15 then N else Nc
  payload g _ d := match g.2 with
    | .reg _ => barPay g.1.1 d
    | .dma q => dmaPay D X g.1.1 q.val
  amount_pos g _ _ _ := by
    rcases g with ⟨_, s | q⟩
    · exact Nat.one_pos
    · dsimp only; split; exacts [N_pos, Nc_pos]

instance sched_storable (g : GSem nD τ sig) (r : ℕ) (d : Fin 4) :
    BI.Storable (upEmb : UEmb _ 𝕄) ((sched D X).payload g r d) := by
  rcases g with ⟨_, s | q⟩
  · exact barPay_storable _ _
  · exact dmaPay_storable D X _ _

section Tables
variable (c : Dev nD) (k : Fin 18)

theorem duties_bar : (sched D X).duties (barCell c) 0 = Finset.univ := by
  dsimp only [sched]; rw [if_pos ⟨rfl, rfl⟩, if_pos rfl]
theorem duties_dma : (sched D X).duties (dcell c k) 0 = {0} := by
  dsimp only [sched]; rw [if_pos ⟨rfl, rfl⟩, if_pos (show 3 ≤ (ds k).val from Nat.le_add_left 3 k.val)]
theorem duties_later (g : GSem nD τ sig) : ∀ r, 1 ≤ r → (sched D X).duties g r = ∅ :=
  fun r hr => by dsimp only [sched]; rw [if_neg fun h => by omega]
theorem amount_bar (d : Fin 4) : (sched D X).amount (barCell c) 0 d = 1 := rfl
theorem amount_dma (d : Fin 4) : (sched D X).amount (dcell c k) 0 d = amt k := by
  show (if k.val + 3 < 15 then N else Nc) = if k.val < 12 then N else Nc
  by_cases h : k.val < 12
  · rw [if_pos h, if_pos (by omega)]
  · rw [if_neg h, if_neg (by omega)]
theorem expect_bar : (sched D X).expect (barCell c) 0 = 4 := by
  unfold Schedule.expect Schedule.amountOf
  rw [duties_bar, Finset.sum_congr rfl fun d _ => amount_bar D X c d, Finset.sum_const, Finset.card_univ, Fintype.card_fin, smul_eq_mul]
theorem expect_dma : (sched D X).expect (dcell c k) 0 = amt k := by
  unfold Schedule.expect Schedule.amountOf; rw [duties_dma, Finset.sum_singleton, amount_dma]
theorem payload_bar (d : Fin 4) : (sched D X).payload (barCell c) 0 d = barPay c d := rfl
theorem payload_dma (d : Fin 4) : (sched D X).payload (dcell c k) 0 d = dmaPay D X c (ds k).val := rfl
theorem rest_bar : bigSep ((sched D X).duties (barCell c) 0 \ ∅) (fun d => (sched D X).payload (barCell c) 0 d)
    = iprop(barPay c 0 ∗ barPay c 1 ∗ barPay c 2 ∗ barPay c 3) := by
  rw [Finset.sdiff_empty, duties_bar, bigSep_univ_eq_bigSepL [0, 1, 2, 3] (by decide) (by decide)]; rfl
theorem rest_dma : bigSep ((sched D X).duties (dcell c k) 0 \ ∅) (fun d => (sched D X).payload (dcell c k) 0 d) = dmaPay D X c (ds k).val := by
  rw [Finset.sdiff_empty, duties_dma, bigSep_singleton, payload_dma]

end Tables

/-! ## What each core owes, step by step backwards, and the levels -/

section Owed
variable (c : Dev nD)

abbrev zr (j : Fin 3) : Fin 18 := ⟨j.val + 3, by omega⟩
abbrev zs (j : Fin 3) : Fin 18 := ⟨j.val, by omega⟩
abbrev xs (j : Fin 3) : Fin 18 := ⟨j.val + 6, by omega⟩
abbrev xr (j : Fin 3) : Fin 18 := ⟨j.val + 9, by omega⟩
abbrev cs (j : Fin 3) : Fin 18 := ⟨j.val + 12, by omega⟩
abbrev cr (j : Fin 3) : Fin 18 := ⟨j.val + 15, by omega⟩

def oX2 : CellTallies nD τ sig Unit := 0 + tallyAt (dcell (xp c) 11) () N
def oX1 : CellTallies nD τ sig Unit := oX2 c + tallyAt (dcell (xp c) 10) () N
def oX0 : CellTallies nD τ sig Unit := oX1 c + tallyAt (dcell (xp c) 9) () N
def oZ0 : CellTallies nD τ sig Unit := oX0 c + tallyAt (dcell (up 0 c) 3) () N
def oZ1 : CellTallies nD τ sig Unit := oZ0 c + tallyAt (dcell (up 1 c) 4) () N
def oZ2 : CellTallies nD τ sig Unit := oZ1 c + tallyAt (dcell (up 2 c) 5) () N
def oC2 : CellTallies nD τ sig Unit := oZ2 c + tallyAt (dcell (up 2 c) 17) () Nc
def oC1 : CellTallies nD τ sig Unit := oC2 c + tallyAt (dcell (up 1 c) 16) () Nc
def oC0 : CellTallies nD τ sig Unit := oC1 c + tallyAt (dcell (up 0 c) 15) () Nc
def oB3 : CellTallies nD τ sig Unit := oC0 c + tallyAt (barCell (xp c)) () 1
def oB2 : CellTallies nD τ sig Unit := oB3 c + tallyAt (barCell (up 2 c)) () 1
def oB1 : CellTallies nD τ sig Unit := oB2 c + tallyAt (barCell (up 1 c)) () 1
def O₀ : CellTallies nD τ sig Unit := oB1 c + tallyAt (barCell (up 0 c)) () 1

end Owed

def L (g : GSem nD τ sig) : Finset Unit := if g.1.2 = .tc then {()} else ∅
/-- A transfer semaphore's level: x receives 3, z and count receives 2, the rest 0. -/
def lvd (n : ℕ) : ℕ := if 12 ≤ n ∧ n < 15 then 3 else if (6 ≤ n ∧ n < 9) ∨ 18 ≤ n then 2 else 0
def lv (g : GSem nD τ sig) (_ : Unit) : ℕ := match g.2 with
  | .reg _ => 1
  | .dma q => lvd q.val

theorem L_of_ne (g : GSem nD τ sig) (h : g.1.2 ≠ .tc) : L g = ∅ := if_neg h
theorem L_tc (c : Dev nD) (sm : SemLoc sig) : L ((c : Thread nD τ), sm) = {()} := if_pos rfl

/-- Everything `O` owes lies on TensorCores' cells above level `b`. -/
def Above (b : ℕ) (O : CellTallies nD τ sig Unit) : Prop := ∀ g u, 0 < O g u → g.1.2 = .tc ∧ b < lv g u

theorem Above.zero (b : ℕ) : Above b 0 := fun g u h => absurd h (Nat.lt_irrefl 0)
theorem Above.add {b : ℕ} {O : CellTallies nD τ sig Unit} (hO : Above b O) {d : Dev nD} {sm : SemLoc sig} (n : ℕ)
    (h : b < lv ((d : Thread nD τ), sm) ()) : Above b (O + tallyAt ((d : Thread nD τ), sm) () n) := fun g u hg => by
  rw [Pi.add_apply, Finsupp.add_apply, tallyAt_apply] at hg
  by_cases hc : g = ((d : Thread nD τ), sm) ∧ u = ()
  · rw [hc.1]; exact ⟨rfl, h⟩
  · rw [if_neg hc, Nat.add_zero] at hg; exact hO g u hg

section Levels
variable (c : Dev nD) (b : ℕ)
theorem above_X2 (h : b < 3) : Above b (oX2 c) := (Above.zero b).add _ h
theorem above_X1 (h : b < 3) : Above b (oX1 c) := (above_X2 c b h).add _ h
theorem above_X0 (h : b < 3) : Above b (oX0 c) := (above_X1 c b h).add _ h
theorem above_C0 (h : b < 2) : Above b (oC0 c) :=
  by
    unfold oC0 oC1 oC2 oZ2 oZ1 oZ0
    iterate 6 refine Above.add ?_ _ h
    exact above_X0 c b (by omega)
theorem above_O (h : b < 1) : Above b (O₀ c) :=
  by
    unfold O₀ oB1 oB2 oB3
    iterate 4 refine Above.add ?_ _ h
    exact above_C0 c b (by omega)
end Levels

theorem mayWait_of (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.K01

end
-- ==== Proof.Ops.lean ====
/-
The steps of the protocol: a barrier signal, the barrier wait, a transfer's start and a transfer semaphore's wait, each
against the records that every device shares.
-/
module

public import proofs.«01_k».proof.Proof.Sched

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Dev nD → Vec F S2048 .i32) (X : Dev nD → Vec F S2048x1024 .bf16)

/-- A device's cells: its barrier and its transfer semaphores. -/
abbrev csem : Option (Fin 18) → SemLoc sig
  | none => .reg barS
  | some k => .dma (ds k)
abbrev kcell (p : Dev nD × Option (Fin 18)) : GSem nD τ sig := ((p.1 : Thread nD τ), csem p.2)

/-- What every device knows of all cells: the invariants, under the names `K` the launch chose, that round 0 is reached,
    and the levels. -/
def Ctx (K : Dev nD × Option (Fin 18) → ℕ) : sProp 𝕄 :=
  iprop((bigSep Finset.univ fun p : Dev nD × Option (Fin 18) => cellInv ER (sched D X) (K p) (kcell p))
    ∗ (bigSep Finset.univ fun p : Dev nD × Option (Fin 18) => reached ER (kcell p) 0) ∗ (levAts L lv : sProp 𝕄))

instance Ctx_persistent (K : Dev nD × Option (Fin 18) → ℕ) : BI.Persistent (Ctx D X K) := by unfold Ctx; infer_instance

variable (K : Dev nD × Option (Fin 18) → ℕ)

theorem Ctx_inv (p : Dev nD × Option (Fin 18)) : Ctx D X K ⊢ cellInv ER (sched D X) (K p) (kcell p) := by
  unfold Ctx; iintro ⟨H, -, -⟩
  iapply (show (bigSep Finset.univ fun p : Dev nD × Option (Fin 18) => (cellInv ER (sched D X) (K p) (kcell p) : sProp 𝕄))
    ⊢ cellInv ER (sched D X) (K p) (kcell p) from bigSep_elim (Finset.mem_univ p)) $$ H
theorem Ctx_reached (p : Dev nD × Option (Fin 18)) : Ctx D X K ⊢ (reached ER (kcell p) 0 : sProp 𝕄) := by
  unfold Ctx; iintro ⟨-, H, -⟩
  iapply (show (bigSep Finset.univ fun p : Dev nD × Option (Fin 18) => (reached ER (kcell p) 0 : sProp 𝕄))
    ⊢ reached ER (kcell p) 0 from bigSep_elim (Finset.mem_univ p)) $$ H
theorem Ctx_may (c : Dev nD) (sm : SemLoc sig) {O : CellTallies nD τ sig Unit} (h : Above (lv ((c : Thread nD τ), sm) ()) O) :
    Ctx D X K ⊢ MayWait (c : Thread nD τ) sm () O := by
  unfold Ctx; iintro ⟨-, -, H⟩; iapply (mayWait_of c sm h) $$ H

/-- What device `c` owes, whatever waits it has recorded. -/
def owing (c : Dev nD) (O : CellTallies nD τ sig Unit) : sProp 𝕄 := iprop(∃ W, owes (c : Thread nD τ) O W)

/-- Device `c` may wait for cell `k`'s one transfer. -/
def exp (c : Dev nD) (k : Fin 18) : sProp 𝕄 := iprop(atPos ER (dcell c k) 0 ∅ 0 ∗ cred (tallyAt (dcell c k) () (amt k)))
/-- Device `c` may start the transfer crediting its own cell `k` and cell `k'` of device `c'`. -/
def can (c : Dev nD) (k : Fin 18) (c' : Dev nD) (k' : Fin 18) : sProp 𝕄 :=
  iprop(atPos ER (dcell c k) 0 ∅ 0 ∗ dutyTok ER (dcell c k) 0 0 ∗ dutyTok ER (dcell c' k') 0 0)

/-- A signal to device `d`'s barrier, paying duty `j`. -/
theorem op_signal (c d n : Dev nD) (hn : n = d) (j : Fin 4) {O O' : CellTallies nD τ sig Unit} (hO : O = O' + tallyAt (barCell d) () 1)
    {s : Sem sig} (hs : s = barS) {w : ℕ} (hw : w = 1)
    {α : Type} {Q : α → sProp 𝕄} {k : PUnit → Prog (TpuEff nD τ sig (Elt F) Λ₀ .tc) α} :
    iprop(Ctx D X K ∗ owing c O ∗ dutyTok ER (barCell d) 0 j ∗ barPay d j)
      ⊢ iprop((owing c O' -∗ wpc c (k ⟨⟩) Q) -∗ wpc c (.op (.semSignal (n : Thread nD τ) s w) k) Q) := by
  subst hn hs hw
  unfold owing
  iintro ⟨#HC, ⟨%W, HO⟩, Ht, Hp⟩ Hk
  iapply (Rounds.wp_signal 𝒱₀ ER (sched D X) (c : Thread nD τ) none (dst := (n : Thread nD τ)) (κ := K (n, none))
      (d := j) (by rw [duties_bar]; exact Finset.mem_univ _) (amount_bar D X n j) () O' hO) $$ [HO Ht Hp]
  · isplitr; · iapply (Ctx_inv D X K (n, none)); iexact HC
    isplitl [HO]; · iexact HO
    isplitl [Ht]; · iexact Ht
    isplitl [Hp]; · rw [payload_bar]; iexact Hp
    iapply (Ctx_reached D X K (n, none)); iexact HC
  iintro HO
  iapply Hk; iexists W; iexact HO

/-- The wait for the barrier's four units: what the four devices handed over, and the cell closed. -/
theorem op_barrier (c : Dev nD) {O : CellTallies nD τ sig Unit} (hO : Above 1 O)
    {s : Sem sig} (hs : s = barS) {w : ℕ} (hw : w = 4)
    {α : Type} {Q : α → sProp 𝕄} {k : PUnit → Prog (TpuEff nD τ sig (Elt F) Λ₀ .tc) α} :
    iprop(Ctx D X K ∗ owing c O ∗ atPos ER (barCell c) 0 ∅ 0 ∗ cred (tallyAt (barCell c) () 4))
      ⊢ iprop((iprop(owing c O ∗ semVal (barCell c) 0 ∗ barPay c 0 ∗ barPay c 1 ∗ barPay c 2 ∗ barPay c 3) -∗ wpc c (k ⟨⟩) Q)
          -∗ wpc c (.op (.semWait s w) k) Q) := by
  subst hs hw
  unfold owing
  iintro ⟨#HC, ⟨%W, HO⟩, Hat, Hcr⟩ Hk
  iapply (Rounds.wp_wait_rest_token 𝒱₀ ER (sched D X) (c : Thread nD τ) none (κ := K (c, none))
      (wpE_semWait_eq 𝒱₀ (c : Thread nD τ) none Set.univ) (Set.mem_univ _) () (O := O) (W := W) (R := 0) (m := 0) (T := ∅)
      (by rw [expect_bar])) $$ [Hcr HO Hat]
  · isplitr; · iapply (Ctx_inv D X K (c, none)); iexact HC
    isplitl [Hcr]; · iexact Hcr
    isplitl [HO]; · iexact HO
    isplitr; · iapply (Ctx_may D X K c (.reg barS) hO); iexact HC
    iexact Hat
  iintro ⟨HO, Hat, -, Hpay⟩
  ihave Hp := (Entails.of_eq (rest_bar D X c)) $$ Hpay
  imod (Rounds.cell_close ER (sched D X) (Set.mem_univ (K (c, none))) (fun h => h) (R := 0 + 1) (duties_later D X (barCell c))) $$ [Hat] with Hz
  · isplitr; · iapply (Ctx_inv D X K (c, none)); iexact HC
    iexact Hat
  iapply Hk
  isplitl [HO]; · iexists _; iexact HO
  isplitl [Hz]; · iexact Hz
  iexact Hp

/-- The wait for cell `k`'s transfer: what it handed over, and the cell closed. -/
theorem op_wait (c : Dev nD) (k : Fin 18) {O : CellTallies nD τ sig Unit} (hO : Above (lvd (k.val + 3)) O)
    {sm : DmaSem sig} (hs : sm = ds k) {sp sp' : Space} {sh sh' : Shape} {e e' : EltTy}
    {src : Memref sig .tc sp sh e} {dst : Memref sig .tc sp' sh' e'} {h₁ h₂} (hN : dst.view.dmaCredit = amt k)
    {P : sProp 𝕄} (hP : dmaPay D X c (ds k).val = P)
    {α : Type} {Q : α → sProp 𝕄} {kk : PUnit → Prog (TpuEff nD τ sig (Elt F) Λ₀ .tc) α} :
    iprop(Ctx D X K ∗ owing c O ∗ exp c k)
      ⊢ iprop((iprop(owing c O ∗ semVal (dcell c k) 0 ∗ P) -∗ wpc c (kk ⟨⟩) Q)
          -∗ wpc c (.op (.waitDma2 sm src dst h₁ h₂) kk) Q) := by
  subst hs hP
  unfold owing exp
  iintro ⟨#HC, ⟨%W, HO⟩, Hat, Hcr⟩ Hk
  iapply (Rounds.wp_wait_rest_token 𝒱₀ ER (sched D X) (c : Thread nD τ) none (κ := K (c, some k))
      (wpE_waitDma2_eq 𝒱₀ (c : Thread nD τ) none Set.univ) (Set.mem_univ _) () (O := O) (W := W) (R := 0) (m := 0) (T := ∅)
      (by rw [expect_dma, Nat.zero_add, hN])) $$ [Hcr HO Hat]
  · isplitr; · iapply (Ctx_inv D X K (c, some k)); iexact HC
    isplitl [Hcr]; · rw [hN]; iexact Hcr
    isplitl [HO]; · iexact HO
    isplitr; · iapply (Ctx_may D X K c (.dma (ds k)) hO); iexact HC
    iexact Hat
  iintro ⟨HO, Hat, -, Hpay⟩
  ihave Hp := (Entails.of_eq (rest_dma D X c k)) $$ Hpay
  imod (Rounds.cell_close ER (sched D X) (Set.mem_univ (K (c, some k))) (fun h => h) (R := 0 + 1) (duties_later D X (dcell c k))) $$ [Hat] with Hz
  · isplitr; · iapply (Ctx_inv D X K (c, some k)); iexact HC
    iexact Hat
  iapply Hk
  isplitl [HO]; · iexists _; iexact HO
  isplitl [Hz]; · iexact Hz
  iexact Hp

/-- The start of a transfer from `src` into `dst` of device `c'`: cell `k` here is paid with the source, cell `k'` there
    with the destination holding what the source held. -/
theorem op_send (c c' n : Dev nD) (hn : n = c') (k k' : Fin 18) {sS sR : DmaSem sig} (hS : sS = ds k) (hR : sR = ds k')
    {sh : Shape} {e : EltTy} {src dst : Memref sig .tc .vmem sh e} {hsc hsrc hdst hsem}
    (q : PosShare TreeShare) (V : sh.Idx → Elt F e)
    {O O' : CellTallies nD τ sig Unit} (hO : O = O' + tallyAt (dcell c' k') () (amt k')) (hk : amt k = amt k')
    (hN : dst.view.amount (.dma (ds k')) = amt k')
    (hp₁ : own c src q V ⊢ dmaPay D X c (ds k).val) (hp₂ : own c' dst fullShare V ⊢ dmaPay D X c' (ds k').val)
    {α : Type} {Q : α → sProp 𝕄} {kk : PUnit → Prog (TpuEff nD τ sig (Elt F) Λ₀ .tc) α} :
    iprop(Ctx D X K ∗ owing c O ∗ can c k c' k' ∗ own c src q V ∗ ownAny c' dst)
      ⊢ iprop((iprop(owing c O' ∗ exp c k) -∗ wpc c (kk ⟨⟩) Q)
          -∗ wpc c (.op (.enqueueDma src (.remote (Dev.tc n : Thread nD τ) dst (.dma sS) hsc) (.dma sR) hsrc hdst hsem) kk) Q) := by
  subst hn hS hR
  unfold owing exp can ownAny
  iintro ⟨#HC, ⟨%W, HO⟩, ⟨Hat, HtS, HtR⟩, Hs, ⟨%Y, Hd⟩⟩ Hk
  ihave Hs' := (own_unfold c src q V) $$ Hs
  icases Hs' with ⟨%fs, %hfs, Hs⟩
  ihave Hd' := (own_unfold n dst fullShare Y) $$ Hd
  icases Hd' with ⟨%fd, %hfd, Hd⟩
  iapply (Rounds.wp_send_pointsTo 𝒱₀ ER (sched D X) (c : Thread nD τ) none (κ₁ := K (c, some k)) (κ₂ := K (n, some k'))
    (r₁ := 0) (r₂ := 0) (d₁ := 0) (d₂ := 0) (fd := fd) (fs := fs)
    (by rw [duties_dma]; exact Finset.mem_singleton_self _) (by rw [duties_dma]; exact Finset.mem_singleton_self _)
    () () (amt k') hN ((amount_dma D X c k 0).trans hk) (amount_dma D X n k' 0) O' hO (W := W)
    (by rw [payload_dma]; refine BIBase.Entails.trans ?_ hp₁; subst hfs; exact owns_intro _ _ _ _)
    (by
      rw [payload_dma]; refine BIBase.Entails.trans ?_ hp₂
      refine (owns_intro (n : Thread nD τ) dst fullShare _).trans (Entails.of_eq ?_)
      rw [View.read_write_univ, hfs])) $$ [HO HtS HtR Hs Hd]
  · isplitr; · iapply (Ctx_inv D X K (c, some k)); iexact HC
    isplitr; · iapply (Ctx_inv D X K (n, some k')); iexact HC
    isplitl [Hs]; · iexact Hs
    isplitl [Hd]; · iexact Hd
    isplitl [HO]; · iexact HO
    isplitl [HtS]; · iexact HtS
    isplitr; · iapply (Ctx_reached D X K (c, some k)); iexact HC
    isplitl [HtR]; · iexact HtR
    iapply (Ctx_reached D X K (n, some k')); iexact HC
  iintro ⟨Hcr, HO⟩
  iapply Hk
  isplitl [HO]; · iexists _; iexact HO
  isplitl [Hat]; · iexact Hat
  rw [hk]; iexact Hcr

/-! ## The payloads, cell by cell -/

section Pays
variable (c : Dev nD) (j : Fin 3)
theorem pay_zs : dmaPay D X c (ds (zs j)).val = zsPay D X c j := by fin_cases j <;> rfl
theorem pay_zr : dmaPay D X c (ds (zr j)).val = zrPay D X c j := by fin_cases j <;> rfl
theorem pay_xs : dmaPay D X c (ds (xs j)).val = xsPay D X c j := by fin_cases j <;> rfl
theorem pay_xr : dmaPay D X c (ds (xr j)).val = xrPay D X c j := by fin_cases j <;> rfl
theorem pay_cs : dmaPay D X c (ds (cs j)).val = csPay D c j := by fin_cases j <;> rfl
theorem pay_cr : dmaPay D X c (ds (cr j)).val = crPay D c j := by fin_cases j <;> rfl

theorem amt_zs : amt (zs j) = N := by fin_cases j <;> rfl
theorem amt_zr : amt (zr j) = N := by fin_cases j <;> rfl
theorem amt_xs : amt (xs j) = N := by fin_cases j <;> rfl
theorem amt_xr : amt (xr j) = N := by fin_cases j <;> rfl
theorem amt_cs : amt (cs j) = Nc := by fin_cases j <;> rfl
theorem amt_cr : amt (cr j) = Nc := by fin_cases j <;> rfl

/-- What device `c` hands each of the four it signals. -/
theorem barPay_up0 : barPay (F := F) (up 0 c) 2 = iprop(ownAny c (recvS 3 (hx c)) ∗ ownAny c (crS 2)) := by
  unfold barPay; dsimp only; rw [up_rev0, hx_up]
theorem barPay_up1 : barPay (F := F) (up 1 c) 1 = iprop(ownAny c (recvS 2 (hx c)) ∗ ownAny c (crS 1)) := by
  unfold barPay; dsimp only; rw [up_rev1, hx_up]
theorem barPay_up2 : barPay (F := F) (up 2 c) 0 = iprop(ownAny c (recvS 1 (hx c)) ∗ ownAny c (crS 0)) := by
  unfold barPay; dsimp only; rw [up_rev2, hx_up]
theorem barPay_xp : barPay (F := F) (xp c) 3
    = iprop(ownAny c (recvS 1 (ot (hx c))) ∗ ownAny c (recvS 2 (ot (hx c))) ∗ ownAny c (recvS 3 (ot (hx c)))) := by
  unfold barPay; dsimp only; rw [xp_xp, hx_xp]

/-- A slab of the receive buffer at the offset the kernel computes. -/
abbrev slabAt (off : Fin 4 → ℕ) (inb : ∀ a, off a + S1x1x560x512.size a ≤ S4x2x560x512.size a) : Memref sig .tc .vmem S560x512 .bf16 :=
  (recvM.slice (Rect.unit (s := S4x2x560x512) off S1x1x560x512.size inb) (fun _ => rfl)).squeeze S560x512 squeezes_S1x1x560x512_S560x512

variable (D : Dev nD → Vec F S2048 .i32) (X : Dev nD → Vec F S2048x1024 .bf16)

theorem asSlab_squeezed (v : Vec F S1x560x512 .bf16) (i : S560x512.Idx) :
    asSlab v (Shape.reshapeEquiv squeezes_S1x1x560x512_S560x512.numel_eq i) = v (Shape.reshapeEquiv squeezes_S1x560x512_S560x512.numel_eq i) := by
  unfold asSlab; rw [Equiv.symm_apply_apply]
theorem asCnt_squeezed (v : Vec F S8x128 .i32) (i : S8x128.Idx) :
    asCnt v (Shape.reshapeEquiv squeezes_S1x8x128_S8x128.numel_eq i) = v i := by
  unfold asCnt; rw [Equiv.symm_apply_apply]

/-- Chunk `j` starts up the z axis. -/
theorem op_send_z (n : Dev nD) (hn : n = up j c) {off : Fin 4 → ℕ} (hoff : off = ![j.succ.val, (hx c).val, 0, 0]) {inb}
    {sS sR : DmaSem sig} (hS : sS = ds (zs j)) (hR : sR = ds (zr j)) {hsc hsrc hdst hsem}
    {O O' : CellTallies nD τ sig Unit} (hO : O = O' + tallyAt (dcell (up j c) (zr j)) () N)
    {α : Type} {Q : α → sProp 𝕄} {kk : PUnit → Prog (TpuEff nD τ sig (Elt F) Λ₀ .tc) α} :
    iprop(Ctx D X K ∗ owing c O ∗ can c (zs j) (up j c) (zr j) ∗ own c (sendS j) fullShare (sendV D X c j) ∗ ownAny (up j c) (recvS j.succ (hx c)))
      ⊢ iprop((iprop(owing c O' ∗ exp c (zs j)) -∗ wpc c (kk ⟨⟩) Q)
          -∗ wpc c (.op (.enqueueDma (sendQ j) (.remote (Dev.tc n : Thread nD τ) (slabAt off inb) (.dma sS) hsc) (.dma sR) hsrc hdst hsem) kk) Q) := by
  subst hoff
  refine BIBase.Entails.trans ?_ (op_send D X K c (up j c) n hn (zs j) (zr j) hS hR fullShare
    (fun i => sendV D X c j (Shape.reshapeEquiv squeezes_S1x560x512_S560x512.numel_eq i)) (hO.trans (by rw [amt_zr])) ((amt_zs j).trans (amt_zr j).symm)
    ((N_recv j.succ (hx c)).trans (amt_zr j).symm) ?_ ?_)
  · iintro ⟨HC, HO, Hcan, Hs, ⟨%Y, Hd⟩⟩
    isplitl [HC]; · iexact HC
    isplitl [HO]; · iexact HO
    isplitl [Hcan]; · iexact Hcan
    isplitl [Hs]; · iapply (Entails.of_eq (own_squeeze c (sendS j) fullShare _ _).symm) $$ Hs
    iexists _; iapply (Entails.of_eq (own_squeeze (up j c) (recvS j.succ (hx c)) fullShare _ Y).symm) $$ Hd
  · rw [pay_zs]; exact Entails.of_eq (own_squeeze c (sendS j) fullShare _ _)
  · rw [pay_zr]
    show own (up j c) (recvQ j.succ (hx c)) fullShare _ ⊢ own (up j c) (recvS j.succ (hx (up j c))) fullShare (asSlab (sendV D X (dn j (up j c)) j))
    rw [dn_up, hx_up, ← own_squeeze (up j c) (recvS j.succ (hx c)) fullShare squeezes_S1x1x560x512_S560x512]
    simp only [asSlab_squeezed]
    exact .rfl

/-- Slot `j + 1` of the own half is forwarded across x, from half of its share. -/
theorem op_send_x (n : Dev nD) (hn : n = xp c) {off : Fin 4 → ℕ} (hoff : off = ![j.succ.val, (hx c).val, 0, 0]) {inb inb'}
    {sS sR : DmaSem sig} (hS : sS = ds (xs j)) (hR : sR = ds (xr j)) {hsc hsrc hdst hsem}
    {O O' : CellTallies nD τ sig Unit} (hO : O = O' + tallyAt (dcell (xp c) (xr j)) () N)
    {α : Type} {Q : α → sProp 𝕄} {kk : PUnit → Prog (TpuEff nD τ sig (Elt F) Λ₀ .tc) α} :
    iprop(Ctx D X K ∗ owing c O ∗ can c (xs j) (xp c) (xr j) ∗ xsPay D X c j ∗ ownAny (xp c) (recvS j.succ (hx c)))
      ⊢ iprop((iprop(owing c O' ∗ exp c (xs j)) -∗ wpc c (kk ⟨⟩) Q)
          -∗ wpc c (.op (.enqueueDma (slabAt off inb) (.remote (Dev.tc n : Thread nD τ) (slabAt off inb') (.dma sS) hsc) (.dma sR) hsrc hdst hsem) kk) Q) := by
  subst hoff
  refine BIBase.Entails.trans ?_ (op_send D X K c (xp c) n hn (xs j) (xr j) hS hR fullShare.left
    (fun i => rcvV D X c j (Shape.reshapeEquiv squeezes_S1x1x560x512_S560x512.numel_eq i)) (hO.trans (by rw [amt_xr])) ((amt_xs j).trans (amt_xr j).symm)
    ((N_recv j.succ (hx c)).trans (amt_xr j).symm) ?_ ?_)
  · iintro ⟨HC, HO, Hcan, Hs, ⟨%Y, Hd⟩⟩
    isplitl [HC]; · iexact HC
    isplitl [HO]; · iexact HO
    isplitl [Hcan]; · iexact Hcan
    isplitl [Hs]; · iapply (Entails.of_eq (own_squeeze c (recvS j.succ (hx c)) fullShare.left _ _).symm) $$ Hs
    iexists _; iapply (Entails.of_eq (own_squeeze (xp c) (recvS j.succ (hx c)) fullShare _ Y).symm) $$ Hd
  · rw [pay_xs]; exact Entails.of_eq (own_squeeze c (recvS j.succ (hx c)) fullShare.left _ _)
  · rw [pay_xr]
    show own (xp c) (recvQ j.succ (hx c)) fullShare _ ⊢ own (xp c) (recvS j.succ (ot (hx (xp c)))) fullShare (rcvV D X (xp (xp c)) j)
    rw [xp_xp, hx_xp, ot_ot, ← own_squeeze (xp c) (recvS j.succ (hx c)) fullShare squeezes_S1x1x560x512_S560x512]

/-- The counts start up the z axis. -/
theorem op_send_c (n : Dev nD) (hn : n = up j c)
    {sS sR : DmaSem sig} (hS : sS = ds (cs j)) (hR : sR = ds (cr j)) {hsc hsrc hdst hsem}
    {O O' : CellTallies nD τ sig Unit} (hO : O = O' + tallyAt (dcell (up j c) (cr j)) () Nc)
    {α : Type} {Q : α → sProp 𝕄} {kk : PUnit → Prog (TpuEff nD τ sig (Elt F) Λ₀ .tc) α} :
    iprop(Ctx D X K ∗ owing c O ∗ can c (cs j) (up j c) (cr j) ∗ csPay D c j ∗ ownAny (up j c) (crS j))
      ⊢ iprop((iprop(owing c O' ∗ exp c (cs j)) -∗ wpc c (kk ⟨⟩) Q)
          -∗ wpc c (.op (.enqueueDma csM (.remote (Dev.tc n : Thread nD τ) (crQ j) (.dma sS) hsc) (.dma sR) hsrc hdst hsem) kk) Q) := by
  refine BIBase.Entails.trans ?_ (op_send D X K c (up j c) n hn (cs j) (cr j) hS hR (csq j)
    (cntV D c) (hO.trans (by rw [amt_cr])) ((amt_cs j).trans (amt_cr j).symm)
    ((Nc_cr j).trans (amt_cr j).symm) ?_ ?_)
  · iintro ⟨HC, HO, Hcan, Hs, ⟨%Y, Hd⟩⟩
    isplitl [HC]; · iexact HC
    isplitl [HO]; · iexact HO
    isplitl [Hcan]; · iexact Hcan
    isplitl [Hs]; · iexact Hs
    iexists _; iapply (Entails.of_eq (own_squeeze (up j c) (crS j) fullShare _ Y).symm) $$ Hd
  · rw [pay_cs]
  · rw [pay_cr]
    show own (up j c) (crQ j) fullShare _ ⊢ own (up j c) (crS j) fullShare (asCnt (cntV D (dn j (up j c))))
    rw [dn_up, ← own_squeeze (up j c) (crS j) fullShare squeezes_S1x8x128_S8x128]
    simp only [asCnt_squeezed]
    exact .rfl

end Pays

end Cert.K01

end
-- ==== Proof.Part1.lean ====
/-
The body's first half, part by part: the signals and the barrier, the counts on their way, the packed chunks on their way.
-/
module

public import proofs.«01_k».proof.Proof.Ops

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Dev nD → Vec F S2048 .i32) (X : Dev nD → Vec F S2048x1024 .bf16)
variable (K : Dev nD × Option (Fin 18) → ℕ) (c : Dev nD)

/-! ## Whole-memref accesses -/

section Full
variable {sh : Shape} {e : EltTy} (m : Memref sig .tc .vmem sh e)

theorem wp_load_full {off : Fin sh.rank → Nat} (h0 : off = fun _ => 0) {inb : ∀ a, off a + sh.size a ≤ sh.size a}
    {hl : m.view.LoadsAt (Rect.unit (s := sh) off sh.size inb).toLoadRect} {q : PosShare TreeShare} {Y : sh.Idx → Elt F e}
    {α : Type} {Q : α → sProp 𝕄} {k : (sh.Idx → Elt F e) → Prog (TpuEff nD τ sig (Elt F) Λ₀ .tc) α} :
    own c m q Y ⊢ iprop((own c m q Y -∗ wpc c (k Y) Q) -∗ wpc c (.op (.load m (Rect.unit (s := sh) off sh.size inb).toLoadRect hl) k) Q) := by
  rw [← own_full c m q h0 inb (fun _ => rfl) Y]
  exact wp_load_at c m rfl

theorem wp_store_full {off : Fin sh.rank → Nat} (h0 : off = fun _ => 0) {inb : ∀ a, off a + sh.size a ≤ sh.size a}
    {w : sh.Idx → Elt F e} {hx : (m.access (Rect.unit (s := sh) off sh.size inb)).Stores Finset.univ}
    {hm : (Finset.univ : Finset (Rect.unit (s := sh) off sh.size inb).shape.Idx) = Finset.univ ∨ ∀ a, (Rect.unit (s := sh) off sh.size inb).stride a = 1}
    {Y : sh.Idx → Elt F e}
    {α : Type} {Q : α → sProp 𝕄} {k : PUnit → Prog (TpuEff nD τ sig (Elt F) Λ₀ .tc) α} :
    own c m fullShare Y
      ⊢ iprop((own c m fullShare w -∗ wpc c (k ⟨⟩) Q) -∗ wpc c (.op (.store m (Rect.unit (s := sh) off sh.size inb) w Finset.univ hx hm) k) Q) := by
  rw [← own_full c m fullShare h0 inb (fun _ => rfl) Y, ← own_full c m fullShare h0 inb (fun _ => rfl) w]
  exact wp_store_at c m rfl

end Full

theorem z1 : (![0] : Fin 1 → Nat) = fun _ => 0 := funext fun a => by fin_cases a; rfl
theorem z2 : (![0, 0] : Fin 2 → Nat) = fun _ => 0 := funext fun a => by fin_cases a <;> rfl

theorem wpc_ret {α : Type} {Q : α → sProp 𝕄} {a : α} : Q a ⊢ wpc (F := F) c (.ret a : Prog (TpuEff nD τ sig (Elt F) Λ₀ .tc) α) Q := by
  unfold wpc
  rw [wp_ret]; iintro H; imodintro; iexact H

/-! ## The signals and the barrier -/

/-- The first signal, one up z. -/
theorem part1 {Kt : (Σ' (d0 : Dev nD) (v2 : BitVec 32) (v5 : BitVec 32) (v8 : BitVec 32) (v9 : BitVec 32) (v10 : Sems sig S_) (v30 : BitVec 32) (v31 : BitVec 32) (v32 : BitVec 1), BitVec 32) → sProp 𝕄} :
    iprop(Ctx D X K ∗ owing c (O₀ c) ∗ dutyTok ER (barCell (up 0 c)) 0 2 ∗ ownAny c (recvS 3 (hx c)) ∗ ownAny c (crS 2)
        ∗ (∀ a1 a2 a3 a4 a5 a6 a7, owing c (oB1 c) -∗ Kt ⟨c, a1, a2, zw c, a3, SemArray.scalar (sig.barrier 0 rfl), a4, a5, a6, a7⟩))
      ⊢ wpc c (k0_part1 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11) Kt := by
  rw [k0_part1_eq_skeleton]; unfold k0_part1_skel
  simp only [semSignalWord, semWaitWord, Prog.lift, Prog.bind_op, Prog.bind_ret, Prog.pure_eq_ret, wp_deviceId]
  iintro ⟨#HC, HO, Ht, Hr, Hcr, Hk⟩
  iapply (op_signal D X K c (up 0 c) _ (dev1_eq c) 2 (O' := oB1 c) rfl bar_sem (by decide)) $$ [HO Ht Hr Hcr]
  · isplitr; · iexact HC
    isplitl [HO]; · iexact HO
    isplitl [Ht]; · iexact Ht
    rw [barPay_up0]
    isplitl [Hr]; · iexact Hr
    iexact Hcr
  iintro HO
  unfold zw
  iapply wpc_ret
  iapply Hk; iexact HO

/-- The signals two and three up z. -/
theorem part2 {v2 v5 v9 v30 v31 : BitVec 32} {v32 : BitVec 1} {v33 : BitVec 32} {Kt : PUnit → sProp 𝕄} :
    iprop(Ctx D X K ∗ owing c (oB1 c) ∗ dutyTok ER (barCell (up 1 c)) 0 1 ∗ ownAny c (recvS 2 (hx c)) ∗ ownAny c (crS 1) ∗ dutyTok ER (barCell (up 2 c)) 0 0 ∗ ownAny c (recvS 1 (hx c)) ∗ ownAny c (crS 0)
        ∗ (owing c (oB3 c) -∗ Kt ⟨⟩))
      ⊢ wpc c (k0_part2 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) v9 (SemArray.scalar (sig.barrier 0 rfl)) v30 v31 v32 v33) Kt := by
  rw [k0_part2_eq_skeleton]; unfold k0_part2_skel
  simp only [semSignalWord, semWaitWord, Prog.lift, Prog.bind_op, Prog.bind_ret, Prog.pure_eq_ret, wp_deviceId]
  iintro ⟨#HC, HO, Ht, Hr, Hcr, Ht2, Hr2, Hcr2, Hk⟩
  iapply (op_signal D X K c (up 1 c) _ (dev2_eq c) 1 (O' := oB2 c) rfl bar_sem (by decide)) $$ [HO Ht Hr Hcr]
  · isplitr; · iexact HC
    isplitl [HO]; · iexact HO
    isplitl [Ht]; · iexact Ht
    rw [barPay_up1]
    isplitl [Hr]; · iexact Hr
    iexact Hcr
  iintro HO
  iapply (op_signal D X K c (up 2 c) _ (dev3_eq c) 0 (O' := oB3 c) rfl bar_sem (by decide)) $$ [HO Ht2 Hr2 Hcr2]
  · isplitr; · iexact HC
    isplitl [HO]; · iexact HO
    isplitl [Ht2]; · iexact Ht2
    rw [barPay_up2]
    isplitl [Hr2]; · iexact Hr2
    iexact Hcr2
  iintro HO
  iapply wpc_ret
  iapply Hk; iexact HO

/-- The signal across x, the barrier, and the counts of the device's own rows. -/
theorem part3 {v2 v5 : BitVec 32} {Kt : (Σ' (v70 : IVec S2048x1 32) (v73 : IVec S2048x128 1) (v99 : BitVec 32), BitVec 32) → sProp 𝕄} :
    iprop(Ctx D X K ∗ owing c (oB3 c) ∗ dutyTok ER (barCell (xp c)) 0 3
        ∗ (ownAny c (recvS 1 (ot (hx c))) ∗ ownAny c (recvS 2 (ot (hx c))) ∗ ownAny c (recvS 3 (ot (hx c))))
        ∗ (atPos ER (barCell c) 0 ∅ 0 ∗ cred (tallyAt (barCell c) () 4)) ∗ own c dM fullShare (D c) ∗ ownAny c csM
        ∗ (∀ a1 a2, iprop(owing c (oC0 c) ∗ semVal (barCell c) 0 ∗ barPay c 0 ∗ barPay c 1 ∗ barPay c 2 ∗ barPay c 3
          ∗ own c dM fullShare (D c) ∗ own c csM fullShare (cntV D c)) -∗ Kt ⟨k0_pay2 (D c), k0_pay3 (D c), a1, a2⟩))
      ⊢ wpc c (k0_part3 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) (SemArray.scalar (sig.barrier 0 rfl))) Kt := by
  rw [k0_part3_eq_skeleton]; unfold k0_part3_skel
  simp only [semSignalWord, semWaitWord, Prog.lift, Prog.bind_op, Prog.bind_ret, Prog.pure_eq_ret, wp_deviceId]
  iintro ⟨#HC, HO, Ht, Hr, ⟨Hat, Hcr⟩, Hd, ⟨%Y, Hcs⟩, Hk⟩
  iapply (op_signal D X K c (xp c) _ (dev4_eq c) 3 (O' := oC0 c) rfl bar_sem (by decide)) $$ [HO Ht Hr]
  · isplitr; · iexact HC
    isplitl [HO]; · iexact HO
    isplitl [Ht]; · iexact Ht
    rw [barPay_xp]; iexact Hr
  iintro HO
  iapply (op_barrier D X K c (O := oC0 c) (above_C0 c 1 (by decide)) bar_sem (by decide)) $$ [HO Hat Hcr]
  · isplitr; · iexact HC
    isplitl [HO]; · iexact HO
    isplitl [Hat] <;> iassumption
  iintro ⟨HO, Hz, Hp⟩
  iapply (wp_load_full c dM z1) $$ Hd; iintro Hd
  iapply (wp_load_full c csM z2) $$ Hcs; iintro Hcs
  iapply (wp_store_full c csM z2) $$ Hcs; iintro Hcs
  iapply wpc_ret
  iapply Hk
  isplitl [HO]; · iexact HO
  isplitl [Hz]; · iexact Hz
  icases Hp with ⟨H0, H1, H2, H3⟩
  isplitl [H0]; · iexact H0
  isplitl [H1]; · iexact H1
  isplitl [H2]; · iexact H2
  isplitl [H3]; · iexact H3
  isplitl [Hd]; · iexact Hd
  iexact Hcs
/-! ## The counts on their way -/

/-- The counts start for the devices one and two up z. -/
theorem part4 {v2 v5 v99 v103 : BitVec 32} {Kt : (Σ' (v122 : BitVec 32) (v137 : BitVec 32), BitVec 32) → sProp 𝕄} :
    iprop(Ctx D X K ∗ owing c (oC0 c) ∗ (can c (cs 0) (up 0 c) (cr 0) ∗ ownAny (up 0 c) (crS 0)) ∗ (can c (cs 1) (up 1 c) (cr 1) ∗ ownAny (up 1 c) (crS 1)) ∗ own c csM fullShare (cntV D c)
        ∗ (∀ a1 a2 a3, iprop(owing c (oC2 c) ∗ exp c (cs 0) ∗ exp c (cs 1) ∗ csPay D c 2) -∗ Kt ⟨a1, a2, a3⟩))
      ⊢ wpc c (k0_part4 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) v99 v103) Kt := by
  rw [k0_part4_eq_skeleton]; unfold k0_part4_skel
  simp only [semSignalWord, semWaitWord, Prog.lift, Prog.bind_op, Prog.bind_ret, Prog.pure_eq_ret, wp_deviceId]
  iintro ⟨#HC, HO, ⟨Hcan0, Hd0⟩, ⟨Hcan1, Hd1⟩, Hcs, Hk⟩
  ihave Hq := (own_halve c csM fullShare (cntV D c)) $$ Hcs
  icases Hq with ⟨Hs0, Hq⟩
  ihave Hq2 := (own_halve c csM fullShare.right (cntV D c)) $$ Hq
  icases Hq2 with ⟨Hs1, Hs2⟩
  iapply (op_send_c K c 0 D X _ (dev5_eq c) (sS := _) (sR := _) rfl rfl (O := oC0 c) (O' := oC1 c) rfl) $$ [HO Hcan0 Hs0 Hd0]
  · isplitr; · iexact HC
    isplitl [HO]; · iexact HO
    isplitl [Hcan0]; · iexact Hcan0
    isplitl [Hs0]; · iexact Hs0
    iexact Hd0
  iintro ⟨HO, He0⟩
  iapply (op_send_c K c 1 D X _ (dev6_eq c) (sS := _) (sR := _) rfl rfl (O := oC1 c) (O' := oC2 c) rfl) $$ [HO Hcan1 Hs1 Hd1]
  · isplitr; · iexact HC
    isplitl [HO]; · iexact HO
    isplitl [Hcan1]; · iexact Hcan1
    isplitl [Hs1]; · iexact Hs1
    iexact Hd1
  iintro ⟨HO, He1⟩
  iapply wpc_ret
  iapply Hk
  isplitl [HO]; · iexact HO
  isplitl [He0]; · iexact He0
  isplitl [He1]; · iexact He1
  iexact Hs2

/-- The counts start for the device three up z. -/
theorem part5 {v2 v5 v137 v138 : BitVec 32} {Kt : (Σ' (v145 : BitVec 32) (v163 : FVec F S256x256 .bf16) (v175 : FVec F S256x1 .f32), FVec F S1x128 .f32) → sProp 𝕄} :
    iprop(Ctx D X K ∗ owing c (oC2 c) ∗ (can c (cs 2) (up 2 c) (cr 2) ∗ ownAny (up 2 c) (crS 2)) ∗ csPay D c 2
        ∗ (∀ a1, iprop(owing c (oZ2 c) ∗ exp c (cs 2)) -∗ Kt ⟨a1, k0_pay5 (F := F), k0_pay8 (F := F) (k0_pay3 (D c)), k0_pay9 (F := F) (k0_pay3 (D c))⟩))
      ⊢ wpc c (k0_part5 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (k0_pay3 (D c)) v137 v138) Kt := by
  rw [k0_part5_eq_skeleton]; unfold k0_part5_skel
  simp only [semSignalWord, semWaitWord, Prog.lift, Prog.bind_op, Prog.bind_ret, Prog.pure_eq_ret, wp_deviceId]
  iintro ⟨#HC, HO, ⟨Hcan2, Hd2⟩, Hs2, Hk⟩
  iapply (op_send_c K c 2 D X _ (dev7_eq c) (sS := _) (sR := _) rfl rfl (O := oC2 c) (O' := oZ2 c) rfl) $$ [HO Hcan2 Hs2 Hd2]
  · isplitr; · iexact HC
    isplitl [HO]; · iexact HO
    isplitl [Hcan2]; · iexact Hcan2
    isplitl [Hs2]; · iexact Hs2
    iexact Hd2
  iintro ⟨HO, He2⟩
  iapply wpc_ret
  iapply Hk
  isplitl [HO]; · iexact HO
  iexact He2

/-- Ranks of the first rows; nothing but arithmetic. -/
theorem part6 (v73 : IVec S2048x128 1) (v163 : FVec F S256x256 .bf16) (v180 : FVec F S1x128 .f32) {Kt : (Σ' (v191 : FVec F S256x1 .f32) (v207 : FVec F S256x1 .f32) (v223 : FVec F S256x1 .f32), FVec F S1x128 .f32) → sProp 𝕄} :
    Kt ⟨k0_pay11 v73 v163 v180, k0_pay14 v73 v163 v180, k0_pay17 v73 v163 v180, k0_pay18 v73 v180⟩ ⊢ wpc c (k0_part6 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 v73 v163 v180) Kt := by
  rw [k0_part6_eq_skeleton]; unfold k0_part6_skel
  simp only [semSignalWord, semWaitWord, Prog.lift, Prog.bind_op, Prog.bind_ret, Prog.pure_eq_ret, wp_deviceId]
  exact wpc_ret c

/-- Ranks of the later rows; nothing but arithmetic. -/
theorem part7 (v73 : IVec S2048x128 1) (v163 : FVec F S256x256 .bf16) (v180 : FVec F S1x128 .f32) {Kt : (Σ' (v239 : FVec F S256x1 .f32) (v255 : FVec F S256x1 .f32) (v271 : FVec F S256x1 .f32), FVec F S1x128 .f32) → sProp 𝕄} :
    Kt ⟨k0_pay20 v73 v163 v180, k0_pay23 v73 v163 v180, k0_pay26 v73 v163 v180, k0_pay27 v73 v180⟩ ⊢ wpc c (k0_part7 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 v73 v163 v180) Kt := by
  rw [k0_part7_eq_skeleton]; unfold k0_part7_skel
  simp only [semSignalWord, semWaitWord, Prog.lift, Prog.bind_op, Prog.bind_ret, Prog.pure_eq_ret, wp_deviceId]
  exact wpc_ret c

/-! ## The packed chunks on their way -/

/-- The rows are cast and halved. -/
theorem part8 {Kt : (Σ' (v292 : IVec S2048x1 32) (v293 : IVec S2048x560 32) (v307 : BitVec 32) (v312 : BitVec 1), BitVec 32) → sProp 𝕄} :
    iprop(Ctx D X K ∗ own c xM fullShare (X c) ∗ ownAny c (xbfS 0) ∗ ownAny c (xbfS 1)
        ∗ (iprop(own c xM fullShare (X c) ∗ own c (xbfS 0) fullShare (xbf (X c) 0) ∗ own c (xbfS 1) fullShare (xbf (X c) 1)) -∗ Kt ⟨key (D c), io, radd (zw c) 3#32, rfix (radd (zw c) 3#32) w4, Scalar.addi (radd (zw c) 3#32) w4⟩))
      ⊢ wpc c (k0_part8 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 (zw c) (k0_pay2 (D c)) (k0_pay3 (D c)) (k0_pay5 (F := F)) (k0_pay8 (F := F) (k0_pay3 (D c))) (k0_pay11 (k0_pay3 (D c)) (k0_pay5 (F := F)) (k0_pay9 (F := F) (k0_pay3 (D c)))) (k0_pay14 (k0_pay3 (D c)) (k0_pay5 (F := F)) (k0_pay9 (F := F) (k0_pay3 (D c)))) (k0_pay17 (k0_pay3 (D c)) (k0_pay5 (F := F)) (k0_pay9 (F := F) (k0_pay3 (D c)))) (k0_pay20 (k0_pay3 (D c)) (k0_pay5 (F := F)) (k0_pay18 (k0_pay3 (D c)) (k0_pay9 (F := F) (k0_pay3 (D c))))) (k0_pay23 (k0_pay3 (D c)) (k0_pay5 (F := F)) (k0_pay18 (k0_pay3 (D c)) (k0_pay9 (F := F) (k0_pay3 (D c))))) (k0_pay26 (k0_pay3 (D c)) (k0_pay5 (F := F)) (k0_pay18 (k0_pay3 (D c)) (k0_pay9 (F := F) (k0_pay3 (D c))))) (k0_pay27 (k0_pay3 (D c)) (k0_pay18 (k0_pay3 (D c)) (k0_pay9 (F := F) (k0_pay3 (D c)))))) Kt := by
  rw [k0_part8_eq_skeleton]; unfold k0_part8_skel
  simp only [semSignalWord, semWaitWord, Prog.lift, Prog.bind_op, Prog.bind_ret, Prog.pure_eq_ret, wp_deviceId]
  iintro ⟨#HC, Hx, ⟨%Y0, H0⟩, ⟨%Y1, H1⟩, Hk⟩
  iapply (wp_load_sub c xM) $$ Hx; iintro Hx
  iapply (wp_load_at c xbfM (off' := ![(0 : Fin 2).val, 0, 0]) rfl) $$ H0; iintro H0
  iapply (wp_store_at c xbfM (off' := ![(0 : Fin 2).val, 0, 0]) rfl) $$ H0; iintro H0
  iapply (wp_load_sub c xM) $$ Hx; iintro Hx
  iapply (wp_load_at c xbfM (off' := ![(1 : Fin 2).val, 0, 0]) rfl) $$ H1; iintro H1
  iapply (wp_store_at c xbfM (off' := ![(1 : Fin 2).val, 0, 0]) rfl) $$ H1; iintro H1
  iapply wpc_ret
  unfold key io radd rfix w4
  iapply Hk
  isplitl [Hx]; · iexact Hx
  isplitl [H0]; · iexact H0
  iexact H1

theorem hx_val (c : Dev nD) : (hx c).val = c.val / 16 := rfl
theorem ot_val (c : Dev nD) : (ot (hx c)).val = 1 - c.val / 16 := by revert c; decide +kernel
theorem off_half (c : Dev nD) : k0_off1 c = ![(hx c).val, 0, 0] := by rw [k0_off1_eq, hx_val]
theorem off_recv2 (c : Dev nD) : k0_off2 c = ![(Fin.succ (2 : Fin 3)).val, (hx c).val, 0, 0] := by rw [k0_off2_eq, hx_val]; rfl
theorem off_recv1 (c : Dev nD) : k0_off3 c = ![(Fin.succ (1 : Fin 3)).val, (hx c).val, 0, 0] := by rw [k0_off3_eq, hx_val]; rfl
theorem off_recv0 (c : Dev nD) : k0_off4 c = ![(Fin.succ (0 : Fin 3)).val, (hx c).val, 0, 0] := by rw [k0_off4_eq, hx_val]; rfl

/-- The chunk for the device three up z is packed and starts. -/
theorem part9 {v2 v5 : BitVec 32} {Kt : (Σ' (v314 : BitVec 32) (v347 : BitVec 32), BitVec 32) → sProp 𝕄} :
    iprop(Ctx D X K ∗ owing c (oZ2 c) ∗ own c (xbfS (hx c)) fullShare (xbf (X c) (hx c)) ∗ ownAny c (sendS 2) ∗ (can c (zs 2) (up 2 c) (zr 2) ∗ ownAny (up 2 c) (recvS (Fin.succ 2) (hx c)))
        ∗ (∀ a1, iprop(owing c (oZ1 c) ∗ own c (xbfS (hx c)) fullShare (xbf (X c) (hx c)) ∗ exp c (zs 2)) -∗ Kt ⟨a1, w4, radd (zw c) 2#32⟩))
      ⊢ wpc c (k0_part9 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) (key (D c)) io (radd (zw c) 3#32) (rfix (radd (zw c) 3#32) w4) (Scalar.addi (radd (zw c) 3#32) w4)) Kt := by
  rw [k0_part9_eq_skeleton]; unfold k0_part9_skel
  simp only [semSignalWord, semWaitWord, Prog.lift, Prog.bind_op, Prog.bind_ret, Prog.pure_eq_ret, wp_deviceId]
  iintro ⟨#HC, HO, Hx, ⟨%Y, Hs2⟩, ⟨Hcan2, Hd2⟩, Hk⟩
  iapply (wp_load_at c xbfM (off_half c)) $$ Hx; iintro Hx
  iapply (wp_load_at c sendM (off' := ![(2 : Fin 3).val, 0, 0]) rfl) $$ Hs2; iintro Hs2
  iapply (wp_store_at c sendM (off' := ![(2 : Fin 3).val, 0, 0]) rfl) $$ Hs2; iintro Hs2
  iapply (op_send_z K c 2 D X _ (dev8_eq c) (off_recv2 c) (sS := _) (sR := _) rfl rfl (O := oZ2 c) (O' := oZ1 c) rfl) $$ [HO Hcan2 Hs2 Hd2]
  · isplitr; · iexact HC
    isplitl [HO]; · iexact HO
    isplitl [Hcan2]; · iexact Hcan2
    isplitl [Hs2]; · iexact Hs2
    iexact Hd2
  iintro ⟨HO, He2⟩
  iapply wpc_ret
  unfold radd w4
  iapply Hk
  isplitl [HO]; · iexact HO
  isplitl [Hx]; · iexact Hx
  iexact He2

/-- The chunk for the device two up z is packed, -/
theorem part10 {v2 v5 : BitVec 32} {Kt : BitVec 32 → sProp 𝕄} :
    iprop(Ctx D X K ∗ own c (xbfS (hx c)) fullShare (xbf (X c) (hx c)) ∗ ownAny c (sendS 1)
        ∗ (∀ a1, iprop(own c (xbfS (hx c)) fullShare (xbf (X c) (hx c)) ∗ own c (sendS 1) fullShare (sendV D X c 1)) -∗ Kt a1))
      ⊢ wpc c (k0_part10 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (key (D c)) io w4 (radd (zw c) 2#32)) Kt := by
  rw [k0_part10_eq_skeleton]; unfold k0_part10_skel
  simp only [semSignalWord, semWaitWord, Prog.lift, Prog.bind_op, Prog.bind_ret, Prog.pure_eq_ret, wp_deviceId]
  iintro ⟨#HC, Hx, ⟨%Y, Hs1⟩, Hk⟩
  iapply (wp_load_at c xbfM (off_half c)) $$ Hx; iintro Hx
  iapply (wp_load_at c sendM (off' := ![(1 : Fin 3).val, 0, 0]) rfl) $$ Hs1; iintro Hs1
  iapply (wp_store_at c sendM (off' := ![(1 : Fin 3).val, 0, 0]) rfl) $$ Hs1; iintro Hs1
  iapply wpc_ret
  iapply Hk
  isplitl [Hx]; · iexact Hx
  iexact Hs1

/-- and starts; the chunk for the device one up z is packed, -/
theorem part11 {v2 v5 : BitVec 32} {Kt : BitVec 32 → sProp 𝕄} :
    iprop(Ctx D X K ∗ owing c (oZ1 c) ∗ own c (sendS 1) fullShare (sendV D X c 1) ∗ (can c (zs 1) (up 1 c) (zr 1) ∗ ownAny (up 1 c) (recvS (Fin.succ 1) (hx c))) ∗ own c (xbfS (hx c)) fullShare (xbf (X c) (hx c)) ∗ ownAny c (sendS 0)
        ∗ (∀ a1, iprop(owing c (oZ0 c) ∗ exp c (zs 1) ∗ own c (xbfS (hx c)) fullShare (xbf (X c) (hx c)) ∗ own c (sendS 0) fullShare (sendV D X c 0)) -∗ Kt a1))
      ⊢ wpc c (k0_part11 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) (key (D c)) io) Kt := by
  rw [k0_part11_eq_skeleton]; unfold k0_part11_skel
  simp only [semSignalWord, semWaitWord, Prog.lift, Prog.bind_op, Prog.bind_ret, Prog.pure_eq_ret, wp_deviceId]
  iintro ⟨#HC, HO, Hs1, ⟨Hcan1, Hd1⟩, Hx, ⟨%Y, Hs0⟩, Hk⟩
  iapply (op_send_z K c 1 D X _ (dev9_eq c) (off_recv1 c) (sS := _) (sR := _) rfl rfl (O := oZ1 c) (O' := oZ0 c) rfl) $$ [HO Hcan1 Hs1 Hd1]
  · isplitr; · iexact HC
    isplitl [HO]; · iexact HO
    isplitl [Hcan1]; · iexact Hcan1
    isplitl [Hs1]; · iexact Hs1
    iexact Hd1
  iintro ⟨HO, He1⟩
  iapply (wp_load_at c xbfM (off_half c)) $$ Hx; iintro Hx
  iapply (wp_load_at c sendM (off' := ![(0 : Fin 3).val, 0, 0]) rfl) $$ Hs0; iintro Hs0
  iapply (wp_store_at c sendM (off' := ![(0 : Fin 3).val, 0, 0]) rfl) $$ Hs0; iintro Hs0
  iapply wpc_ret
  iapply Hk
  isplitl [HO]; · iexact HO
  isplitl [He1]; · iexact He1
  isplitl [Hx]; · iexact Hx
  iexact Hs0

/-- and starts; the device's own rows are kept. -/
theorem part12 {Kt : PUnit → sProp 𝕄} :
    iprop(Ctx D X K ∗ owing c (oZ0 c) ∗ own c (sendS 0) fullShare (sendV D X c 0) ∗ (can c (zs 0) (up 0 c) (zr 0) ∗ ownAny (up 0 c) (recvS (Fin.succ 0) (hx c))) ∗ own c (xbfS 0) fullShare (xbf (X c) 0) ∗ own c (xbfS 1) fullShare (xbf (X c) 1) ∗ ownAny c (recvS 0 0) ∗ ownAny c (recvS 0 1)
        ∗ (iprop(owing c (oX0 c) ∗ exp c (zs 0) ∗ own c (xbfS 0) fullShare (xbf (X c) 0) ∗ own c (xbfS 1) fullShare (xbf (X c) 1) ∗ own c (recvS 0 0) fullShare (keepV D X c 0) ∗ own c (recvS 0 1) fullShare (keepV D X c 1)) -∗ Kt ⟨⟩))
      ⊢ wpc c (k0_part12 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c (zw c) (key (D c)) io) Kt := by
  rw [k0_part12_eq_skeleton]; unfold k0_part12_skel
  simp only [semSignalWord, semWaitWord, Prog.lift, Prog.bind_op, Prog.bind_ret, Prog.pure_eq_ret, wp_deviceId]
  iintro ⟨#HC, HO, Hs0, ⟨Hcan0, Hd0⟩, Hx0, Hx1, ⟨%Y0, Hr0⟩, ⟨%Y1, Hr1⟩, Hk⟩
  iapply (op_send_z K c 0 D X _ (dev10_eq c) (off_recv0 c) (sS := _) (sR := _) rfl rfl (O := oZ0 c) (O' := oX0 c) rfl) $$ [HO Hcan0 Hs0 Hd0]
  · isplitr; · iexact HC
    isplitl [HO]; · iexact HO
    isplitl [Hcan0]; · iexact Hcan0
    isplitl [Hs0]; · iexact Hs0
    iexact Hd0
  iintro ⟨HO, He0⟩
  iapply (wp_load_at c xbfM (off' := ![(0 : Fin 2).val, 0, 0]) rfl) $$ Hx0; iintro Hx0
  iapply (wp_load_at c recvM (off' := ![(0 : Fin 4).val, (0 : Fin 2).val, 0, 0]) rfl) $$ Hr0; iintro Hr0
  iapply (wp_store_at c recvM (off' := ![(0 : Fin 4).val, (0 : Fin 2).val, 0, 0]) rfl) $$ Hr0; iintro Hr0
  iapply (wp_load_at c xbfM (off' := ![(1 : Fin 2).val, 0, 0]) rfl) $$ Hx1; iintro Hx1
  iapply (wp_load_at c recvM (off' := ![(0 : Fin 4).val, (1 : Fin 2).val, 0, 0]) rfl) $$ Hr1; iintro Hr1
  iapply (wp_store_at c recvM (off' := ![(0 : Fin 4).val, (1 : Fin 2).val, 0, 0]) rfl) $$ Hr1; iintro Hr1
  iapply wpc_ret
  iapply Hk
  isplitl [HO]; · iexact HO
  isplitl [He0]; · iexact He0
  isplitl [Hx0]; · iexact Hx0
  isplitl [Hx1]; · iexact Hx1
  isplitl [Hr0]; · iexact Hr0
  iexact Hr1

end Cert.K01

end
-- ==== Proof.Part2.lean ====
/-
The body's second half, part by part: the counts received, the rows placed, the slabs received and forwarded.
-/
module

public import proofs.«01_k».proof.Proof.Part1

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Dev nD → Vec F S2048 .i32) (X : Dev nD → Vec F S2048x1024 .bf16)
variable (K : Dev nD × Option (Fin 18) → ℕ) (c : Dev nD)

/-- A finished cell, drained. -/
abbrev done (c : Dev nD) (k : Fin 18) : sProp 𝕄 := semVal (dcell c k) 0

theorem N_slab {off : Fin 4 → ℕ} {inb} : (slabAt off inb).view.dmaCredit = N := rfl

theorem off_slab0 (c : Dev nD) : k0_off5 c = ![(Fin.succ (0 : Fin 3)).val, (hx c).val, 0, 0] := by rw [k0_off5_eq, hx_val]; rfl
theorem off_slab1 (c : Dev nD) : k0_off6 c = ![(Fin.succ (1 : Fin 3)).val, (hx c).val, 0, 0] := by rw [k0_off6_eq, hx_val]; rfl
theorem off_slab2 (c : Dev nD) : k0_off7 c = ![(Fin.succ (2 : Fin 3)).val, (hx c).val, 0, 0] := by rw [k0_off7_eq, hx_val]; rfl
theorem off_other (c : Dev nD) : k0_off8 c = ![(ot (hx c)).val, 0, 0] := by rw [k0_off8_eq, ot_val]
theorem off_peer0 (c : Dev nD) : k0_off9 c = ![(Fin.succ (0 : Fin 3)).val, (ot (hx c)).val, 0, 0] := by rw [k0_off9_eq, ot_val]; rfl
theorem off_peer1 (c : Dev nD) : k0_off10 c = ![(Fin.succ (1 : Fin 3)).val, (ot (hx c)).val, 0, 0] := by rw [k0_off10_eq, ot_val]; rfl
theorem off_peer2 (c : Dev nD) : k0_off11 c = ![(Fin.succ (2 : Fin 3)).val, (ot (hx c)).val, 0, 0] := by rw [k0_off11_eq, ot_val]; rfl

/-! ## The counts received -/

/-- The counts of the devices one and two down z arrive, -/
theorem part13 {v2 v5 v99 v122 : BitVec 32} {Kt : PUnit → sProp 𝕄} :
    iprop(Ctx D X K ∗ owing c (oX0 c) ∗ exp c (cs 0) ∗ exp c (cr 0) ∗ exp c (cs 1) ∗ exp c (cr 1)
        ∗ (iprop(owing c (oX0 c) ∗ done c (cs 0) ∗ csPay D c 0 ∗ done c (cr 0) ∗ crPay D c 0 ∗ done c (cs 1) ∗ csPay D c 1 ∗ done c (cr 1) ∗ crPay D c 1) -∗ Kt ⟨⟩))
      ⊢ wpc c (k0_part13 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 v2 v5 v99 v122) Kt := by
  rw [k0_part13_eq_skeleton]; unfold k0_part13_skel
  simp only [semSignalWord, semWaitWord, Prog.lift, Prog.bind_op, Prog.bind_ret, Prog.pure_eq_ret, wp_deviceId]
  iintro ⟨#HC, HO, He_cs0, He_cr0, He_cs1, He_cr1, Hk⟩
  iapply (op_wait D X K c (cs 0) (O := oX0 c) (above_X0 c _ (by decide)) (sm := _) rfl (dst := csM) ((rfl : csM.view.dmaCredit = Nc).trans (amt_cs 0).symm) (pay_cs D X c 0)) $$ [HO He_cs0]
  · isplitr; · iexact HC
    isplitl [HO]; · iexact HO
    iexact He_cs0
  iintro ⟨HO, Hz_cs0, Hp_cs0⟩
  iapply (op_wait D X K c (cr 0) (O := oX0 c) (above_X0 c _ (by decide)) (sm := _) rfl (dst := crQ 0) ((Nc_cr 0).trans (amt_cr 0).symm) (pay_cr D X c 0)) $$ [HO He_cr0]
  · isplitr; · iexact HC
    isplitl [HO]; · iexact HO
    iexact He_cr0
  iintro ⟨HO, Hz_cr0, Hp_cr0⟩
  iapply (op_wait D X K c (cs 1) (O := oX0 c) (above_X0 c _ (by decide)) (sm := _) rfl (dst := csM) ((rfl : csM.view.dmaCredit = Nc).trans (amt_cs 1).symm) (pay_cs D X c 1)) $$ [HO He_cs1]
  · isplitr; · iexact HC
    isplitl [HO]; · iexact HO
    iexact He_cs1
  iintro ⟨HO, Hz_cs1, Hp_cs1⟩
  iapply (op_wait D X K c (cr 1) (O := oX0 c) (above_X0 c _ (by decide)) (sm := _) rfl (dst := crQ 1) ((Nc_cr 1).trans (amt_cr 1).symm) (pay_cr D X c 1)) $$ [HO He_cr1]
  · isplitr; · iexact HC
    isplitl [HO]; · iexact HO
    iexact He_cr1
  iintro ⟨HO, Hz_cr1, Hp_cr1⟩
  iapply wpc_ret
  iapply Hk
  isplitl [HO]; · iexact HO
  isplitl [Hz_cs0]; · iexact Hz_cs0
  isplitl [Hp_cs0]; · iexact Hp_cs0
  isplitl [Hz_cr0]; · iexact Hz_cr0
  isplitl [Hp_cr0]; · iexact Hp_cr0
  isplitl [Hz_cs1]; · iexact Hz_cs1
  isplitl [Hp_cs1]; · iexact Hp_cs1
  isplitl [Hz_cr1]; · iexact Hz_cr1
  iexact Hp_cr1

/-- and those of the device three down z. -/
theorem part14 {v2 v5 v145 : BitVec 32} {Kt : (Σ' (v497 : IVec S8x128 1) (v504 : BitVec 32) (v512 : BitVec 32), Vec F S1x8x128 .i32) → sProp 𝕄} :
    iprop(Ctx D X K ∗ owing c (oX0 c) ∗ exp c (cs 2) ∗ exp c (cr 2) ∗ csPay D c 0 ∗ crPay D c 0 ∗ crPay D c 1
        ∗ (iprop(owing c (oX0 c) ∗ done c (cs 2) ∗ csPay D c 2 ∗ done c (cr 2) ∗ crPay D c 2 ∗ csPay D c 0 ∗ crPay D c 0 ∗ crPay D c 1) -∗ Kt ⟨k0_pay37 (zw c), len0 D c, len1 D c, crV D c 1⟩))
      ⊢ wpc c (k0_part14 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 v2 v5 (zw c) v145) Kt := by
  rw [k0_part14_eq_skeleton]; unfold k0_part14_skel
  simp only [semSignalWord, semWaitWord, Prog.lift, Prog.bind_op, Prog.bind_ret, Prog.pure_eq_ret, wp_deviceId]
  iintro ⟨#HC, HO, He_cs2, He_cr2, Hcs, Hcr0, Hcr1, Hk⟩
  iapply (op_wait D X K c (cs 2) (O := oX0 c) (above_X0 c _ (by decide)) (sm := _) rfl (dst := csM) ((rfl : csM.view.dmaCredit = Nc).trans (amt_cs 2).symm) (pay_cs D X c 2)) $$ [HO He_cs2]
  · isplitr; · iexact HC
    isplitl [HO]; · iexact HO
    iexact He_cs2
  iintro ⟨HO, Hz_cs2, Hp_cs2⟩
  iapply (op_wait D X K c (cr 2) (O := oX0 c) (above_X0 c _ (by decide)) (sm := _) rfl (dst := crQ 2) ((Nc_cr 2).trans (amt_cr 2).symm) (pay_cr D X c 2)) $$ [HO He_cr2]
  · isplitr; · iexact HC
    isplitl [HO]; · iexact HO
    iexact He_cr2
  iintro ⟨HO, Hz_cr2, Hp_cr2⟩
  iapply (wp_load_full c csM z2) $$ Hcs; iintro Hcs
  iapply (wp_load_at c crM (off' := ![(0 : Fin 3).val, 0, 0]) rfl) $$ Hcr0; iintro Hcr0
  iapply (wp_load_at c crM (off' := ![(1 : Fin 3).val, 0, 0]) rfl) $$ Hcr1; iintro Hcr1
  iapply wpc_ret
  unfold len0 len1
  iapply Hk
  isplitl [HO]; · iexact HO
  isplitl [Hz_cs2]; · iexact Hz_cs2
  isplitl [Hp_cs2]; · iexact Hp_cs2
  isplitl [Hz_cr2]; · iexact Hz_cr2
  isplitl [Hp_cr2]; · iexact Hp_cr2
  isplitl [Hcs]; · iexact Hcs
  isplitl [Hcr0]; · iexact Hcr0
  iexact Hcr1

/-- The fourth length, and the first source's slot. -/
theorem part15 {Kt : (Σ' (v520 : BitVec 32) (v528 : BitVec 32) (v539 : BitVec 32) (v545 : BitVec 32) (v548 : BitVec 32) (v549 : BitVec 32) (v550 : BitVec 1), BitVec 32) → sProp 𝕄} :
    iprop(Ctx D X K ∗ crPay D c 2
        ∗ (crPay D c 2 -∗ Kt ⟨len2 D c, len3 D c, slot c 0#32, slen D c 0#32, w4, rsub (zw c) 1#32, Scalar.cmpi .ne (rsub (zw c) 1#32) 0#32, 0#32⟩))
      ⊢ wpc c (k0_part15 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 (zw c) (k0_pay37 (zw c)) (len0 D c) (len1 D c) (crV D c 1)) Kt := by
  rw [k0_part15_eq_skeleton]; unfold k0_part15_skel
  simp only [semSignalWord, semWaitWord, Prog.lift, Prog.bind_op, Prog.bind_ret, Prog.pure_eq_ret, wp_deviceId]
  iintro ⟨#HC, Hcr2, Hk⟩
  iapply (wp_load_at c crM (off' := ![(2 : Fin 3).val, 0, 0]) rfl) $$ Hcr2; iintro Hcr2
  iapply wpc_ret
  unfold slen slot pick rmod rfix rsub w4 len2 len3
  iapply Hk
  iexact Hcr2

/-- The other sources' slots and lengths; nothing but arithmetic. -/
theorem part16 {Kt : (Σ' (v556 : BitVec 32) (v562 : BitVec 32) (v573 : BitVec 32) (v579 : BitVec 32) (v583 : BitVec 32) (v588 : BitVec 1), BitVec 32) → sProp 𝕄} :
    Kt ⟨slot c 1#32, slen D c 1#32, slot c 2#32, slen D c 2#32, rsub (zw c) 3#32, rfix (rsub (zw c) 3#32) w4, Scalar.addi (rsub (zw c) 3#32) w4⟩
      ⊢ wpc c (k0_part16 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 (zw c) (len0 D c) (len1 D c) (len2 D c) (len3 D c) w4 (rsub (zw c) 1#32) (Scalar.cmpi .ne (rsub (zw c) 1#32) 0#32) 0#32) Kt := by
  rw [k0_part16_eq_skeleton]; unfold k0_part16_skel
  simp only [semSignalWord, semWaitWord, Prog.lift, Prog.bind_op, Prog.bind_ret, Prog.pure_eq_ret, wp_deviceId]
  exact wpc_ret c

/-! ## The rows from the own slot -/

/-- The places of the result's rows, and the own slot's one-hot matrix. -/
theorem part17 {Kt : (Σ' (v631 : IVec S2048x1 32) (v636 : FVec F S2048x560 .bf16), FVec F S560x512 .bf16) → sProp 𝕄} :
    iprop(Ctx D X K ∗ own c (recvS 0 0) fullShare (keepV D X c 0)
        ∗ (own c (recvS 0 0) fullShare (keepV D X c 0) -∗ Kt ⟨place D c, hot0 D c, k0_pay44 (keepV D X c 0)⟩))
      ⊢ wpc c (k0_part17 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 io (slot c 0#32) (slen D c 0#32) (slot c 1#32) (slen D c 1#32) (slot c 2#32) (slen D c 2#32) (rsub (zw c) 3#32) (rfix (rsub (zw c) 3#32) w4) (Scalar.addi (rsub (zw c) 3#32) w4)) Kt := by
  rw [k0_part17_eq_skeleton]; unfold k0_part17_skel
  simp only [semSignalWord, semWaitWord, Prog.lift, Prog.bind_op, Prog.bind_ret, Prog.pure_eq_ret, wp_deviceId]
  iintro ⟨#HC, Hr, Hk⟩
  iapply (wp_load_at c recvM (off' := ![(0 : Fin 4).val, (0 : Fin 2).val, 0, 0]) rfl) $$ Hr; iintro Hr
  iapply wpc_ret
  unfold place hot0
  iapply Hk
  iexact Hr

/-- The rows from the own slot, staged; the other slots' one-hot matrices. -/
theorem part18 {Kt : (Σ' (v657 : FVec F S2048x560 .bf16) (v664 : FVec F S2048x560 .bf16), FVec F S2048x560 .bf16) → sProp 𝕄} :
    iprop(Ctx D X K ∗ ownAny c (stgS 0) ∗ ownAny c (stgS 1) ∗ own c (recvS 0 1) fullShare (keepV D X c 1)
        ∗ (iprop(own c (stgS 0) fullShare (stg0V D X c 0) ∗ own c (stgS 1) fullShare (stg0V D X c 1) ∗ own c (recvS 0 1) fullShare (keepV D X c 1)) -∗ Kt ⟨hot D c 0, hot D c 1, hot D c 2⟩))
      ⊢ wpc c (k0_part18 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 io (place D c) (hot0 D c) (k0_pay44 (keepV D X c 0))) Kt := by
  rw [k0_part18_eq_skeleton]; unfold k0_part18_skel
  simp only [semSignalWord, semWaitWord, Prog.lift, Prog.bind_op, Prog.bind_ret, Prog.pure_eq_ret, wp_deviceId]
  iintro ⟨#HC, ⟨%Y0, H0⟩, ⟨%Y1, H1⟩, Hr, Hk⟩
  iapply (wp_load_at c stgM (off' := ![(0 : Fin 2).val, 0, 0]) rfl) $$ H0; iintro H0
  iapply (wp_store_at c stgM (off' := ![(0 : Fin 2).val, 0, 0]) rfl) $$ H0; iintro H0
  iapply (wp_load_at c recvM (off' := ![(0 : Fin 4).val, (1 : Fin 2).val, 0, 0]) rfl) $$ Hr; iintro Hr
  iapply (wp_load_at c stgM (off' := ![(1 : Fin 2).val, 0, 0]) rfl) $$ H1; iintro H1
  iapply (wp_store_at c stgM (off' := ![(1 : Fin 2).val, 0, 0]) rfl) $$ H1; iintro H1
  iapply wpc_ret
  unfold hot; dsimp only
  iapply Hk
  isplitl [H0]; · iexact H0
  isplitl [H1]; · iexact H1
  iexact Hr

/-! ## The slabs received and forwarded -/

/-- Slot 1 of the own half arrives and goes on across x. -/
theorem part19 {v2 v5 v9 v396 : BitVec 32} {Kt : PUnit → sProp 𝕄} :
    iprop(Ctx D X K ∗ owing c (oX0 c) ∗ exp c (zs 0) ∗ exp c (zr 0) ∗ (can c (xs 0) (xp c) (xr 0) ∗ ownAny (xp c) (recvS (Fin.succ 0) (hx c)))
        ∗ (iprop(owing c (oX1 c) ∗ done c (zs 0) ∗ zsPay D X c 0 ∗ done c (zr 0) ∗ exp c (xs 0) ∗ own c (recvS (Fin.succ 0) (hx c)) fullShare.right (rcvV D X c 0)) -∗ Kt ⟨⟩))
      ⊢ wpc c (k0_part19 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) v9 v396) Kt := by
  rw [k0_part19_eq_skeleton]; unfold k0_part19_skel
  simp only [semSignalWord, semWaitWord, Prog.lift, Prog.bind_op, Prog.bind_ret, Prog.pure_eq_ret, wp_deviceId]
  iintro ⟨#HC, HO, He_zs0, He_zr0, ⟨Hcan, Hd⟩, Hk⟩
  iapply (op_wait D X K c (zs 0) (O := oX0 c) (above_X0 c _ (by decide)) (sm := _) rfl (dst := sendQ 0) ((N_send 0).trans (amt_zs 0).symm) (pay_zs D X c 0)) $$ [HO He_zs0]
  · isplitr; · iexact HC
    isplitl [HO]; · iexact HO
    iexact He_zs0
  iintro ⟨HO, Hz_zs0, Hp_zs0⟩
  iapply (op_wait D X K c (zr 0) (O := oX0 c) (above_X0 c _ (by decide)) (sm := _) rfl (N_slab.trans (amt_zr 0).symm) (pay_zr D X c 0)) $$ [HO He_zr0]
  · isplitr; · iexact HC
    isplitl [HO]; · iexact HO
    iexact He_zr0
  iintro ⟨HO, Hz_zr0, Hp_zr0⟩
  ihave Hh := (own_halve c (recvS (Fin.succ 0) (hx c)) fullShare (rcvV D X c 0)) $$ Hp_zr0
  icases Hh with ⟨Hl, Hr⟩
  iapply (op_send_x K c 0 D X _ (dev11_eq c) (off_recv0 c) (sS := _) (sR := _) rfl rfl (O := oX0 c) (O' := oX1 c) rfl) $$ [HO Hcan Hl Hd]
  · isplitr; · iexact HC
    isplitl [HO]; · iexact HO
    isplitl [Hcan]; · iexact Hcan
    isplitl [Hl]; · iexact Hl
    iexact Hd
  iintro ⟨HO, Hxs⟩
  iapply wpc_ret
  iapply Hk
  isplitl [HO]; · iexact HO
  isplitl [Hz_zs0]; · iexact Hz_zs0
  isplitl [Hp_zs0]; · iexact Hp_zs0
  isplitl [Hz_zr0]; · iexact Hz_zr0
  isplitl [Hxs]; · iexact Hxs
  iexact Hr

/-- Its rows are added. -/
theorem part20 {v2 v5 v355 : BitVec 32} {Kt : PUnit → sProp 𝕄} :
    iprop(Ctx D X K ∗ owing c (oX1 c) ∗ own c (stgS (hx c)) fullShare (stg0V D X c (hx c)) ∗ own c (recvS (Fin.succ 0) (hx c)) fullShare.right (rcvV D X c 0) ∗ exp c (zs 1)
        ∗ (iprop(owing c (oX1 c) ∗ own c (stgS (hx c)) fullShare (ownV D X c 0) ∗ own c (recvS (Fin.succ 0) (hx c)) fullShare.right (rcvV D X c 0) ∗ done c (zs 1) ∗ zsPay D X c 1) -∗ Kt ⟨⟩))
      ⊢ wpc c (k0_part20 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 v355 (hot D c 0)) Kt := by
  rw [k0_part20_eq_skeleton]; unfold k0_part20_skel
  simp only [semSignalWord, semWaitWord, Prog.lift, Prog.bind_op, Prog.bind_ret, Prog.pure_eq_ret, wp_deviceId]
  iintro ⟨#HC, HO, Hst, Hr, He_zs1, Hk⟩
  iapply (wp_load_at c stgM (off_half c)) $$ Hst; iintro Hst
  iapply (wp_load_at c recvM (off_slab0 c)) $$ Hr; iintro Hr
  iapply (wp_load_at c stgM (off_half c)) $$ Hst; iintro Hst
  iapply (wp_store_at c stgM (off_half c)) $$ Hst; iintro Hst
  iapply (op_wait D X K c (zs 1) (O := oX1 c) (above_X1 c _ (by decide)) (sm := _) rfl (dst := sendQ 1) ((N_send 1).trans (amt_zs 1).symm) (pay_zs D X c 1)) $$ [HO He_zs1]
  · isplitr; · iexact HC
    isplitl [HO]; · iexact HO
    iexact He_zs1
  iintro ⟨HO, Hz_zs1, Hp_zs1⟩
  iapply wpc_ret
  iapply Hk
  isplitl [HO]; · iexact HO
  isplitl [Hst]; · iexact Hst
  isplitl [Hr]; · iexact Hr
  isplitl [Hz_zs1]; · iexact Hz_zs1
  iexact Hp_zs1

/-- Slot 2 arrives, goes on, and is added. -/
theorem part21 {v2 v5 v9 : BitVec 32} {Kt : PUnit → sProp 𝕄} :
    iprop(Ctx D X K ∗ owing c (oX1 c) ∗ exp c (zr 1) ∗ (can c (xs 1) (xp c) (xr 1) ∗ ownAny (xp c) (recvS (Fin.succ 1) (hx c))) ∗ own c (stgS (hx c)) fullShare (ownV D X c 0)
        ∗ (iprop(owing c (oX2 c) ∗ done c (zr 1) ∗ exp c (xs 1) ∗ own c (recvS (Fin.succ 1) (hx c)) fullShare.right (rcvV D X c 1) ∗ own c (stgS (hx c)) fullShare (ownV D X c 1)) -∗ Kt ⟨⟩))
      ⊢ wpc c (k0_part21 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) v9 (hot D c 1)) Kt := by
  rw [k0_part21_eq_skeleton]; unfold k0_part21_skel
  simp only [semSignalWord, semWaitWord, Prog.lift, Prog.bind_op, Prog.bind_ret, Prog.pure_eq_ret, wp_deviceId]
  iintro ⟨#HC, HO, He_zr1, ⟨Hcan, Hd⟩, Hst, Hk⟩
  iapply (op_wait D X K c (zr 1) (O := oX1 c) (above_X1 c _ (by decide)) (sm := _) rfl (N_slab.trans (amt_zr 1).symm) (pay_zr D X c 1)) $$ [HO He_zr1]
  · isplitr; · iexact HC
    isplitl [HO]; · iexact HO
    iexact He_zr1
  iintro ⟨HO, Hz_zr1, Hp_zr1⟩
  ihave Hh := (own_halve c (recvS (Fin.succ 1) (hx c)) fullShare (rcvV D X c 1)) $$ Hp_zr1
  icases Hh with ⟨Hl, Hr⟩
  iapply (op_send_x K c 1 D X _ (dev12_eq c) (off_recv1 c) (sS := _) (sR := _) rfl rfl (O := oX1 c) (O' := oX2 c) rfl) $$ [HO Hcan Hl Hd]
  · isplitr; · iexact HC
    isplitl [HO]; · iexact HO
    isplitl [Hcan]; · iexact Hcan
    isplitl [Hl]; · iexact Hl
    iexact Hd
  iintro ⟨HO, Hxs⟩
  iapply (wp_load_at c stgM (off_half c)) $$ Hst; iintro Hst
  iapply (wp_load_at c recvM (off_slab1 c)) $$ Hr; iintro Hr
  iapply (wp_load_at c stgM (off_half c)) $$ Hst; iintro Hst
  iapply (wp_store_at c stgM (off_half c)) $$ Hst; iintro Hst
  iapply wpc_ret
  iapply Hk
  isplitl [HO]; · iexact HO
  isplitl [Hz_zr1]; · iexact Hz_zr1
  isplitl [Hxs]; · iexact Hxs
  isplitl [Hr]; · iexact Hr
  iexact Hst

/-- Slot 3 arrives and goes on. -/
theorem part22 {v2 v5 v9 v314 : BitVec 32} {Kt : PUnit → sProp 𝕄} :
    iprop(Ctx D X K ∗ owing c (oX2 c) ∗ exp c (zs 2) ∗ exp c (zr 2) ∗ (can c (xs 2) (xp c) (xr 2) ∗ ownAny (xp c) (recvS (Fin.succ 2) (hx c)))
        ∗ (iprop(owing c 0 ∗ done c (zs 2) ∗ zsPay D X c 2 ∗ done c (zr 2) ∗ exp c (xs 2) ∗ own c (recvS (Fin.succ 2) (hx c)) fullShare.right (rcvV D X c 2)) -∗ Kt ⟨⟩))
      ⊢ wpc c (k0_part22 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) v9 v314) Kt := by
  rw [k0_part22_eq_skeleton]; unfold k0_part22_skel
  simp only [semSignalWord, semWaitWord, Prog.lift, Prog.bind_op, Prog.bind_ret, Prog.pure_eq_ret, wp_deviceId]
  iintro ⟨#HC, HO, He_zs2, He_zr2, ⟨Hcan, Hd⟩, Hk⟩
  iapply (op_wait D X K c (zs 2) (O := oX2 c) (above_X2 c _ (by decide)) (sm := _) rfl (dst := sendQ 2) ((N_send 2).trans (amt_zs 2).symm) (pay_zs D X c 2)) $$ [HO He_zs2]
  · isplitr; · iexact HC
    isplitl [HO]; · iexact HO
    iexact He_zs2
  iintro ⟨HO, Hz_zs2, Hp_zs2⟩
  iapply (op_wait D X K c (zr 2) (O := oX2 c) (above_X2 c _ (by decide)) (sm := _) rfl (N_slab.trans (amt_zr 2).symm) (pay_zr D X c 2)) $$ [HO He_zr2]
  · isplitr; · iexact HC
    isplitl [HO]; · iexact HO
    iexact He_zr2
  iintro ⟨HO, Hz_zr2, Hp_zr2⟩
  ihave Hh := (own_halve c (recvS (Fin.succ 2) (hx c)) fullShare (rcvV D X c 2)) $$ Hp_zr2
  icases Hh with ⟨Hl, Hr⟩
  iapply (op_send_x K c 2 D X _ (dev13_eq c) (off_recv2 c) (sS := _) (sR := _) rfl rfl (O := oX2 c) (O' := 0) rfl) $$ [HO Hcan Hl Hd]
  · isplitr; · iexact HC
    isplitl [HO]; · iexact HO
    isplitl [Hcan]; · iexact Hcan
    isplitl [Hl]; · iexact Hl
    iexact Hd
  iintro ⟨HO, Hxs⟩
  iapply wpc_ret
  iapply Hk
  isplitl [HO]; · iexact HO
  isplitl [Hz_zs2]; · iexact Hz_zs2
  isplitl [Hp_zs2]; · iexact Hp_zs2
  isplitl [Hz_zr2]; · iexact Hz_zr2
  isplitl [Hxs]; · iexact Hxs
  iexact Hr

/-- Its rows are added: the own half is complete. -/
theorem part23 {v2 v5 v9 : BitVec 32} {Kt : PUnit → sProp 𝕄} :
    iprop(Ctx D X K ∗ owing c 0 ∗ own c (stgS (hx c)) fullShare (ownV D X c 1) ∗ own c (recvS (Fin.succ 2) (hx c)) fullShare.right (rcvV D X c 2) ∗ exp c (xs 0)
        ∗ (iprop(owing c 0 ∗ own c (stgS (hx c)) fullShare (ownV D X c 2) ∗ own c (recvS (Fin.succ 2) (hx c)) fullShare.right (rcvV D X c 2) ∗ done c (xs 0) ∗ xsPay D X c 0) -∗ Kt ⟨⟩))
      ⊢ wpc c (k0_part23 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v2 v5 (zw c) v9 (hot D c 2)) Kt := by
  rw [k0_part23_eq_skeleton]; unfold k0_part23_skel
  simp only [semSignalWord, semWaitWord, Prog.lift, Prog.bind_op, Prog.bind_ret, Prog.pure_eq_ret, wp_deviceId]
  iintro ⟨#HC, HO, Hst, Hr, He_xs0, Hk⟩
  iapply (wp_load_at c stgM (off_half c)) $$ Hst; iintro Hst
  iapply (wp_load_at c recvM (off_slab2 c)) $$ Hr; iintro Hr
  iapply (wp_load_at c stgM (off_half c)) $$ Hst; iintro Hst
  iapply (wp_store_at c stgM (off_half c)) $$ Hst; iintro Hst
  iapply (op_wait D X K c (xs 0) (O := 0) (Above.zero _) (sm := _) rfl (N_slab.trans (amt_xs 0).symm) (pay_xs D X c 0)) $$ [HO He_xs0]
  · isplitr; · iexact HC
    isplitl [HO]; · iexact HO
    iexact He_xs0
  iintro ⟨HO, Hz_xs0, Hp_xs0⟩
  iapply wpc_ret
  iapply Hk
  isplitl [HO]; · iexact HO
  isplitl [Hst]; · iexact Hst
  isplitl [Hr]; · iexact Hr
  isplitl [Hz_xs0]; · iexact Hz_xs0
  iexact Hp_xs0

/-- Slot 1 of the other half arrives from across x and is added. -/
theorem part24 {v5 v9 : BitVec 32} {Kt : PUnit → sProp 𝕄} :
    iprop(Ctx D X K ∗ owing c 0 ∗ exp c (xr 0) ∗ own c (stgS (ot (hx c))) fullShare (stg0V D X c (ot (hx c))) ∗ exp c (xs 1)
        ∗ (iprop(owing c 0 ∗ done c (xr 0) ∗ xrPay D X c 0 ∗ own c (stgS (ot (hx c))) fullShare (peerV D X c 0) ∗ done c (xs 1) ∗ xsPay D X c 1) -∗ Kt ⟨⟩))
      ⊢ wpc c (k0_part24 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v5 (zw c) v9 (hot D c 0)) Kt := by
  rw [k0_part24_eq_skeleton]; unfold k0_part24_skel
  simp only [semSignalWord, semWaitWord, Prog.lift, Prog.bind_op, Prog.bind_ret, Prog.pure_eq_ret, wp_deviceId]
  iintro ⟨#HC, HO, He_xr0, Hst, He_xs1, Hk⟩
  iapply (op_wait D X K c (xr 0) (O := 0) (Above.zero _) (sm := _) rfl (N_slab.trans (amt_xr 0).symm) (pay_xr D X c 0)) $$ [HO He_xr0]
  · isplitr; · iexact HC
    isplitl [HO]; · iexact HO
    iexact He_xr0
  iintro ⟨HO, Hz_xr0, Hp_xr0⟩
  iapply (wp_load_at c stgM (off_other c)) $$ Hst; iintro Hst
  iapply (wp_load_at c recvM (off_peer0 c)) $$ Hp_xr0; iintro Hp_xr0
  iapply (wp_load_at c stgM (off_other c)) $$ Hst; iintro Hst
  iapply (wp_store_at c stgM (off_other c)) $$ Hst; iintro Hst
  iapply (op_wait D X K c (xs 1) (O := 0) (Above.zero _) (sm := _) rfl (N_slab.trans (amt_xs 1).symm) (pay_xs D X c 1)) $$ [HO He_xs1]
  · isplitr; · iexact HC
    isplitl [HO]; · iexact HO
    iexact He_xs1
  iintro ⟨HO, Hz_xs1, Hp_xs1⟩
  iapply wpc_ret
  iapply Hk
  isplitl [HO]; · iexact HO
  isplitl [Hz_xr0]; · iexact Hz_xr0
  isplitl [Hp_xr0]; · iexact Hp_xr0
  isplitl [Hst]; · iexact Hst
  isplitl [Hz_xs1]; · iexact Hz_xs1
  iexact Hp_xs1

/-- Slot 2 of the other half arrives from across x and is added. -/
theorem part25 {v5 v9 : BitVec 32} {Kt : PUnit → sProp 𝕄} :
    iprop(Ctx D X K ∗ owing c 0 ∗ exp c (xr 1) ∗ own c (stgS (ot (hx c))) fullShare (peerV D X c 0) ∗ exp c (xs 2)
        ∗ (iprop(owing c 0 ∗ done c (xr 1) ∗ xrPay D X c 1 ∗ own c (stgS (ot (hx c))) fullShare (peerV D X c 1) ∗ done c (xs 2) ∗ xsPay D X c 2) -∗ Kt ⟨⟩))
      ⊢ wpc c (k0_part25 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11 c v5 (zw c) v9 (hot D c 1)) Kt := by
  rw [k0_part25_eq_skeleton]; unfold k0_part25_skel
  simp only [semSignalWord, semWaitWord, Prog.lift, Prog.bind_op, Prog.bind_ret, Prog.pure_eq_ret, wp_deviceId]
  iintro ⟨#HC, HO, He_xr1, Hst, He_xs2, Hk⟩
  iapply (op_wait D X K c (xr 1) (O := 0) (Above.zero _) (sm := _) rfl (N_slab.trans (amt_xr 1).symm) (pay_xr D X c 1)) $$ [HO He_xr1]
  · isplitr; · iexact HC
    isplitl [HO]; · iexact HO
    iexact He_xr1
  iintro ⟨HO, Hz_xr1, Hp_xr1⟩
  iapply (wp_load_at c stgM (off_other c)) $$ Hst; iintro Hst
  iapply (wp_load_at c recvM (off_peer1 c)) $$ Hp_xr1; iintro Hp_xr1
  iapply (wp_load_at c stgM (off_other c)) $$ Hst; iintro Hst
  iapply (wp_store_at c stgM (off_other c)) $$ Hst; iintro Hst
  iapply (op_wait D X K c (xs 2) (O := 0) (Above.zero _) (sm := _) rfl (N_slab.trans (amt_xs 2).symm) (pay_xs D X c 2)) $$ [HO He_xs2]
  · isplitr; · iexact HC
    isplitl [HO]; · iexact HO
    iexact He_xs2
  iintro ⟨HO, Hz_xs2, Hp_xs2⟩
  iapply wpc_ret
  iapply Hk
  isplitl [HO]; · iexact HO
  isplitl [Hz_xr1]; · iexact Hz_xr1
  isplitl [Hp_xr1]; · iexact Hp_xr1
  isplitl [Hst]; · iexact Hst
  isplitl [Hz_xs2]; · iexact Hz_xs2
  iexact Hp_xs2

end Cert.K01

end
-- ==== Proof.Slabs.lean ====
/-
The scratch buffers as their slabs, and the result as its two halves of columns.
-/
module

public import proofs.«01_k».proof.Proof.Part2
public import Idealize.ShloMosaic.Lib.GluedParts

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

section Generic
variable {sh : Shape} {e : EltTy} (m : Memref sig .tc .vmem sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A buffer held at anything is its slabs, each held at anything, -/
theorem any_split : (ownAny c m : sProp 𝕄) ⊢ bigSep Finset.univ fun t => ownAny (F := F) c (m.slice (r t) (hr t)) := by
  unfold ownAny
  iintro ⟨%Y, H⟩
  have hm (t : T) : own c (m.slice (r t) (hr t)) fullShare (fun j => Y ((r t).emb j)) ⊢ (iprop(∃ Y, own c (m.slice (r t) (hr t)) fullShare Y) : sProp 𝕄) := by
    iintro H; iexists _; iexact H
  iapply ((owns_rects (c : Thread nD τ) m fullShare r hr hd hcov Y).trans (bigSep_mono fun t _ => hm t))
  iexact H

/-- and back. -/
theorem any_join : (bigSep Finset.univ fun t => ownAny (F := F) c (m.slice (r t) (hr t))) ⊢ (ownAny c m : sProp 𝕄) := by
  unfold ownAny
  refine (BI.bigSep_exists_pi Finset.univ (fun t Y => own c (m.slice (r t) (hr t)) fullShare Y)).trans ?_
  iintro ⟨%Ys, H⟩
  have hg (t : T) : (fun j => Rect.glue r hcov Ys ((r t).emb j)) = Ys t := funext fun y => Rect.glue_emb r hcov hd Ys t y
  iexists (Rect.glue r hcov Ys)
  iapply (owns_of_rects (c : Thread nD τ) m fullShare r hr hd hcov (Rect.glue r hcov Ys))
  simp only [hg]
  iexact H

end Generic

/-- The slabs' rectangles. -/
abbrev recvR (t : Fin 4 × Fin 2) : Rect S4x2x560x512 := Rect.unit (s := S4x2x560x512) ![t.1.val, t.2.val, 0, 0] S1x1x560x512.size (recv_inb t.1 t.2)
abbrev sendR (j : Fin 3) : Rect S3x560x512 := Rect.unit (s := S3x560x512) ![j.val, 0, 0] S1x560x512.size (send_inb j)
abbrev crR (j : Fin 3) : Rect S3x8x128 := Rect.unit (s := S3x8x128) ![j.val, 0, 0] S1x8x128.size (cr_inb j)
abbrev halfR (h : Fin 2) : Rect S2x2048x512 := Rect.unit (s := S2x2048x512) ![h.val, 0, 0] S1x2048x512.size (half_inb h)

theorem recvR_disj (t t' : Fin 4 × Fin 2) (h : t ≠ t') : Disjoint (recvR t).set (recvR t').set := by
  by_cases h1 : t.1 = t'.1
  · have h2 : t.2 ≠ t'.2 := fun e => h (Prod.ext h1 e)
    have h3 : t.2.val ≠ t'.2.val := fun e => h2 (Fin.ext e)
    refine Rect.unit_disjoint (1 : Fin 4) ?_
    show t.2.val + 1 ≤ t'.2.val ∨ t'.2.val + 1 ≤ t.2.val
    omega
  · have h3 : t.1.val ≠ t'.1.val := fun e => h1 (Fin.ext e)
    refine Rect.unit_disjoint (0 : Fin 4) ?_
    show t.1.val + 1 ≤ t'.1.val ∨ t'.1.val + 1 ≤ t.1.val
    omega
theorem recvR_cov : (Finset.univ : Finset (Fin 4 × Fin 2)).biUnion (fun t => (recvR t).set) = Finset.univ :=
  Finset.eq_univ_of_forall fun x => Finset.mem_biUnion.mpr ⟨(x (0 : Fin 4), x (1 : Fin 4)), Finset.mem_univ _, Rect.mem_set_unit.mpr fun a => by
    match a with
    | ⟨0, _⟩ => exact ⟨le_rfl, Nat.lt_succ_self _⟩
    | ⟨1, _⟩ => exact ⟨le_rfl, Nat.lt_succ_self _⟩
    | ⟨2, _⟩ => exact ⟨Nat.zero_le _, by have := (x (2 : Fin 4)).isLt; show (x (2 : Fin 4)).val < 0 + 560; rw [Nat.zero_add]; exact this⟩
    | ⟨3, _⟩ => exact ⟨Nat.zero_le _, by have := (x (3 : Fin 4)).isLt; show (x (3 : Fin 4)).val < 0 + 512; rw [Nat.zero_add]; exact this⟩⟩

theorem sendR_disj (t t' : Fin 3) (h : t ≠ t') : Disjoint (sendR t).set (sendR t').set := by
  have h3 : t.val ≠ t'.val := fun e => h (Fin.ext e)
  refine Rect.unit_disjoint (0 : Fin 3) ?_
  show t.val + 1 ≤ t'.val ∨ t'.val + 1 ≤ t.val
  omega
theorem sendR_cov : (Finset.univ : Finset (Fin 3)).biUnion (fun t => (sendR t).set) = Finset.univ :=
  Finset.eq_univ_of_forall fun x => Finset.mem_biUnion.mpr ⟨x (0 : Fin 3), Finset.mem_univ _, Rect.mem_set_unit.mpr fun a => by
    match a with
    | ⟨0, _⟩ => exact ⟨le_rfl, Nat.lt_succ_self _⟩
    | ⟨1, _⟩ => exact ⟨Nat.zero_le _, by have := (x (1 : Fin 3)).isLt; show (x (1 : Fin 3)).val < 0 + 560; rw [Nat.zero_add]; exact this⟩
    | ⟨2, _⟩ => exact ⟨Nat.zero_le _, by have := (x (2 : Fin 3)).isLt; show (x (2 : Fin 3)).val < 0 + 512; rw [Nat.zero_add]; exact this⟩⟩

theorem crR_disj (t t' : Fin 3) (h : t ≠ t') : Disjoint (crR t).set (crR t').set := by
  have h3 : t.val ≠ t'.val := fun e => h (Fin.ext e)
  refine Rect.unit_disjoint (0 : Fin 3) ?_
  show t.val + 1 ≤ t'.val ∨ t'.val + 1 ≤ t.val
  omega
theorem crR_cov : (Finset.univ : Finset (Fin 3)).biUnion (fun t => (crR t).set) = Finset.univ :=
  Finset.eq_univ_of_forall fun x => Finset.mem_biUnion.mpr ⟨x (0 : Fin 3), Finset.mem_univ _, Rect.mem_set_unit.mpr fun a => by
    match a with
    | ⟨0, _⟩ => exact ⟨le_rfl, Nat.lt_succ_self _⟩
    | ⟨1, _⟩ => exact ⟨Nat.zero_le _, by have := (x (1 : Fin 3)).isLt; show (x (1 : Fin 3)).val < 0 + 8; rw [Nat.zero_add]; exact this⟩
    | ⟨2, _⟩ => exact ⟨Nat.zero_le _, by have := (x (2 : Fin 3)).isLt; show (x (2 : Fin 3)).val < 0 + 128; rw [Nat.zero_add]; exact this⟩⟩

theorem halfR_disj (t t' : Fin 2) (h : t ≠ t') : Disjoint (halfR t).set (halfR t').set := by
  have h3 : t.val ≠ t'.val := fun e => h (Fin.ext e)
  refine Rect.unit_disjoint (0 : Fin 3) ?_
  show t.val + 1 ≤ t'.val ∨ t'.val + 1 ≤ t.val
  omega
theorem halfR_cov : (Finset.univ : Finset (Fin 2)).biUnion (fun t => (halfR t).set) = Finset.univ :=
  Finset.eq_univ_of_forall fun x => Finset.mem_biUnion.mpr ⟨x (0 : Fin 3), Finset.mem_univ _, Rect.mem_set_unit.mpr fun a => by
    match a with
    | ⟨0, _⟩ => exact ⟨le_rfl, Nat.lt_succ_self _⟩
    | ⟨1, _⟩ => exact ⟨Nat.zero_le _, by have := (x (1 : Fin 3)).isLt; show (x (1 : Fin 3)).val < 0 + 2048; rw [Nat.zero_add]; exact this⟩
    | ⟨2, _⟩ => exact ⟨Nat.zero_le _, by have := (x (2 : Fin 3)).isLt; show (x (2 : Fin 3)).val < 0 + 512; rw [Nat.zero_add]; exact this⟩⟩

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_slabs (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

/-- The two halves in the device's order: its own, then the other. -/
theorem by_half (A : Fin 2 → sProp 𝕄) : iprop(A 0 ∗ A 1) ⊢ iprop(A (hx c) ∗ A (ot (hx c))) := by
  rcases (show hx c = 0 ∨ hx c = 1 by revert c; decide +kernel) with h | h <;> rw [h]
  · exact .rfl
  · show iprop(A 0 ∗ A 1) ⊢ iprop(A 1 ∗ A 0); iintro ⟨H0, H1⟩; isplitl [H1] <;> iassumption
theorem of_half (A : Fin 2 → sProp 𝕄) : iprop(A (hx c) ∗ A (ot (hx c))) ⊢ iprop(A 0 ∗ A 1) := by
  rcases (show hx c = 0 ∨ hx c = 1 by revert c; decide +kernel) with h | h <;> rw [h]
  · exact .rfl
  · show iprop(A 1 ∗ A 0) ⊢ iprop(A 0 ∗ A 1); iintro ⟨H0, H1⟩; isplitl [H1] <;> iassumption

/-- The receive buffer's slabs other than slot 0's: the own half's, then the other half's. -/
abbrev recvs (c : Dev nD) (h : Fin 2) : sProp 𝕄 := iprop(ownAny c (recvS 1 h) ∗ ownAny c (recvS 2 h) ∗ ownAny c (recvS 3 h))

/-- Every scratch buffer, slab by slab, each at anything. -/
def slabs (c : Dev nD) : sProp 𝕄 :=
  iprop((ownAny c (sendS 0) ∗ ownAny c (sendS 1) ∗ ownAny c (sendS 2))
    ∗ ((ownAny c (recvS 0 0) ∗ ownAny c (recvS 0 1)) ∗ recvs c (hx c) ∗ recvs c (ot (hx c)))
    ∗ (ownAny c (xbfS 0) ∗ ownAny c (xbfS 1)) ∗ (ownAny c (stgS 0) ∗ ownAny c (stgS 1))
    ∗ ownAny c csM ∗ (ownAny c (crS 0) ∗ ownAny c (crS 1) ∗ ownAny c (crS 2)))

/-- Every scratch buffer, whole, each at anything. -/
def wholes (c : Dev nD) : sProp 𝕄 :=
  iprop(ownAny c sendM ∗ ownAny c recvM ∗ ownAny c xbfM ∗ ownAny c stgM ∗ ownAny c csM ∗ ownAny c crM)

theorem wholes_slabs : wholes (F := F) c ⊢ slabs c := by
  unfold wholes slabs
  iintro ⟨Hs, Hr, Hx, Hg, Hc, Hk⟩
  isplitl [Hs]
  · ihave H := (any_split c sendM sendR (fun _ _ => rfl) sendR_disj sendR_cov) $$ Hs
    ihave H := (Entails.of_eq (bigSep_three _)) $$ H
    iexact H
  isplitl [Hr]
  · ihave H := (any_split c recvM recvR (fun _ _ => rfl) recvR_disj recvR_cov) $$ Hr
    ihave H := (Entails.of_eq (bigSep_slabs _)) $$ H
    icases H with ⟨H00, H01, H10, H11, H20, H21, H30, H31⟩
    isplitl [H00 H01]
    · isplitl [H00]; · iexact H00
      iexact H01
    iapply (by_half c (recvs c))
    isplitl [H10 H20 H30]
    · isplitl [H10]; · iexact H10
      isplitl [H20]; · iexact H20
      iexact H30
    · isplitl [H11]; · iexact H11
      isplitl [H21]; · iexact H21
      iexact H31
  isplitl [Hx]
  · ihave H := (any_split c xbfM halfR (fun _ _ => rfl) halfR_disj halfR_cov) $$ Hx
    ihave H := (Entails.of_eq (bigSep_two _)) $$ H
    iexact H
  isplitl [Hg]
  · ihave H := (any_split c stgM halfR (fun _ _ => rfl) halfR_disj halfR_cov) $$ Hg
    ihave H := (Entails.of_eq (bigSep_two _)) $$ H
    iexact H
  isplitl [Hc]; · iexact Hc
  ihave H := (any_split c crM crR (fun _ _ => rfl) crR_disj crR_cov) $$ Hk
  ihave H := (Entails.of_eq (bigSep_three _)) $$ H
  iexact H

theorem slabs_wholes : slabs (F := F) c ⊢ wholes c := by
  unfold wholes slabs
  iintro ⟨Hs, ⟨⟨H00, H01⟩, Hr⟩, Hx, Hg, Hc, Hk⟩
  isplitl [Hs]
  · iapply (any_join c sendM sendR (fun _ _ => rfl) sendR_disj sendR_cov)
    iapply (Entails.of_eq (bigSep_three _).symm); iexact Hs
  isplitl [H00 H01 Hr]
  · ihave H := (of_half c (recvs c)) $$ Hr
    icases H with ⟨⟨H10, H20, H30⟩, H11, H21, H31⟩
    iapply (any_join c recvM recvR (fun _ _ => rfl) recvR_disj recvR_cov)
    iapply (Entails.of_eq (bigSep_slabs _).symm)
    isplitl [H00]; · iexact H00
    isplitl [H01]; · iexact H01
    isplitl [H10]; · iexact H10
    isplitl [H11]; · iexact H11
    isplitl [H20]; · iexact H20
    isplitl [H21]; · iexact H21
    isplitl [H30]; · iexact H30
    iexact H31
  isplitl [Hx]
  · iapply (any_join c xbfM halfR (fun _ _ => rfl) halfR_disj halfR_cov)
    iapply (Entails.of_eq (bigSep_two _).symm); iexact Hx
  isplitl [Hg]
  · iapply (any_join c stgM halfR (fun _ _ => rfl) halfR_disj halfR_cov)
    iapply (Entails.of_eq (bigSep_two _).symm); iexact Hg
  isplitl [Hc]; · iexact Hc
  iapply (any_join c crM crR (fun _ _ => rfl) crR_disj crR_cov)
  iapply (Entails.of_eq (bigSep_three _).symm); iexact Hk

/-! ## The result's two halves of columns -/

theorem out_disj : Disjoint rLo.set rHi.set := Rect.unit_disjoint (1 : Fin 2) (Or.inl (by decide))

variable (D : Dev nD → Vec F S2048 .i32) (X : Dev nD → Vec F S2048x1024 .bf16)

theorem outV_lo : (fun j => outV D X c (rLo.emb j)) = k0_pay56 (finV D X c 0) := by
  funext j
  have h0 := ValueIdx.idx2_lt1 j
  have e1 : ((rLo.emb j) (1 : Fin 2)).val = (j (1 : Fin 2)).val := by show 0 + 1 * (j (1 : Fin 2)).val = _; omega
  have hj : (⟨((rLo.emb j) (1 : Fin 2)).val, by rw [e1]; exact h0⟩ : Fin 512) = j (1 : Fin 2) := Fin.ext e1
  have hi : ((rLo.emb j) (0 : Fin 2)) = j (0 : Fin 2) := Fin.ext (by show 0 + 1 * (j (0 : Fin 2)).val = _; omega)
  unfold outV
  rw [dif_pos (show ((rLo.emb j) (1 : Fin 2)).val < 512 by rw [e1]; exact h0)]
  refine congrArg (k0_pay56 (finV D X c 0)) ?_
  rw [hj, hi]; exact (ValueIdx.eq_ix2 j).symm
theorem outV_hi : (fun j => outV D X c (rHi.emb j)) = k0_pay1 (finV D X c 1) := by
  funext j
  have h0 := ValueIdx.idx2_lt1 j
  have e1 : ((rHi.emb j) (1 : Fin 2)).val = 512 + (j (1 : Fin 2)).val := by show 512 + 1 * (j (1 : Fin 2)).val = _; omega
  have hj (h) : (⟨((rHi.emb j) (1 : Fin 2)).val - 512, h⟩ : Fin 512) = j (1 : Fin 2) := Fin.ext (by show _ - 512 = _; omega)
  have hi : ((rHi.emb j) (0 : Fin 2)) = j (0 : Fin 2) := Fin.ext (by show 0 + 1 * (j (0 : Fin 2)).val = _; omega)
  unfold outV
  rw [dif_neg (show ¬ ((rHi.emb j) (1 : Fin 2)).val < 512 by omega)]
  refine congrArg (k0_pay1 (finV D X c 1)) ?_
  rw [hj, hi]; exact (ValueIdx.eq_ix2 j).symm

abbrev outR : Fin 2 → Rect S2048x1024 := ![rLo, rHi]
theorem outR_str (t : Fin 2) (a) : (outR t).stride a = 1 := by revert a; match t with | 0 => exact fun _ => rfl | 1 => exact fun _ => rfl
theorem outR_disj (t t' : Fin 2) (h : t ≠ t') : Disjoint (outR t).set (outR t').set := by
  match t, t' with
  | 0, 0 => exact absurd rfl h
  | 0, 1 => exact out_disj
  | 1, 0 => exact out_disj.symm
  | 1, 1 => exact absurd rfl h
theorem outR_cov : (Finset.univ : Finset (Fin 2)).biUnion (fun t => (outR t).set) = Finset.univ :=
  Finset.eq_univ_of_forall fun x => by
    have h0 := ValueIdx.idx2_lt0 x
    have h1 := ValueIdx.idx2_lt1 x
    by_cases h : (x (1 : Fin 2)).val < 512
    · refine Finset.mem_biUnion.mpr ⟨0, Finset.mem_univ _, ?_⟩
      show x ∈ rLo.set
      refine Rect.mem_set_unit.mpr fun a => ?_
      match a with
      | ⟨0, _⟩ => exact ⟨Nat.zero_le _, by show (x (0 : Fin 2)).val < 0 + 2048; omega⟩
      | ⟨1, _⟩ => exact ⟨Nat.zero_le _, by show (x (1 : Fin 2)).val < 0 + 512; omega⟩
    · refine Finset.mem_biUnion.mpr ⟨1, Finset.mem_univ _, ?_⟩
      show x ∈ rHi.set
      refine Rect.mem_set_unit.mpr fun a => ?_
      match a with
      | ⟨0, _⟩ => exact ⟨Nat.zero_le _, by show (x (0 : Fin 2)).val < 0 + 2048; omega⟩
      | ⟨1, _⟩ => exact ⟨by show 512 ≤ (x (1 : Fin 2)).val; omega, by show (x (1 : Fin 2)).val < 512 + 512; omega⟩

theorem out_split : (ownAny c oM : sProp 𝕄) ⊢ iprop(ownAny (F := F) c oLo ∗ ownAny c oHi) := by
  refine (any_split c oM outR outR_str outR_disj outR_cov).trans ?_
  rw [bigSep_two]; exact .rfl
theorem out_join : iprop(own c oLo fullShare (k0_pay56 (finV D X c 0)) ∗ own c oHi fullShare (k0_pay1 (finV D X c 1))) ⊢ own c oM fullShare (outV D X c) := by
  refine BIBase.Entails.trans ?_ (owns_of_rects (c : Thread nD τ) oM fullShare outR outR_str outR_disj outR_cov (outV D X c))
  rw [bigSep_two, ← outV_lo, ← outV_hi]; exact .rfl

end Cert.K01

end
-- ==== Proof.Body.lean ====
/-
The body: its parts one after the other.
-/
module

public import proofs.«01_k».proof.Proof.Slabs

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Dev nD → Vec F S2048 .i32) (X : Dev nD → Vec F S2048x1024 .bf16)
variable (K : Dev nD × Option (Fin 18) → ℕ) (c : Dev nD)

/-- The tokens of the copies a device starts, -/
def cans (c : Dev nD) : sProp 𝕄 :=
  iprop((can c (cs 0) (up 0 c) (cr 0) ∗ can c (cs 1) (up 1 c) (cr 1) ∗ can c (cs 2) (up 2 c) (cr 2)) ∗ (can c (zs 0) (up 0 c) (zr 0) ∗ can c (zs 1) (up 1 c) (zr 1) ∗ can c (zs 2) (up 2 c) (zr 2)) ∗ (can c (xs 0) (xp c) (xr 0) ∗ can c (xs 1) (xp c) (xr 1) ∗ can c (xs 2) (xp c) (xr 2)))
/-- of the copies it waits for, -/
def exps (c : Dev nD) : sProp 𝕄 :=
  iprop((exp c (cr 0) ∗ exp c (cr 1) ∗ exp c (cr 2)) ∗ (exp c (zr 0) ∗ exp c (zr 1) ∗ exp c (zr 2)) ∗ (exp c (xr 0) ∗ exp c (xr 1) ∗ exp c (xr 2)))
/-- and all its copies' cells, drained. -/
def dones (c : Dev nD) : sProp 𝕄 :=
  iprop((done c (cs 0) ∗ done c (cs 1) ∗ done c (cs 2)) ∗ (done c (cr 0) ∗ done c (cr 1) ∗ done c (cr 2)) ∗ (done c (zs 0) ∗ done c (zs 1) ∗ done c (zs 2)) ∗ (done c (zr 0) ∗ done c (zr 1) ∗ done c (zr 2)) ∗ (done c (xs 0) ∗ done c (xs 1) ∗ done c (xs 2)) ∗ (done c (xr 0) ∗ done c (xr 1) ∗ done c (xr 2)))
/-- The entry barrier: the signals a device owes and the wait it is due. -/
def entry (c : Dev nD) : sProp 𝕄 :=
  iprop((dutyTok ER (barCell (up 0 c)) 0 2 ∗ dutyTok ER (barCell (up 1 c)) 0 1 ∗ dutyTok ER (barCell (up 2 c)) 0 0 ∗ dutyTok ER (barCell (xp c)) 0 3)
    ∗ (atPos ER (barCell c) 0 ∅ 0 ∗ cred (tallyAt (barCell c) () 4)))

theorem any_of {sh e} (m : Memref sig .tc .vmem sh e) (Y) : own c m fullShare Y ⊢ (ownAny (F := F) c m : sProp 𝕄) := by
  unfold ownAny; iintro H; iexists _; iexact H
theorem any_both {sh e} (m : Memref sig .tc .vmem sh e) (Y) : iprop(own c m fullShare.left Y ∗ own c m fullShare.right Y) ⊢ (ownAny (F := F) c m : sProp 𝕄) :=
  (own_join c m fullShare Y).trans (any_of c m Y)
theorem any_thirds (Y) : iprop(own c csM (csq 0) Y ∗ own c csM (csq 1) Y ∗ own c csM (csq 2) Y) ⊢ (ownAny (F := F) c csM : sProp 𝕄) := by
  iintro ⟨H0, H1, H2⟩
  iapply (any_both c csM Y)
  isplitl [H0]; · iexact H0
  iapply (own_join c csM fullShare.right Y)
  isplitl [H1]; · iexact H1
  iexact H2

theorem finV_own : finV D X c (hx c) = ownV D X c 2 := if_pos rfl
theorem finV_peer : finV D X c (ot (hx c)) = peerV D X c 2 :=
  if_neg (by revert c; decide +kernel)

/-- Everything up to the low half of the result. -/
theorem part26 {Kt : FVec F S2048x512 .bf16 → sProp 𝕄} :
    iprop(Ctx D X K ∗ owing c (O₀ c) ∗ entry c ∗ cans c ∗ exps c ∗ slabs c ∗ own c xM fullShare (X c) ∗ own c dM fullShare (D c)
        ∗ (iprop(owing c 0 ∗ semVal (barCell c) 0 ∗ dones c
          ∗ ((ownAny c (sendS 0) ∗ ownAny c (sendS 1) ∗ ownAny c (sendS 2))
            ∗ ((ownAny c (recvS 0 0) ∗ ownAny c (recvS 0 1)) ∗ recvs c (hx c) ∗ recvs c (ot (hx c)))
            ∗ (ownAny c (xbfS 0) ∗ ownAny c (xbfS 1))
            ∗ ownAny c csM ∗ (ownAny c (crS 0) ∗ ownAny c (crS 1) ∗ ownAny c (crS 2)))
          ∗ (own c (stgS 0) fullShare (finV D X c 0) ∗ own c (stgS 1) fullShare (finV D X c 1))
          ∗ own c xM fullShare (X c) ∗ own c dM fullShare (D c)) -∗ Kt (k0_pay56 (finV D X c 0))))
      ⊢ wpc c (k0_part26 (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11) Kt := by
  rw [k0_part26_eq_skeleton]; unfold k0_part26_skel
  simp only [Prog.lift, Prog.bind_op, Prog.bind_ret, Prog.pure_eq_ret, wp_bind]
  unfold entry cans exps slabs
  iintro ⟨#HC, HO, ⟨⟨Ht0, Ht1, Ht2, Ht3⟩, Hb⟩, ⟨⟨Hcan_cs0, Hcan_cs1, Hcan_cs2⟩, ⟨Hcan_zs0, Hcan_zs1, Hcan_zs2⟩, Hcan_xs0, Hcan_xs1, Hcan_xs2⟩, ⟨⟨He_cr0, He_cr1, He_cr2⟩, ⟨He_zr0, He_zr1, He_zr2⟩, He_xr0, He_xr1, He_xr2⟩, ⟨⟨Hs0, Hs1, Hs2⟩, ⟨⟨Hk0, Hk1⟩, ⟨Hr1, Hr2, Hr3⟩, ⟨Hq1, Hq2, Hq3⟩⟩, ⟨Hx0, Hx1⟩, ⟨Hg0, Hg1⟩, Hcs, ⟨Hcr0, Hcr1, Hcr2⟩⟩, Hx, Hd, Hk⟩
  iapply (part1 D X K c)
  isplitr; · iexact HC
  isplitl [HO]
  · iexact HO
  isplitl [Ht0]
  · iexact Ht0
  isplitl [Hr3]
  · iexact Hr3
  isplitl [Hcr2]
  · iexact Hcr2
  iintro %b1_0 %b1_1 %b1_2 %b1_3 %b1_4 %b1_5 %b1_6 HO
  try dsimp only
  iapply (part2 D X K c)
  isplitr; · iexact HC
  isplitl [HO]
  · iexact HO
  isplitl [Ht1]
  · iexact Ht1
  isplitl [Hr2]
  · iexact Hr2
  isplitl [Hcr1]
  · iexact Hcr1
  isplitl [Ht2]
  · iexact Ht2
  isplitl [Hr1]
  · iexact Hr1
  isplitl [Hcr0]
  · iexact Hcr0
  iintro HO
  try dsimp only
  iapply (part3 D X K c)
  isplitr; · iexact HC
  isplitl [HO]
  · iexact HO
  isplitl [Ht3]
  · iexact Ht3
  isplitl [Hq1 Hq2 Hq3]
  · isplitl [Hq1]
    · iexact Hq1
    isplitl [Hq2]
    · iexact Hq2
    iexact Hq3
  isplitl [Hb]
  · iexact Hb
  isplitl [Hd]
  · iexact Hd
  isplitl [Hcs]
  · iexact Hcs
  iintro %b3_0 %b3_1 ⟨HO, Hbar, Hp0, Hp1, Hp2, Hp3, Hd, Hcs⟩
  try dsimp only
  unfold barPay
  try dsimp only
  icases Hp0 with ⟨Hu0, Hv0⟩
  icases Hp1 with ⟨Hu1, Hv1⟩
  icases Hp2 with ⟨Hu2, Hv2⟩
  icases Hp3 with ⟨Hw0, Hw1, Hw2⟩
  iapply (part4 D X K c)
  isplitr; · iexact HC
  isplitl [HO]
  · iexact HO
  isplitl [Hcan_cs0 Hv0]
  · isplitl [Hcan_cs0]
    · iexact Hcan_cs0
    iexact Hv0
  isplitl [Hcan_cs1 Hv1]
  · isplitl [Hcan_cs1]
    · iexact Hcan_cs1
    iexact Hv1
  isplitl [Hcs]
  · iexact Hcs
  iintro %b4_0 %b4_1 %b4_2 ⟨HO, He_cs0, He_cs1, Hcs⟩
  try dsimp only
  iapply (part5 D X K c)
  isplitr; · iexact HC
  isplitl [HO]
  · iexact HO
  isplitl [Hcan_cs2 Hv2]
  · isplitl [Hcan_cs2]
    · iexact Hcan_cs2
    iexact Hv2
  isplitl [Hcs]
  · iexact Hcs
  iintro %b5_0 ⟨HO, He_cs2⟩
  try dsimp only
  iapply (part6 c)
  try dsimp only
  iapply (part7 c)
  try dsimp only
  iapply (part8 D X K c)
  isplitr; · iexact HC
  isplitl [Hx]
  · iexact Hx
  isplitl [Hx0]
  · iexact Hx0
  isplitl [Hx1]
  · iexact Hx1
  iintro ⟨Hx, Hx0, Hx1⟩
  try dsimp only
  ihave Hxx := (by_half c (fun h => own c (xbfS h) fullShare (xbf (X c) h))) $$ [Hx0 Hx1]
  · isplitl [Hx0] <;> iassumption
  icases Hxx with ⟨Hxh, Hxo⟩
  iapply (part9 D X K c)
  isplitr; · iexact HC
  isplitl [HO]
  · iexact HO
  isplitl [Hxh]
  · iexact Hxh
  isplitl [Hs2]
  · iexact Hs2
  isplitl [Hcan_zs2 Hu2]
  · isplitl [Hcan_zs2]
    · iexact Hcan_zs2
    iexact Hu2
  iintro %b9_0 ⟨HO, Hxh, He_zs2⟩
  try dsimp only
  iapply (part10 D X K c)
  isplitr; · iexact HC
  isplitl [Hxh]
  · iexact Hxh
  isplitl [Hs1]
  · iexact Hs1
  iintro %b10_0 ⟨Hxh, Hs1⟩
  try dsimp only
  iapply (part11 D X K c)
  isplitr; · iexact HC
  isplitl [HO]
  · iexact HO
  isplitl [Hs1]
  · iexact Hs1
  isplitl [Hcan_zs1 Hu1]
  · isplitl [Hcan_zs1]
    · iexact Hcan_zs1
    iexact Hu1
  isplitl [Hxh]
  · iexact Hxh
  isplitl [Hs0]
  · iexact Hs0
  iintro %b11_0 ⟨HO, He_zs1, Hxh, Hs0⟩
  try dsimp only
  ihave Hxx := (of_half c (fun h => own c (xbfS h) fullShare (xbf (X c) h))) $$ [Hxh Hxo]
  · isplitl [Hxh] <;> iassumption
  icases Hxx with ⟨Hx0, Hx1⟩
  iapply (part12 D X K c)
  isplitr; · iexact HC
  isplitl [HO]
  · iexact HO
  isplitl [Hs0]
  · iexact Hs0
  isplitl [Hcan_zs0 Hu0]
  · isplitl [Hcan_zs0]
    · iexact Hcan_zs0
    iexact Hu0
  isplitl [Hx0]
  · iexact Hx0
  isplitl [Hx1]
  · iexact Hx1
  isplitl [Hk0]
  · iexact Hk0
  isplitl [Hk1]
  · iexact Hk1
  iintro ⟨HO, He_zs0, Hx0, Hx1, Hk0, Hk1⟩
  try dsimp only
  iapply (part13 D X K c)
  isplitr; · iexact HC
  isplitl [HO]
  · iexact HO
  isplitl [He_cs0]
  · iexact He_cs0
  isplitl [He_cr0]
  · iexact He_cr0
  isplitl [He_cs1]
  · iexact He_cs1
  isplitl [He_cr1]
  · iexact He_cr1
  iintro ⟨HO, Hz_cs0, Hc0, Hz_cr0, Hp0, Hz_cs1, Hc1, Hz_cr1, Hp1⟩
  try dsimp only
  iapply (part14 D X K c)
  isplitr; · iexact HC
  isplitl [HO]
  · iexact HO
  isplitl [He_cs2]
  · iexact He_cs2
  isplitl [He_cr2]
  · iexact He_cr2
  isplitl [Hc0]
  · iexact Hc0
  isplitl [Hp0]
  · iexact Hp0
  isplitl [Hp1]
  · iexact Hp1
  iintro ⟨HO, Hz_cs2, Hc2, Hz_cr2, Hp2, Hc0, Hp0, Hp1⟩
  try dsimp only
  iapply (part15 D X K c)
  isplitr; · iexact HC
  isplitl [Hp2]
  · iexact Hp2
  iintro Hp2
  try dsimp only
  iapply (part16 D c)
  try dsimp only
  iapply (part17 D X K c)
  isplitr; · iexact HC
  isplitl [Hk0]
  · iexact Hk0
  iintro Hk0
  try dsimp only
  iapply (part18 D X K c)
  isplitr; · iexact HC
  isplitl [Hg0]
  · iexact Hg0
  isplitl [Hg1]
  · iexact Hg1
  isplitl [Hk1]
  · iexact Hk1
  iintro ⟨Hg0, Hg1, Hk1⟩
  try dsimp only
  ihave Hgg := (by_half c (fun h => own c (stgS h) fullShare (stg0V D X c h))) $$ [Hg0 Hg1]
  · isplitl [Hg0] <;> iassumption
  icases Hgg with ⟨Hgh, Hgo⟩
  iapply (part19 D X K c)
  isplitr; · iexact HC
  isplitl [HO]
  · iexact HO
  isplitl [He_zs0]
  · iexact He_zs0
  isplitl [He_zr0]
  · iexact He_zr0
  isplitl [Hcan_xs0 Hw0]
  · isplitl [Hcan_xs0]
    · iexact Hcan_xs0
    iexact Hw0
  iintro ⟨HO, Hz_zs0, Hs0, Hz_zr0, He_xs0, Hr0⟩
  try dsimp only
  iapply (part20 D X K c)
  isplitr; · iexact HC
  isplitl [HO]
  · iexact HO
  isplitl [Hgh]
  · iexact Hgh
  isplitl [Hr0]
  · iexact Hr0
  isplitl [He_zs1]
  · iexact He_zs1
  iintro ⟨HO, Hgh, Hr0, Hz_zs1, Hs1⟩
  try dsimp only
  iapply (part21 D X K c)
  isplitr; · iexact HC
  isplitl [HO]
  · iexact HO
  isplitl [He_zr1]
  · iexact He_zr1
  isplitl [Hcan_xs1 Hw1]
  · isplitl [Hcan_xs1]
    · iexact Hcan_xs1
    iexact Hw1
  isplitl [Hgh]
  · iexact Hgh
  iintro ⟨HO, Hz_zr1, He_xs1, Hr1, Hgh⟩
  try dsimp only
  iapply (part22 D X K c)
  isplitr; · iexact HC
  isplitl [HO]
  · iexact HO
  isplitl [He_zs2]
  · iexact He_zs2
  isplitl [He_zr2]
  · iexact He_zr2
  isplitl [Hcan_xs2 Hw2]
  · isplitl [Hcan_xs2]
    · iexact Hcan_xs2
    iexact Hw2
  iintro ⟨HO, Hz_zs2, Hs2, Hz_zr2, He_xs2, Hr2⟩
  try dsimp only
  iapply (part23 D X K c)
  isplitr; · iexact HC
  isplitl [HO]
  · iexact HO
  isplitl [Hgh]
  · iexact Hgh
  isplitl [Hr2]
  · iexact Hr2
  isplitl [He_xs0]
  · iexact He_xs0
  iintro ⟨HO, Hgh, Hr2, Hz_xs0, Hl0⟩
  try dsimp only
  iapply (part24 D X K c)
  isplitr; · iexact HC
  isplitl [HO]
  · iexact HO
  isplitl [He_xr0]
  · iexact He_xr0
  isplitl [Hgo]
  · iexact Hgo
  isplitl [He_xs1]
  · iexact He_xs1
  iintro ⟨HO, Hz_xr0, Hq0, Hgo, Hz_xs1, Hl1⟩
  try dsimp only
  iapply (part25 D X K c)
  isplitr; · iexact HC
  isplitl [HO]
  · iexact HO
  isplitl [He_xr1]
  · iexact He_xr1
  isplitl [Hgo]
  · iexact Hgo
  isplitl [He_xs2]
  · iexact He_xs2
  iintro ⟨HO, Hz_xr1, Hq1, Hgo, Hz_xs2, Hl2⟩
  try dsimp only
  iapply (op_wait D X K c (xr 2) (O := 0) (Above.zero _) (sm := _) rfl (N_slab.trans (amt_xr 2).symm) (pay_xr D X c 2)) $$ [HO He_xr2]
  · isplitr; · iexact HC
    isplitl [HO]; · iexact HO
    iexact He_xr2
  iintro ⟨HO, Hz_xr2, Hq2⟩
  iapply (wp_load_at c stgM (off_other c)) $$ Hgo; iintro Hgo
  iapply (wp_load_at c recvM (off_peer2 c)) $$ Hq2; iintro Hq2
  iapply (wp_load_at c stgM (off_other c)) $$ Hgo; iintro Hgo
  iapply (wp_store_at c stgM (off_other c)) $$ Hgo; iintro Hgo
  ihave Hgg := (of_half c (fun h => own c (stgS h) fullShare (finV D X c h))) $$ [Hgh Hgo]
  · isplitl [Hgh]
    · iapply (Entails.of_eq (congrArg (fun v => own c (stgS (hx c)) fullShare v) (finV_own D X c).symm)); iexact Hgh
    · iapply (Entails.of_eq (congrArg (fun v => own c (stgS (ot (hx c))) fullShare v) (finV_peer D X c).symm)); iexact Hgo
  icases Hgg with ⟨Hg0, Hg1⟩
  iapply (wp_load_at c stgM (off' := ![(0 : Fin 2).val, 0, 0]) rfl) $$ Hg0; iintro Hg0
  iapply wpc_ret
  iapply Hk
  isplitl [HO]; · iexact HO
  isplitl [Hbar]; · iexact Hbar
  isplitl [Hz_cs0 Hz_cs1 Hz_cs2 Hz_cr0 Hz_cr1 Hz_cr2 Hz_zs0 Hz_zs1 Hz_zs2 Hz_zr0 Hz_zr1 Hz_zr2 Hz_xs0 Hz_xs1 Hz_xs2 Hz_xr0 Hz_xr1 Hz_xr2]
  · unfold dones
    isplitl [Hz_cs0 Hz_cs1 Hz_cs2]
    · isplitl [Hz_cs0]; · iexact Hz_cs0
      isplitl [Hz_cs1]; · iexact Hz_cs1
      iexact Hz_cs2
    isplitl [Hz_cr0 Hz_cr1 Hz_cr2]
    · isplitl [Hz_cr0]; · iexact Hz_cr0
      isplitl [Hz_cr1]; · iexact Hz_cr1
      iexact Hz_cr2
    isplitl [Hz_zs0 Hz_zs1 Hz_zs2]
    · isplitl [Hz_zs0]; · iexact Hz_zs0
      isplitl [Hz_zs1]; · iexact Hz_zs1
      iexact Hz_zs2
    isplitl [Hz_zr0 Hz_zr1 Hz_zr2]
    · isplitl [Hz_zr0]; · iexact Hz_zr0
      isplitl [Hz_zr1]; · iexact Hz_zr1
      iexact Hz_zr2
    isplitl [Hz_xs0 Hz_xs1 Hz_xs2]
    · isplitl [Hz_xs0]; · iexact Hz_xs0
      isplitl [Hz_xs1]; · iexact Hz_xs1
      iexact Hz_xs2
    isplitl [Hz_xr0]; · iexact Hz_xr0
    isplitl [Hz_xr1]; · iexact Hz_xr1
    iexact Hz_xr2
  isplitl [Hs0 Hs1 Hs2 Hk0 Hk1 Hl0 Hr0 Hl1 Hr1 Hl2 Hr2 Hq0 Hq1 Hq2 Hx0 Hx1 Hc0 Hc1 Hc2 Hp0 Hp1 Hp2]
  · isplitl [Hs0 Hs1 Hs2]
    · isplitl [Hs0]
      · iapply (any_of c); iexact Hs0
      isplitl [Hs1]
      · iapply (any_of c); iexact Hs1
      iapply (any_of c); iexact Hs2
    isplitl [Hk0 Hk1 Hl0 Hr0 Hl1 Hr1 Hl2 Hr2 Hq0 Hq1 Hq2]
    · isplitl [Hk0 Hk1]
      · isplitl [Hk0]
        · iapply (any_of c); iexact Hk0
        iapply (any_of c); iexact Hk1
      isplitl [Hl0 Hr0 Hl1 Hr1 Hl2 Hr2]
      · isplitl [Hl0 Hr0]
        · iapply (any_both c); isplitl [Hl0]; · iexact Hl0
          iexact Hr0
        isplitl [Hl1 Hr1]
        · iapply (any_both c); isplitl [Hl1]; · iexact Hl1
          iexact Hr1
        iapply (any_both c); isplitl [Hl2]; · iexact Hl2
        iexact Hr2
      isplitl [Hq0]
      · iapply (any_of c); iexact Hq0
      isplitl [Hq1]
      · iapply (any_of c); iexact Hq1
      iapply (any_of c); iexact Hq2
    isplitl [Hx0 Hx1]
    · isplitl [Hx0]
      · iapply (any_of c); iexact Hx0
      iapply (any_of c); iexact Hx1
    isplitl [Hc0 Hc1 Hc2]
    · iapply (any_thirds c)
      isplitl [Hc0]; · iexact Hc0
      isplitl [Hc1]; · iexact Hc1
      iexact Hc2
    isplitl [Hp0]
    · iapply (any_of c); iexact Hp0
    isplitl [Hp1]
    · iapply (any_of c); iexact Hp1
    iapply (any_of c); iexact Hp2
  isplitl [Hg0 Hg1]
  · isplitl [Hg0]; · iexact Hg0
    iexact Hg1
  isplitl [Hx]; · iexact Hx
  iexact Hd

/-- The whole body. -/
theorem body {Kt : PUnit → sProp 𝕄} :
    iprop(Ctx D X K ∗ owing c (O₀ c) ∗ entry c ∗ cans c ∗ exps c ∗ slabs c ∗ own c xM fullShare (X c) ∗ own c dM fullShare (D c) ∗ ownAny c oM
        ∗ (iprop(owing c 0 ∗ semVal (barCell c) 0 ∗ dones c ∗ slabs c ∗ own c xM fullShare (X c) ∗ own c dM fullShare (D c)
          ∗ own c oM fullShare (outV D X c)) -∗ Kt ⟨⟩))
      ⊢ wpc c (cc0_body (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11) Kt := by
  rw [cc0_body_eq_skeleton]; unfold cc0_body_skel
  simp only [Prog.lift, Prog.bind_op, Prog.bind_ret, Prog.pure_eq_ret, wp_bind]
  iintro ⟨#HC, HO, He, Hc, Hx, Hs, Hxm, Hdm, Ho, Hk⟩
  iapply (part26 D X K c)
  isplitr; · iexact HC
  isplitl [HO]; · iexact HO
  isplitl [He]; · iexact He
  isplitl [Hc]; · iexact Hc
  isplitl [Hx]; · iexact Hx
  isplitl [Hs]; · iexact Hs
  isplitl [Hxm]; · iexact Hxm
  isplitl [Hdm]; · iexact Hdm
  iintro ⟨HO, Hbar, Hdn, ⟨Hs, Hr, Hxb, Hcs, Hcr⟩, ⟨Hg0, Hg1⟩, Hxm, Hdm⟩
  try dsimp only
  ihave Ho := (out_split c) $$ Ho
  unfold ownAny
  icases Ho with ⟨⟨%Y0, Hlo⟩, ⟨%Y1, Hhi⟩⟩
  iapply (wp_load_at c oM (off' := ![0, 0]) rfl) $$ Hlo; iintro Hlo
  iapply (wp_store_at c oM (off' := ![0, 0]) rfl) $$ Hlo; iintro Hlo
  iapply (wp_load_at c stgM (off' := ![(1 : Fin 2).val, 0, 0]) rfl) $$ Hg1; iintro Hg1
  iapply (wp_load_at c oM (off' := ![0, 512]) rfl) $$ Hhi; iintro Hhi
  iapply (wp_store_at c oM (off' := ![0, 512]) rfl) $$ Hhi; iintro Hhi
  iapply wpc_ret
  iapply Hk
  isplitl [HO]; · iexact HO
  isplitl [Hbar]; · iexact Hbar
  isplitl [Hdn]; · iexact Hdn
  isplitl [Hs Hr Hxb Hcs Hcr Hg0 Hg1]
  · unfold slabs
    isplitl [Hs]; · iexact Hs
    isplitl [Hr]; · iexact Hr
    isplitl [Hxb]; · iexact Hxb
    isplitl [Hg0 Hg1]
    · isplitl [Hg0]
      · iapply (any_of c); iexact Hg0
      · iapply (any_of c); iexact Hg1
    isplitl [Hcs]; · iexact Hcs
    iexact Hcr
  isplitl [Hxm]; · iexact Hxm
  isplitl [Hdm]; · iexact Hdm
  iapply (out_join c D X)
  isplitl [Hlo]; · iexact Hlo
  iexact Hhi

end Cert.K01

end
-- ==== Proof.Launch.lean ====
/-
The launch: the body's obligation, the cells' records and tokens dealt to the devices, and the run of the whole program.
-/
module

public import proofs.«01_k».proof.Proof.Body
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The rows and the destinations a device is launched with. -/
def rows (c : Dev nD) : Vec F S2048x1024 .bf16 := (win0_0.blk (0 : Fin 1)).view.read (Elt F) (m ((c : Thread nD τ).loc main_arg0))
def dests (c : Dev nD) : Vec F S2048 .i32 := (win0_1.blk (0 : Fin 1)).view.read (Elt F) (m ((c : Thread nD τ).loc main_arg1))

theorem wholes_eq (c : Dev nD) : (Pipeline.scopedRest cfg0.spec c : sProp 𝕄) = wholes c := by
  rw [scopedRest0_eq]; unfold wholes
  simp only [ownAny, own, owns, Memref.view_whole, View.read_whole, View.set_whole]
  have h (b : Ref sig .tc) : (iprop(∃ Y : b.ty.Contents (Elt F), ∃ f : Buf (Elt F) ((c : Thread nD τ).loc b), ⌜f = Y⌝ ∗ (((c : Thread nD τ).loc b) ↦{fullShare} f)) : sProp 𝕄)
      = iprop(∃ f : Buf (Elt F) ((c : Thread nD τ).loc b), (((c : Thread nD τ).loc b) ↦{fullShare} f)) :=
    BI.equiv_iff.mp ⟨show _ ⊢ (_ : sProp 𝕄) from by iintro ⟨%Y, %f, -, H⟩; iexists f; iexact H, show _ ⊢ (_ : sProp 𝕄) from by
      iintro ⟨%f, H⟩; iexists f; iexists f; isplitr; · (ipureintro; rfl)
      iexact H⟩
  exact (congr (congrArg _ (h cc0_scratch0)) (congr (congrArg _ (h cc0_scratch1)) (congr (congrArg _ (h cc0_scratch2)) (congr (congrArg _ (h cc0_scratch3))
    (congr (congrArg _ (h cc0_scratch4)) (h cc0_scratch5)))))).symm

/-! ## The body's obligation -/

def start (c : Dev nD) : sProp 𝕄 := iprop((∃ K, Ctx (dests m) (rows m) K) ∗ entry c ∗ cans c ∗ exps c)
def Φ₀ (c : Dev nD) : sProp 𝕄 := iprop(start m c ∗ wholes c)
def Φ₁ (c : Dev nD) : sProp 𝕄 := iprop(wholes c ∗ semVal (barCell c) 0 ∗ dones c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => rows m c
    | ⟨1, _⟩ => dests m c
    | ⟨2, _⟩ => outV (dests m) (rows m) c
  Φ t := match t with
    | ⟨0, _⟩ => Φ₀ m c
    | ⟨_ + 1, _⟩ => Φ₁ c
  q _ := fullShare
  owed t := match t with
    | ⟨0, _⟩ => O₀ c
    | ⟨_ + 1, _⟩ => 0

def bodyPre (c : Dev nD) : sProp 𝕄 :=
  iprop(Φ₀ m c ∗ (dats m ρ 0 c).owesAt () t0_0.castSucc
    ∗ (∃ d, own c xM fullShare ((dats m ρ 0 c).before (0 : Fin 3) t0_0 d))
    ∗ (∃ d, own c dM fullShare ((dats m ρ 0 c).before (1 : Fin 3) t0_0 d))
    ∗ (∃ d, own c oM fullShare ((dats m ρ 0 c).before (2 : Fin 3) t0_0 d)))
def bodyPost (c : Dev nD) : sProp 𝕄 :=
  iprop(Φ₁ c ∗ (dats m ρ 0 c).owesAt () t0_0.succ ∗ own c xM fullShare (rows m c) ∗ own c dM fullShare (dests m c)
    ∗ own c oM fullShare (outV (dests m) (rows m) c))

theorem before_rows (c : Dev nD) (d) : (dats m ρ 0 c).before (0 : Fin 3) t0_0 d = rows m c := by
  unfold Dat.before; rw [if_pos (fetch0_0 t0_0)]; rfl
theorem before_dests (c : Dev nD) (d) : (dats m ρ 0 c).before (1 : Fin 3) t0_0 d = dests m c := by
  unfold Dat.before; rw [if_pos (fetch0_1 t0_0)]; rfl

theorem sound_body (c : Dev nD) : bodyPre m ρ c ⊢ wpc c (cc0_body (F := F) xM (Memref.isWhole_whole _) dM (Memref.isWhole_whole _) oM (Memref.isWhole_whole _) sendM (Memref.isWhole_whole _) recvM (Memref.isWhole_whole _) xbfM (Memref.isWhole_whole _) stgM (Memref.isWhole_whole _) csM (Memref.isWhole_whole _) crM (Memref.isWhole_whole _) cc0_scratch6 cc0_scratch7 cc0_scratch8 cc0_scratch9 cc0_scratch10 cc0_scratch11) (fun _ => bodyPost m ρ c) := by
  unfold bodyPre Φ₀ start Dat.owesAt Pipeline.owesWithin
  simp only [before_rows, before_dests]
  rw [show (dats m ρ 0 c).owed t0_0.castSucc = O₀ c from rfl]
  iintro ⟨⟨⟨⟨%K, #HC⟩, He, Hc, Hx⟩, Hw⟩, ⟨%W, %hW, HO⟩, ⟨%d0, Hxm⟩, ⟨%d1, Hdm⟩, ⟨%d2, Hom⟩⟩
  iapply (body (dests m) (rows m) K c)
  isplitr; · iexact HC
  isplitl [HO]; · unfold owing; iexists W; iexact HO
  isplitl [He]; · iexact He
  isplitl [Hc]; · iexact Hc
  isplitl [Hx]; · iexact Hx
  isplitl [Hw]; · iapply (wholes_slabs c); iexact Hw
  isplitl [Hxm]; · iexact Hxm
  isplitl [Hdm]; · iexact Hdm
  isplitl [Hom]; · unfold ownAny; iexists _; iexact Hom
  unfold owing
  iintro ⟨⟨%W', HO⟩, Hbar, Hdn, Hsl, Hxm, Hdm, Hom⟩
  unfold bodyPost Φ₁ Dat.owesAt Pipeline.owesWithin
  rw [show (dats m ρ 0 c).owed t0_0.succ = 0 from rfl]
  isplitl [Hsl Hbar Hdn]
  · isplitl [Hsl]; · iapply (slabs_wholes c); iexact Hsl
    isplitl [Hbar]; · iexact Hbar
    iexact Hdn
  isplitl [HO]
  · iexists W'
    isplitr; · ipureintro; exact fun _ _ => Or.inl trivial
    iexact HO
  isplitl [Hxm]; · iexact Hxm
  isplitl [Hdm]; · iexact Hdm
  iexact Hom

theorem body_obligation (c : Dev nD) : BodyObligation (dats (F := F) m ρ 0 c) (defs₀ (F := F)) 𝒱₀ () Set.univ := fun t => by
  rw [fin_N0 t]
  rw [bigSep_W0, bigSep_W0]
  exact sound_body m ρ c

/-! ## The launch -/

abbrev osem (k : Fin 18) : SemLoc sig := .dma (ds k)
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  match k, k' with
  | none, none => rfl
  | none, some k => exact absurd h (fun h => by cases h)
  | some k, none => exact absurd h (fun h => by cases h)
  | some k, some k' => exact congrArg some (ds_inj (SemLoc.dma.inj h))
theorem kcell_injective : Function.Injective kcell := by
  rintro ⟨c, k⟩ ⟨c', k'⟩ h
  have h1 : c = c' := congrArg (fun g : GSem nD τ sig => g.1.1) h
  have h2 : csem k = csem k' := congrArg Prod.snd h
  exact Prod.ext h1 (csem_injective h2)
def ourCells : Finset (GSem nD τ sig) := Finset.univ.map ⟨kcell, kcell_injective⟩

/-- The duty tokens of a device's own cells: its barrier's four, its transfer cells' one each. -/
abbrev tokOf (p : Dev nD × (Fin 4 ⊕ Fin 18)) : GSem nD τ sig × ℕ × Fin 4 := match p.2 with
  | .inl d => (barCell p.1, 0, d)
  | .inr k => (dcell p.1 k, 0, 0)
theorem tokOf_injective : Function.Injective tokOf := by
  rintro ⟨c, j⟩ ⟨c', j'⟩ h
  match j, j' with
  | .inl d, .inl d' =>
    exact Prod.ext (congrArg (fun x : GSem nD τ sig × ℕ × Fin 4 => x.1.1.1) h) (congrArg Sum.inl (congrArg (fun x : GSem nD τ sig × ℕ × Fin 4 => x.2.2) h))
  | .inl _, .inr _ => exact absurd (congrArg (fun x : GSem nD τ sig × ℕ × Fin 4 => x.1.2) h) (fun h => by cases h)
  | .inr _, .inl _ => exact absurd (congrArg (fun x : GSem nD τ sig × ℕ × Fin 4 => x.1.2) h) (fun h => by cases h)
  | .inr k, .inr k' =>
    exact Prod.ext (congrArg (fun x : GSem nD τ sig × ℕ × Fin 4 => x.1.1.1) h)
      (congrArg Sum.inr (ds_inj (SemLoc.dma.inj (congrArg (fun x : GSem nD τ sig × ℕ × Fin 4 => x.1.2) h))))
def ourToks : Finset (GSem nD τ sig × ℕ × Fin 4) := Finset.univ.map ⟨tokOf, tokOf_injective⟩

def u₀ : UU := (initOf (Pipeline.cells cfgs cellOf_inj) (Pipeline.launchToks cfgs cellOf_inj), initOf ourCells ourToks)

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
theorem bigSep_cells (Φ : Option (Fin 18) → sProp 𝕄) : bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9) ∗ Φ (some 10) ∗ Φ (some 11) ∗ Φ (some 12) ∗ Φ (some 13) ∗ Φ (some 14) ∗ Φ (some 15) ∗ Φ (some 16) ∗ Φ (some 17)) :=
  bigSep_univ_eq_bigSepL [none, some 0, some 1, some 2, some 3, some 4, some 5, some 6, some 7, some 8, some 9, some 10, some 11, some 12, some 13, some 14, some 15, some 16, some 17] (by decide) (by decide) Φ

def toks (c : Dev nD) : sProp 𝕄 :=
  iprop((dutyTok ER (barCell c) 0 0 ∗ dutyTok ER (barCell c) 0 1 ∗ dutyTok ER (barCell c) 0 2 ∗ dutyTok ER (barCell c) 0 3) ∗ dutyTok ER (dcell c 0) 0 0 ∗ dutyTok ER (dcell c 1) 0 0 ∗ dutyTok ER (dcell c 2) 0 0 ∗ dutyTok ER (dcell c 3) 0 0 ∗ dutyTok ER (dcell c 4) 0 0 ∗ dutyTok ER (dcell c 5) 0 0 ∗ dutyTok ER (dcell c 6) 0 0 ∗ dutyTok ER (dcell c 7) 0 0 ∗ dutyTok ER (dcell c 8) 0 0 ∗ dutyTok ER (dcell c 9) 0 0 ∗ dutyTok ER (dcell c 10) 0 0 ∗ dutyTok ER (dcell c 11) 0 0 ∗ dutyTok ER (dcell c 12) 0 0 ∗ dutyTok ER (dcell c 13) 0 0 ∗ dutyTok ER (dcell c 14) 0 0 ∗ dutyTok ER (dcell c 15) 0 0 ∗ dutyTok ER (dcell c 16) 0 0 ∗ dutyTok ER (dcell c 17) 0 0)
/-- The tokens of the duties a device pays. -/
def payToks (c : Dev nD) : sProp 𝕄 :=
  iprop((dutyTok ER (barCell (up 2 c)) 0 0 ∗ dutyTok ER (barCell (up 1 c)) 0 1 ∗ dutyTok ER (barCell (up 0 c)) 0 2 ∗ dutyTok ER (barCell (xp c)) 0 3) ∗ dutyTok ER (dcell c 0) 0 0 ∗ dutyTok ER (dcell c 1) 0 0 ∗ dutyTok ER (dcell c 2) 0 0 ∗ dutyTok ER (dcell (up 0 c) 3) 0 0 ∗ dutyTok ER (dcell (up 1 c) 4) 0 0 ∗ dutyTok ER (dcell (up 2 c) 5) 0 0 ∗ dutyTok ER (dcell c 6) 0 0 ∗ dutyTok ER (dcell c 7) 0 0 ∗ dutyTok ER (dcell c 8) 0 0 ∗ dutyTok ER (dcell (xp c) 9) 0 0 ∗ dutyTok ER (dcell (xp c) 10) 0 0 ∗ dutyTok ER (dcell (xp c) 11) 0 0 ∗ dutyTok ER (dcell c 12) 0 0 ∗ dutyTok ER (dcell c 13) 0 0 ∗ dutyTok ER (dcell c 14) 0 0 ∗ dutyTok ER (dcell (up 0 c) 15) 0 0 ∗ dutyTok ER (dcell (up 1 c) 16) 0 0 ∗ dutyTok ER (dcell (up 2 c) 17) 0 0)

def G (c : Dev nD) : sProp 𝕄 :=
  iprop((bigSep Finset.univ fun k : Option (Fin 18) => roundState ER (sched (dests m) (rows m)) (kcell (c, k)) 0)
    ∗ (bigSep Finset.univ fun k : Option (Fin 18) => iprop(atPos ER (kcell (c, k)) 0 ∅ 0 ∗ reached ER (kcell (c, k)) 0)) ∗ toks c)

theorem fund_cells : BI.own (ER (initOf ourCells ourToks)) ⊢ (|==> bigSep Finset.univ (G m) : sProp 𝕄) := by
  have hX (Φ : GSem nD τ sig → sProp 𝕄) : bigSep ourCells Φ = bigSep Finset.univ fun c : Dev nD => bigSep Finset.univ fun k : Option (Fin 18) => Φ (kcell (c, k)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]
    exact bigSep_congr fun c _ => by unfold toks; rw [BI.bigSep_univ_sum, bigSep_four, bigSep_18]; rfl
  iintro HX
  imod (Rounds.fund ER (sched (dests m) (rows m)) ourCells ourToks) $$ HX with ⟨Hst, Hr, Hat, Htok⟩
  imodintro
  ihave Hst' := (Entails.of_eq (hX fun g => roundState ER (sched (dests m) (rows m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0 ∗ semVal (dcell c 16) 0 ∗ semVal (dcell c 17) 0) := by
  rw [Pipeline.ownSems0_eq_of_list c osem [0, 1, 2, 3, 4, 5, 6, 7, 8, 9, 10, 11, 12, 13, 14, 15, 16, 17] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 18) => semVal (kcell (c, k)) 0 : sProp 𝕄) := by
  rw [ownSems0_eq, unscopedSems0_eq, bigSep_cells]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (dests m) (rows m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 18) => semVal (kcell (c, k)) 0) ∗ bigSep Finset.univ fun k : Option (Fin 18) => roundState ER (sched (dests m) (rows m)) (kcell (c, k)) 0)
      ⊢ (|={Set.univ}=> bigSep Finset.univ fun k => iprop(∃ κ : ℕ, cellInv ER (sched (dests m) (rows m)) κ (kcell (c, k))) : sProp 𝕄) from by
        rw [← bigSep_sep']
        exact (bigSep_mono fun k _ => (Rounds.body_intro ER (sched (dests m) (rows m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What a device has of all cells once their invariants stand, and its own positions and tokens. -/
def records (K : Dev nD × Option (Fin 18) → ℕ) : sProp 𝕄 :=
  iprop((bigSep Finset.univ fun p : Dev nD × Option (Fin 18) => cellInv ER (sched (dests m) (rows m)) (K p) (kcell p))
    ∗ bigSep Finset.univ fun p : Dev nD × Option (Fin 18) => reached ER (kcell p) 0)
instance records_persistent (K : Dev nD × Option (Fin 18) → ℕ) : BI.Persistent (records m K) := by unfold records; infer_instance
def linear (c : Dev nD) : sProp 𝕄 := iprop((bigSep Finset.univ fun k : Option (Fin 18) => atPos ER (kcell (c, k)) 0 ∅ 0) ∗ payToks c)
def G' (c : Dev nD) : sProp 𝕄 := iprop((∃ K, records m K) ∗ linear c)

def ringE (j : Fin 3) : Dev nD ≃ Dev nD := ⟨up j, dn j, dn_up j, up_dn j⟩
def crossE : Dev nD ≃ Dev nD := ⟨xp, xp, xp_xp, xp_xp⟩
theorem around (e : Dev nD ≃ Dev nD) (Φ : Dev nD → sProp 𝕄) : bigSep Finset.univ Φ ⊢ bigSep Finset.univ fun c => Φ (e c) :=
  Entails.of_eq (bigSep_univ_equiv e Φ)

theorem toks_around : (bigSep Finset.univ fun c : Dev nD => (toks c : sProp 𝕄)) ⊢ bigSep Finset.univ fun c : Dev nD => payToks c := by
  unfold toks payToks
  simp only [bigSep_sep']
  iintro ⟨⟨B0, B1, B2, B3⟩, T0, T1, T2, T3, T4, T5, T6, T7, T8, T9, T10, T11, T12, T13, T14, T15, T16, T17⟩
  isplitl [B0 B1 B2 B3]
  · isplitl [B0]; · iapply (around (ringE 2) fun c => dutyTok ER (barCell c) 0 0); iexact B0
    isplitl [B1]; · iapply (around (ringE 1) fun c => dutyTok ER (barCell c) 0 1); iexact B1
    isplitl [B2]; · iapply (around (ringE 0) fun c => dutyTok ER (barCell c) 0 2); iexact B2
    iapply (around crossE fun c => dutyTok ER (barCell c) 0 3); iexact B3
  isplitl [T0]; · iexact T0
  isplitl [T1]; · iexact T1
  isplitl [T2]; · iexact T2
  isplitl [T3]; · iapply (around (ringE 0) fun c => dutyTok ER (dcell c 3) 0 0); iexact T3
  isplitl [T4]; · iapply (around (ringE 1) fun c => dutyTok ER (dcell c 4) 0 0); iexact T4
  isplitl [T5]; · iapply (around (ringE 2) fun c => dutyTok ER (dcell c 5) 0 0); iexact T5
  isplitl [T6]; · iexact T6
  isplitl [T7]; · iexact T7
  isplitl [T8]; · iexact T8
  isplitl [T9]; · iapply (around crossE fun c => dutyTok ER (dcell c 9) 0 0); iexact T9
  isplitl [T10]; · iapply (around crossE fun c => dutyTok ER (dcell c 10) 0 0); iexact T10
  isplitl [T11]; · iapply (around crossE fun c => dutyTok ER (dcell c 11) 0 0); iexact T11
  isplitl [T12]; · iexact T12
  isplitl [T13]; · iexact T13
  isplitl [T14]; · iexact T14
  isplitl [T15]; · iapply (around (ringE 0) fun c => dutyTok ER (dcell c 15) 0 0); iexact T15
  isplitl [T16]; · iapply (around (ringE 1) fun c => dutyTok ER (dcell c 16) 0 0); iexact T16
  iapply (around (ringE 2) fun c => dutyTok ER (dcell c 17) 0 0); iexact T17

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Option (Fin 18) → ℕ) (c : Dev nD) : iprop(records m K ∗ linear c) ⊢ G' m c := by
  unfold G'; iintro ⟨H, HL⟩
  isplitl [H]; · iexists K; iexact H
  iexact HL

theorem regroup :
    (bigSep Finset.univ fun c : Dev nD => iprop((bigSep Finset.univ fun k => iprop(∃ κ : ℕ, cellInv ER (sched (dests m) (rows m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun p : Dev nD × Option (Fin 18) => iprop(∃ κ : ℕ, cellInv ER (sched (dests m) (rows m)) κ (kcell p))),
    bigSep_congr (s := Finset.univ) (fun (c : Dev nD) _ => bigSep_sep' Finset.univ (fun k : Option (Fin 18) => (atPos ER (kcell (c, k)) 0 ∅ 0 : sProp 𝕄)) (fun k => reached ER (kcell (c, k)) 0)),
    bigSep_sep', ← bigSep_univ_prod (fun p : Dev nD × Option (Fin 18) => (reached ER (kcell p) 0 : sProp 𝕄))]
  iintro ⟨HI, ⟨Hat, #HR⟩, Htok⟩
  ihave HK := (BI.bigSep_exists_pi Finset.univ (fun (p : Dev nD × Option (Fin 18)) (κ : ℕ) => (cellInv ER (sched (dests m) (rows m)) κ (kcell p) : sProp 𝕄))) $$ HI
  icases HK with ⟨%K, #HI⟩
  ihave Htk := (toks_around (F := F)) $$ Htok
  iapply (bigSep_with_persistent (R := records m K) fun c _ => G'_intro m K c)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem dev_of {a b : Dev nD} {s s' : SemLoc sig} (h : ((a : Thread nD τ), s) = (((b : Thread nD τ), s') : GSem nD τ sig)) : a = b :=
  congrArg (fun g : GSem nD τ sig => g.1.1) h
theorem sem_of {a b : Dev nD} {s s' : SemLoc sig} (h : ((a : Thread nD τ), s) = (((b : Thread nD τ), s') : GSem nD τ sig)) : s = s' :=
  congrArg Prod.snd h

/-- What a tally on the cell `s'` of device `e d` puts on device `c`'s cell `s`: all of it when `s = s'` and `d` is the
    device that `e` carries to `c`, -/
theorem on_same (e : Dev nD ≃ Dev nD) (s : SemLoc sig) (n : ℕ) (d c : Dev nD) :
    (tallyAt (((e d : Dev nD) : Thread nD τ), s) () n : CellTallies nD τ sig Unit) ((c : Thread nD τ), s) () = if d = e.symm c then n else 0 := by
  rw [tallyAt_apply]
  by_cases h : d = e.symm c
  · rw [if_pos h, if_pos]; subst h; rw [Equiv.apply_symm_apply]; exact ⟨rfl, rfl⟩
  · rw [if_neg h, if_neg]; rintro ⟨h1, -⟩; exact h (by rw [dev_of h1, Equiv.symm_apply_apply])
/-- and nothing on another. -/
theorem on_other (e : Dev nD ≃ Dev nD) {s s' : SemLoc sig} (hs : s ≠ s') (n : ℕ) (d c : Dev nD) :
    (tallyAt (((e d : Dev nD) : Thread nD τ), s') () n : CellTallies nD τ sig Unit) ((c : Thread nD τ), s) () = 0 := by
  rw [tallyAt_apply, if_neg]; rintro ⟨h1, -⟩; exact hs (sem_of h1)

theorem sum_one (e : Dev nD) (n : ℕ) : (∑ d : Dev nD, if d = e then n else 0) = n := by
  rw [Finset.sum_ite_eq' Finset.univ e fun _ => n, if_pos (Finset.mem_univ _)]

/-- What a device owes in all, as a sum. -/
theorem owed_eq (d : Dev nD) (g : GSem nD τ sig) : O₀ d g () = 0
    + (tallyAt (((crossE d : Dev nD) : Thread nD τ), SemLoc.dma (ds 11)) () N : CellTallies nD τ sig Unit) g ()
    + (tallyAt (((crossE d : Dev nD) : Thread nD τ), SemLoc.dma (ds 10)) () N : CellTallies nD τ sig Unit) g ()
    + (tallyAt (((crossE d : Dev nD) : Thread nD τ), SemLoc.dma (ds 9)) () N : CellTallies nD τ sig Unit) g ()
    + (tallyAt ((((ringE 0) d : Dev nD) : Thread nD τ), SemLoc.dma (ds 3)) () N : CellTallies nD τ sig Unit) g ()
    + (tallyAt ((((ringE 1) d : Dev nD) : Thread nD τ), SemLoc.dma (ds 4)) () N : CellTallies nD τ sig Unit) g ()
    + (tallyAt ((((ringE 2) d : Dev nD) : Thread nD τ), SemLoc.dma (ds 5)) () N : CellTallies nD τ sig Unit) g ()
    + (tallyAt ((((ringE 2) d : Dev nD) : Thread nD τ), SemLoc.dma (ds 17)) () Nc : CellTallies nD τ sig Unit) g ()
    + (tallyAt ((((ringE 1) d : Dev nD) : Thread nD τ), SemLoc.dma (ds 16)) () Nc : CellTallies nD τ sig Unit) g ()
    + (tallyAt ((((ringE 0) d : Dev nD) : Thread nD τ), SemLoc.dma (ds 15)) () Nc : CellTallies nD τ sig Unit) g ()
    + (tallyAt (((crossE d : Dev nD) : Thread nD τ), SemLoc.reg barS) () 1 : CellTallies nD τ sig Unit) g ()
    + (tallyAt ((((ringE 2) d : Dev nD) : Thread nD τ), SemLoc.reg barS) () 1 : CellTallies nD τ sig Unit) g ()
    + (tallyAt ((((ringE 1) d : Dev nD) : Thread nD τ), SemLoc.reg barS) () 1 : CellTallies nD τ sig Unit) g ()
    + (tallyAt ((((ringE 0) d : Dev nD) : Thread nD τ), SemLoc.reg barS) () 1 : CellTallies nD τ sig Unit) g () := rfl

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  have h (d : Dev nD) := owed_eq d (barCell c)
  rw [Pipeline.launchCredit_owing, Finsupp.single_eq_same, Finset.sum_congr rfl fun d _ => h d]
  rw [Finset.sum_congr rfl fun d _ => by
    rw [on_other crossE (show SemLoc.reg barS ≠ SemLoc.dma (ds 11) by decide) N d c,
      on_other crossE (show SemLoc.reg barS ≠ SemLoc.dma (ds 10) by decide) N d c,
      on_other crossE (show SemLoc.reg barS ≠ SemLoc.dma (ds 9) by decide) N d c,
      on_other (ringE 0) (show SemLoc.reg barS ≠ SemLoc.dma (ds 3) by decide) N d c,
      on_other (ringE 1) (show SemLoc.reg barS ≠ SemLoc.dma (ds 4) by decide) N d c,
      on_other (ringE 2) (show SemLoc.reg barS ≠ SemLoc.dma (ds 5) by decide) N d c,
      on_other (ringE 2) (show SemLoc.reg barS ≠ SemLoc.dma (ds 17) by decide) Nc d c,
      on_other (ringE 1) (show SemLoc.reg barS ≠ SemLoc.dma (ds 16) by decide) Nc d c,
      on_other (ringE 0) (show SemLoc.reg barS ≠ SemLoc.dma (ds 15) by decide) Nc d c,
      on_same crossE (SemLoc.reg barS) 1 d c,
      on_same (ringE 2) (SemLoc.reg barS) 1 d c,
      on_same (ringE 1) (SemLoc.reg barS) 1 d c,
      on_same (ringE 0) (SemLoc.reg barS) 1 d c]]
  simp only [Nat.add_zero, Nat.zero_add, Finset.sum_add_distrib, sum_one]
theorem launch_3 (c : Dev nD) :
    tallyOn (dcell c 3) (launchCredit (Pipeline.owing O₀) 0 (dcell c 3)) = (tallyAt (dcell c 3) () N : CellTallies nD τ sig Unit) := by
  unfold tallyAt; refine congrArg _ (Finsupp.ext fun u => ?_); cases u
  have h (d : Dev nD) := owed_eq d (dcell c 3)
  rw [Pipeline.launchCredit_owing, Finsupp.single_eq_same, Finset.sum_congr rfl fun d _ => h d]
  rw [Finset.sum_congr rfl fun d _ => by
    rw [on_other crossE (show SemLoc.dma (ds 3) ≠ SemLoc.dma (ds 11) by decide) N d c,
      on_other crossE (show SemLoc.dma (ds 3) ≠ SemLoc.dma (ds 10) by decide) N d c,
      on_other crossE (show SemLoc.dma (ds 3) ≠ SemLoc.dma (ds 9) by decide) N d c,
      on_same (ringE 0) (SemLoc.dma (ds 3)) N d c,
      on_other (ringE 1) (show SemLoc.dma (ds 3) ≠ SemLoc.dma (ds 4) by decide) N d c,
      on_other (ringE 2) (show SemLoc.dma (ds 3) ≠ SemLoc.dma (ds 5) by decide) N d c,
      on_other (ringE 2) (show SemLoc.dma (ds 3) ≠ SemLoc.dma (ds 17) by decide) Nc d c,
      on_other (ringE 1) (show SemLoc.dma (ds 3) ≠ SemLoc.dma (ds 16) by decide) Nc d c,
      on_other (ringE 0) (show SemLoc.dma (ds 3) ≠ SemLoc.dma (ds 15) by decide) Nc d c,
      on_other crossE (show SemLoc.dma (ds 3) ≠ SemLoc.reg barS by decide) 1 d c,
      on_other (ringE 2) (show SemLoc.dma (ds 3) ≠ SemLoc.reg barS by decide) 1 d c,
      on_other (ringE 1) (show SemLoc.dma (ds 3) ≠ SemLoc.reg barS by decide) 1 d c,
      on_other (ringE 0) (show SemLoc.dma (ds 3) ≠ SemLoc.reg barS by decide) 1 d c]]
  simp only [Nat.add_zero, Nat.zero_add, Finset.sum_add_distrib, sum_one]
theorem launch_4 (c : Dev nD) :
    tallyOn (dcell c 4) (launchCredit (Pipeline.owing O₀) 0 (dcell c 4)) = (tallyAt (dcell c 4) () N : CellTallies nD τ sig Unit) := by
  unfold tallyAt; refine congrArg _ (Finsupp.ext fun u => ?_); cases u
  have h (d : Dev nD) := owed_eq d (dcell c 4)
  rw [Pipeline.launchCredit_owing, Finsupp.single_eq_same, Finset.sum_congr rfl fun d _ => h d]
  rw [Finset.sum_congr rfl fun d _ => by
    rw [on_other crossE (show SemLoc.dma (ds 4) ≠ SemLoc.dma (ds 11) by decide) N d c,
      on_other crossE (show SemLoc.dma (ds 4) ≠ SemLoc.dma (ds 10) by decide) N d c,
      on_other crossE (show SemLoc.dma (ds 4) ≠ SemLoc.dma (ds 9) by decide) N d c,
      on_other (ringE 0) (show SemLoc.dma (ds 4) ≠ SemLoc.dma (ds 3) by decide) N d c,
      on_same (ringE 1) (SemLoc.dma (ds 4)) N d c,
      on_other (ringE 2) (show SemLoc.dma (ds 4) ≠ SemLoc.dma (ds 5) by decide) N d c,
      on_other (ringE 2) (show SemLoc.dma (ds 4) ≠ SemLoc.dma (ds 17) by decide) Nc d c,
      on_other (ringE 1) (show SemLoc.dma (ds 4) ≠ SemLoc.dma (ds 16) by decide) Nc d c,
      on_other (ringE 0) (show SemLoc.dma (ds 4) ≠ SemLoc.dma (ds 15) by decide) Nc d c,
      on_other crossE (show SemLoc.dma (ds 4) ≠ SemLoc.reg barS by decide) 1 d c,
      on_other (ringE 2) (show SemLoc.dma (ds 4) ≠ SemLoc.reg barS by decide) 1 d c,
      on_other (ringE 1) (show SemLoc.dma (ds 4) ≠ SemLoc.reg barS by decide) 1 d c,
      on_other (ringE 0) (show SemLoc.dma (ds 4) ≠ SemLoc.reg barS by decide) 1 d c]]
  simp only [Nat.add_zero, Nat.zero_add, Finset.sum_add_distrib, sum_one]
theorem launch_5 (c : Dev nD) :
    tallyOn (dcell c 5) (launchCredit (Pipeline.owing O₀) 0 (dcell c 5)) = (tallyAt (dcell c 5) () N : CellTallies nD τ sig Unit) := by
  unfold tallyAt; refine congrArg _ (Finsupp.ext fun u => ?_); cases u
  have h (d : Dev nD) := owed_eq d (dcell c 5)
  rw [Pipeline.launchCredit_owing, Finsupp.single_eq_same, Finset.sum_congr rfl fun d _ => h d]
  rw [Finset.sum_congr rfl fun d _ => by
    rw [on_other crossE (show SemLoc.dma (ds 5) ≠ SemLoc.dma (ds 11) by decide) N d c,
      on_other crossE (show SemLoc.dma (ds 5) ≠ SemLoc.dma (ds 10) by decide) N d c,
      on_other crossE (show SemLoc.dma (ds 5) ≠ SemLoc.dma (ds 9) by decide) N d c,
      on_other (ringE 0) (show SemLoc.dma (ds 5) ≠ SemLoc.dma (ds 3) by decide) N d c,
      on_other (ringE 1) (show SemLoc.dma (ds 5) ≠ SemLoc.dma (ds 4) by decide) N d c,
      on_same (ringE 2) (SemLoc.dma (ds 5)) N d c,
      on_other (ringE 2) (show SemLoc.dma (ds 5) ≠ SemLoc.dma (ds 17) by decide) Nc d c,
      on_other (ringE 1) (show SemLoc.dma (ds 5) ≠ SemLoc.dma (ds 16) by decide) Nc d c,
      on_other (ringE 0) (show SemLoc.dma (ds 5) ≠ SemLoc.dma (ds 15) by decide) Nc d c,
      on_other crossE (show SemLoc.dma (ds 5) ≠ SemLoc.reg barS by decide) 1 d c,
      on_other (ringE 2) (show SemLoc.dma (ds 5) ≠ SemLoc.reg barS by decide) 1 d c,
      on_other (ringE 1) (show SemLoc.dma (ds 5) ≠ SemLoc.reg barS by decide) 1 d c,
      on_other (ringE 0) (show SemLoc.dma (ds 5) ≠ SemLoc.reg barS by decide) 1 d c]]
  simp only [Nat.add_zero, Nat.zero_add, Finset.sum_add_distrib, sum_one]
theorem launch_9 (c : Dev nD) :
    tallyOn (dcell c 9) (launchCredit (Pipeline.owing O₀) 0 (dcell c 9)) = (tallyAt (dcell c 9) () N : CellTallies nD τ sig Unit) := by
  unfold tallyAt; refine congrArg _ (Finsupp.ext fun u => ?_); cases u
  have h (d : Dev nD) := owed_eq d (dcell c 9)
  rw [Pipeline.launchCredit_owing, Finsupp.single_eq_same, Finset.sum_congr rfl fun d _ => h d]
  rw [Finset.sum_congr rfl fun d _ => by
    rw [on_other crossE (show SemLoc.dma (ds 9) ≠ SemLoc.dma (ds 11) by decide) N d c,
      on_other crossE (show SemLoc.dma (ds 9) ≠ SemLoc.dma (ds 10) by decide) N d c,
      on_same crossE (SemLoc.dma (ds 9)) N d c,
      on_other (ringE 0) (show SemLoc.dma (ds 9) ≠ SemLoc.dma (ds 3) by decide) N d c,
      on_other (ringE 1) (show SemLoc.dma (ds 9) ≠ SemLoc.dma (ds 4) by decide) N d c,
      on_other (ringE 2) (show SemLoc.dma (ds 9) ≠ SemLoc.dma (ds 5) by decide) N d c,
      on_other (ringE 2) (show SemLoc.dma (ds 9) ≠ SemLoc.dma (ds 17) by decide) Nc d c,
      on_other (ringE 1) (show SemLoc.dma (ds 9) ≠ SemLoc.dma (ds 16) by decide) Nc d c,
      on_other (ringE 0) (show SemLoc.dma (ds 9) ≠ SemLoc.dma (ds 15) by decide) Nc d c,
      on_other crossE (show SemLoc.dma (ds 9) ≠ SemLoc.reg barS by decide) 1 d c,
      on_other (ringE 2) (show SemLoc.dma (ds 9) ≠ SemLoc.reg barS by decide) 1 d c,
      on_other (ringE 1) (show SemLoc.dma (ds 9) ≠ SemLoc.reg barS by decide) 1 d c,
      on_other (ringE 0) (show SemLoc.dma (ds 9) ≠ SemLoc.reg barS by decide) 1 d c]]
  simp only [Nat.add_zero, Nat.zero_add, Finset.sum_add_distrib, sum_one]
theorem launch_10 (c : Dev nD) :
    tallyOn (dcell c 10) (launchCredit (Pipeline.owing O₀) 0 (dcell c 10)) = (tallyAt (dcell c 10) () N : CellTallies nD τ sig Unit) := by
  unfold tallyAt; refine congrArg _ (Finsupp.ext fun u => ?_); cases u
  have h (d : Dev nD) := owed_eq d (dcell c 10)
  rw [Pipeline.launchCredit_owing, Finsupp.single_eq_same, Finset.sum_congr rfl fun d _ => h d]
  rw [Finset.sum_congr rfl fun d _ => by
    rw [on_other crossE (show SemLoc.dma (ds 10) ≠ SemLoc.dma (ds 11) by decide) N d c,
      on_same crossE (SemLoc.dma (ds 10)) N d c,
      on_other crossE (show SemLoc.dma (ds 10) ≠ SemLoc.dma (ds 9) by decide) N d c,
      on_other (ringE 0) (show SemLoc.dma (ds 10) ≠ SemLoc.dma (ds 3) by decide) N d c,
      on_other (ringE 1) (show SemLoc.dma (ds 10) ≠ SemLoc.dma (ds 4) by decide) N d c,
      on_other (ringE 2) (show SemLoc.dma (ds 10) ≠ SemLoc.dma (ds 5) by decide) N d c,
      on_other (ringE 2) (show SemLoc.dma (ds 10) ≠ SemLoc.dma (ds 17) by decide) Nc d c,
      on_other (ringE 1) (show SemLoc.dma (ds 10) ≠ SemLoc.dma (ds 16) by decide) Nc d c,
      on_other (ringE 0) (show SemLoc.dma (ds 10) ≠ SemLoc.dma (ds 15) by decide) Nc d c,
      on_other crossE (show SemLoc.dma (ds 10) ≠ SemLoc.reg barS by decide) 1 d c,
      on_other (ringE 2) (show SemLoc.dma (ds 10) ≠ SemLoc.reg barS by decide) 1 d c,
      on_other (ringE 1) (show SemLoc.dma (ds 10) ≠ SemLoc.reg barS by decide) 1 d c,
      on_other (ringE 0) (show SemLoc.dma (ds 10) ≠ SemLoc.reg barS by decide) 1 d c]]
  simp only [Nat.add_zero, Nat.zero_add, Finset.sum_add_distrib, sum_one]
theorem launch_11 (c : Dev nD) :
    tallyOn (dcell c 11) (launchCredit (Pipeline.owing O₀) 0 (dcell c 11)) = (tallyAt (dcell c 11) () N : CellTallies nD τ sig Unit) := by
  unfold tallyAt; refine congrArg _ (Finsupp.ext fun u => ?_); cases u
  have h (d : Dev nD) := owed_eq d (dcell c 11)
  rw [Pipeline.launchCredit_owing, Finsupp.single_eq_same, Finset.sum_congr rfl fun d _ => h d]
  rw [Finset.sum_congr rfl fun d _ => by
    rw [on_same crossE (SemLoc.dma (ds 11)) N d c,
      on_other crossE (show SemLoc.dma (ds 11) ≠ SemLoc.dma (ds 10) by decide) N d c,
      on_other crossE (show SemLoc.dma (ds 11) ≠ SemLoc.dma (ds 9) by decide) N d c,
      on_other (ringE 0) (show SemLoc.dma (ds 11) ≠ SemLoc.dma (ds 3) by decide) N d c,
      on_other (ringE 1) (show SemLoc.dma (ds 11) ≠ SemLoc.dma (ds 4) by decide) N d c,
      on_other (ringE 2) (show SemLoc.dma (ds 11) ≠ SemLoc.dma (ds 5) by decide) N d c,
      on_other (ringE 2) (show SemLoc.dma (ds 11) ≠ SemLoc.dma (ds 17) by decide) Nc d c,
      on_other (ringE 1) (show SemLoc.dma (ds 11) ≠ SemLoc.dma (ds 16) by decide) Nc d c,
      on_other (ringE 0) (show SemLoc.dma (ds 11) ≠ SemLoc.dma (ds 15) by decide) Nc d c,
      on_other crossE (show SemLoc.dma (ds 11) ≠ SemLoc.reg barS by decide) 1 d c,
      on_other (ringE 2) (show SemLoc.dma (ds 11) ≠ SemLoc.reg barS by decide) 1 d c,
      on_other (ringE 1) (show SemLoc.dma (ds 11) ≠ SemLoc.reg barS by decide) 1 d c,
      on_other (ringE 0) (show SemLoc.dma (ds 11) ≠ SemLoc.reg barS by decide) 1 d c]]
  simp only [Nat.add_zero, Nat.zero_add, Finset.sum_add_distrib, sum_one]
theorem launch_15 (c : Dev nD) :
    tallyOn (dcell c 15) (launchCredit (Pipeline.owing O₀) 0 (dcell c 15)) = (tallyAt (dcell c 15) () Nc : CellTallies nD τ sig Unit) := by
  unfold tallyAt; refine congrArg _ (Finsupp.ext fun u => ?_); cases u
  have h (d : Dev nD) := owed_eq d (dcell c 15)
  rw [Pipeline.launchCredit_owing, Finsupp.single_eq_same, Finset.sum_congr rfl fun d _ => h d]
  rw [Finset.sum_congr rfl fun d _ => by
    rw [on_other crossE (show SemLoc.dma (ds 15) ≠ SemLoc.dma (ds 11) by decide) N d c,
      on_other crossE (show SemLoc.dma (ds 15) ≠ SemLoc.dma (ds 10) by decide) N d c,
      on_other crossE (show SemLoc.dma (ds 15) ≠ SemLoc.dma (ds 9) by decide) N d c,
      on_other (ringE 0) (show SemLoc.dma (ds 15) ≠ SemLoc.dma (ds 3) by decide) N d c,
      on_other (ringE 1) (show SemLoc.dma (ds 15) ≠ SemLoc.dma (ds 4) by decide) N d c,
      on_other (ringE 2) (show SemLoc.dma (ds 15) ≠ SemLoc.dma (ds 5) by decide) N d c,
      on_other (ringE 2) (show SemLoc.dma (ds 15) ≠ SemLoc.dma (ds 17) by decide) Nc d c,
      on_other (ringE 1) (show SemLoc.dma (ds 15) ≠ SemLoc.dma (ds 16) by decide) Nc d c,
      on_same (ringE 0) (SemLoc.dma (ds 15)) Nc d c,
      on_other crossE (show SemLoc.dma (ds 15) ≠ SemLoc.reg barS by decide) 1 d c,
      on_other (ringE 2) (show SemLoc.dma (ds 15) ≠ SemLoc.reg barS by decide) 1 d c,
      on_other (ringE 1) (show SemLoc.dma (ds 15) ≠ SemLoc.reg barS by decide) 1 d c,
      on_other (ringE 0) (show SemLoc.dma (ds 15) ≠ SemLoc.reg barS by decide) 1 d c]]
  simp only [Nat.add_zero, Nat.zero_add, Finset.sum_add_distrib, sum_one]
theorem launch_16 (c : Dev nD) :
    tallyOn (dcell c 16) (launchCredit (Pipeline.owing O₀) 0 (dcell c 16)) = (tallyAt (dcell c 16) () Nc : CellTallies nD τ sig Unit) := by
  unfold tallyAt; refine congrArg _ (Finsupp.ext fun u => ?_); cases u
  have h (d : Dev nD) := owed_eq d (dcell c 16)
  rw [Pipeline.launchCredit_owing, Finsupp.single_eq_same, Finset.sum_congr rfl fun d _ => h d]
  rw [Finset.sum_congr rfl fun d _ => by
    rw [on_other crossE (show SemLoc.dma (ds 16) ≠ SemLoc.dma (ds 11) by decide) N d c,
      on_other crossE (show SemLoc.dma (ds 16) ≠ SemLoc.dma (ds 10) by decide) N d c,
      on_other crossE (show SemLoc.dma (ds 16) ≠ SemLoc.dma (ds 9) by decide) N d c,
      on_other (ringE 0) (show SemLoc.dma (ds 16) ≠ SemLoc.dma (ds 3) by decide) N d c,
      on_other (ringE 1) (show SemLoc.dma (ds 16) ≠ SemLoc.dma (ds 4) by decide) N d c,
      on_other (ringE 2) (show SemLoc.dma (ds 16) ≠ SemLoc.dma (ds 5) by decide) N d c,
      on_other (ringE 2) (show SemLoc.dma (ds 16) ≠ SemLoc.dma (ds 17) by decide) Nc d c,
      on_same (ringE 1) (SemLoc.dma (ds 16)) Nc d c,
      on_other (ringE 0) (show SemLoc.dma (ds 16) ≠ SemLoc.dma (ds 15) by decide) Nc d c,
      on_other crossE (show SemLoc.dma (ds 16) ≠ SemLoc.reg barS by decide) 1 d c,
      on_other (ringE 2) (show SemLoc.dma (ds 16) ≠ SemLoc.reg barS by decide) 1 d c,
      on_other (ringE 1) (show SemLoc.dma (ds 16) ≠ SemLoc.reg barS by decide) 1 d c,
      on_other (ringE 0) (show SemLoc.dma (ds 16) ≠ SemLoc.reg barS by decide) 1 d c]]
  simp only [Nat.add_zero, Nat.zero_add, Finset.sum_add_distrib, sum_one]
theorem launch_17 (c : Dev nD) :
    tallyOn (dcell c 17) (launchCredit (Pipeline.owing O₀) 0 (dcell c 17)) = (tallyAt (dcell c 17) () Nc : CellTallies nD τ sig Unit) := by
  unfold tallyAt; refine congrArg _ (Finsupp.ext fun u => ?_); cases u
  have h (d : Dev nD) := owed_eq d (dcell c 17)
  rw [Pipeline.launchCredit_owing, Finsupp.single_eq_same, Finset.sum_congr rfl fun d _ => h d]
  rw [Finset.sum_congr rfl fun d _ => by
    rw [on_other crossE (show SemLoc.dma (ds 17) ≠ SemLoc.dma (ds 11) by decide) N d c,
      on_other crossE (show SemLoc.dma (ds 17) ≠ SemLoc.dma (ds 10) by decide) N d c,
      on_other crossE (show SemLoc.dma (ds 17) ≠ SemLoc.dma (ds 9) by decide) N d c,
      on_other (ringE 0) (show SemLoc.dma (ds 17) ≠ SemLoc.dma (ds 3) by decide) N d c,
      on_other (ringE 1) (show SemLoc.dma (ds 17) ≠ SemLoc.dma (ds 4) by decide) N d c,
      on_other (ringE 2) (show SemLoc.dma (ds 17) ≠ SemLoc.dma (ds 5) by decide) N d c,
      on_same (ringE 2) (SemLoc.dma (ds 17)) Nc d c,
      on_other (ringE 1) (show SemLoc.dma (ds 17) ≠ SemLoc.dma (ds 16) by decide) Nc d c,
      on_other (ringE 0) (show SemLoc.dma (ds 17) ≠ SemLoc.dma (ds 15) by decide) Nc d c,
      on_other crossE (show SemLoc.dma (ds 17) ≠ SemLoc.reg barS by decide) 1 d c,
      on_other (ringE 2) (show SemLoc.dma (ds 17) ≠ SemLoc.reg barS by decide) 1 d c,
      on_other (ringE 1) (show SemLoc.dma (ds 17) ≠ SemLoc.reg barS by decide) 1 d c,
      on_other (ringE 0) (show SemLoc.dma (ds 17) ≠ SemLoc.reg barS by decide) 1 d c]]
  simp only [Nat.add_zero, Nat.zero_add, Finset.sum_add_distrib, sum_one]

theorem creds (c : Dev nD) :
    (Pipeline.launchCred O₀ c : sProp 𝕄) ⊢ iprop(cred (tallyAt (barCell c) () 4) ∗ cred (tallyAt (dcell c 3) () N) ∗ cred (tallyAt (dcell c 4) () N) ∗ cred (tallyAt (dcell c 5) () N) ∗ cred (tallyAt (dcell c 9) () N) ∗ cred (tallyAt (dcell c 10) () N) ∗ cred (tallyAt (dcell c 11) () N) ∗ cred (tallyAt (dcell c 15) () Nc) ∗ cred (tallyAt (dcell c 16) () Nc) ∗ cred (tallyAt (dcell c 17) () Nc)) := by
  rw [← launch_bar, ← launch_3, ← launch_4, ← launch_5, ← launch_9, ← launch_10, ← launch_11, ← launch_15, ← launch_16, ← launch_17]
  unfold Pipeline.launchCred
  refine BIBase.Entails.trans (BI.bigSep_subset (Finset.subset_univ (Finset.univ.map ⟨csem, csem_injective⟩))) ?_
  rw [bigSep_map, bigSep_cells]
  iintro ⟨H, -, -, -, H3, H4, H5, -, -, -, H9, H10, H11, -, -, -, H15, H16, H17⟩
  isplitl [H]; · iexact H
  isplitl [H3]; · iexact H3
  isplitl [H4]; · iexact H4
  isplitl [H5]; · iexact H5
  isplitl [H9]; · iexact H9
  isplitl [H10]; · iexact H10
  isplitl [H11]; · iexact H11
  isplitl [H15]; · iexact H15
  isplitl [H16]; · iexact H16
  iexact H17

/-- The positions, tokens and credits a device gets are what its body starts from. -/
theorem deal (c : Dev nD) : iprop(linear c ∗ (cred (tallyAt (barCell c) () 4) ∗ cred (tallyAt (dcell c 3) () N) ∗ cred (tallyAt (dcell c 4) () N) ∗ cred (tallyAt (dcell c 5) () N) ∗ cred (tallyAt (dcell c 9) () N) ∗ cred (tallyAt (dcell c 10) () N) ∗ cred (tallyAt (dcell c 11) () N) ∗ cred (tallyAt (dcell c 15) () Nc) ∗ cred (tallyAt (dcell c 16) () Nc) ∗ cred (tallyAt (dcell c 17) () Nc))) ⊢ (iprop(entry c ∗ cans c ∗ exps c) : sProp 𝕄) := by
  unfold linear payToks entry cans exps can exp
  rw [bigSep_cells]
  iintro ⟨⟨⟨PB, P0, P1, P2, P3, P4, P5, P6, P7, P8, P9, P10, P11, P12, P13, P14, P15, P16, P17⟩, ⟨B0, B1, B2, B3⟩, T0, T1, T2, T3, T4, T5, T6, T7, T8, T9, T10, T11, T12, T13, T14, T15, T16, T17⟩, CB, C3, C4, C5, C9, C10, C11, C15, C16, C17⟩
  isplitl [PB B0 B1 B2 B3 CB]
  · isplitl [B0 B1 B2 B3]
    · isplitl [B2]; · iexact B2
      isplitl [B1]; · iexact B1
      isplitl [B0]; · iexact B0
      iexact B3
    isplitl [PB]; · iexact PB
    iexact CB
  isplitl [P12 T12 T15 P13 T13 T16 P14 T14 T17 P0 T0 T3 P1 T1 T4 P2 T2 T5 P6 T6 T9 P7 T7 T10 P8 T8 T11]
  · isplitl [P12 T12 T15 P13 T13 T16 P14 T14 T17]
    · isplitl [P12 T12 T15]
      · isplitl [P12]; · iexact P12
        isplitl [T12]; · iexact T12
        iexact T15
      isplitl [P13 T13 T16]
      · isplitl [P13]; · iexact P13
        isplitl [T13]; · iexact T13
        iexact T16
      isplitl [P14]; · iexact P14
      isplitl [T14]; · iexact T14
      iexact T17
    isplitl [P0 T0 T3 P1 T1 T4 P2 T2 T5]
    · isplitl [P0 T0 T3]
      · isplitl [P0]; · iexact P0
        isplitl [T0]; · iexact T0
        iexact T3
      isplitl [P1 T1 T4]
      · isplitl [P1]; · iexact P1
        isplitl [T1]; · iexact T1
        iexact T4
      isplitl [P2]; · iexact P2
      isplitl [T2]; · iexact T2
      iexact T5
    isplitl [P6 T6 T9]
    · isplitl [P6]; · iexact P6
      isplitl [T6]; · iexact T6
      iexact T9
    isplitl [P7 T7 T10]
    · isplitl [P7]; · iexact P7
      isplitl [T7]; · iexact T7
      iexact T10
    isplitl [P8]; · iexact P8
    isplitl [T8]; · iexact T8
    iexact T11
  isplitl [P15 C15 P16 C16 P17 C17]
  · isplitl [P15 C15]
    · isplitl [P15]; · iexact P15
      iexact C15
    isplitl [P16 C16]
    · isplitl [P16]; · iexact P16
      iexact C16
    isplitl [P17]; · iexact P17
    iexact C17
  isplitl [P3 C3 P4 C4 P5 C5]
  · isplitl [P3 C3]
    · isplitl [P3]; · iexact P3
      iexact C3
    isplitl [P4 C4]
    · isplitl [P4]; · iexact P4
      iexact C4
    isplitl [P5]; · iexact P5
    iexact C5
  isplitl [P9 C9]
  · isplitl [P9]; · iexact P9
    iexact C9
  isplitl [P10 C10]
  · isplitl [P10]; · iexact P10
    iexact C10
  isplitl [P11]; · iexact P11
  iexact C11

/-! ### The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' records
  iintro ⟨-, Hlev, Hcr, -, ⟨%K, HI, HR⟩, HL⟩
  ihave Hc := (creds (F := F) c) $$ Hcr
  imodintro
  unfold start
  isplitl
  · isplitl [Hlev HI HR]
    · iexists K; unfold Ctx
      isplitl [HI]; · iexact HI
      isplitl [HR]; · iexact HR
      iexact Hlev
    iapply (deal c)
    isplitl [HL]; · iexact HL
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, wholes_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, wholes_eq, ownSems0_eq, unscopedSems0_eq]
  unfold Φ₁ dones done
  iintro ⟨Hr, HB, ⟨S12, S13, S14⟩, ⟨S15, S16, S17⟩, ⟨S0, S1, S2⟩, ⟨S3, S4, S5⟩, ⟨S6, S7, S8⟩, ⟨S9, S10, S11⟩⟩
  isplitl [HB]; · iexact HB
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  iexact Hr

theorem mayWait_stage (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  refine mayWait_of c sm ?_
  rw [h]
  rcases hO with rfl | rfl
  · exact above_O c 0 (by decide)
  · exact Above.zero _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on the 32 devices
    ends, with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_x (c : Dev nD) : finalA m ρ c (0 : Fin 3) = m ((c : Thread nD τ).loc main_arg0) :=
  (dats (F := F) m ρ 0 c).arrAt_in (0 : Fin 3) rfl _
theorem finalA_dest (c : Dev nD) : finalA m ρ c (1 : Fin 3) = m ((c : Thread nD τ).loc main_arg1) :=
  (dats (F := F) m ρ 0 c).arrAt_in (1 : Fin 3) rfl _

end Cert.K01

end
-- ==== Proof.Frames.lean ====
/-
The frames: each printed program runs to an end with its arguments unchanged and every semaphore counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.K01

open Idealize.ShloMosaic Idealize.SL.Sem

attribute [local instance] Cert.Kernel.Gen.facts Cert.KernelIdeal.Gen.facts Cert.ReferenceIdeal.Gen.facts

/-- The kernel's frame, at whatever the floats are. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c 0).trans (finalA_x m ρ c), (h.1 c 1).trans (finalA_dest m ρ c)⟩, h.2⟩) (run_main m ρ)

/-- The two printed kernels are the same text: their bodies agree at the one label there is, -/
theorem sameBodies {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀)) ?_
  funext l
  match l with
  | 0 => rfl

/-- so their body tables do. -/
theorem sameDefs {F : FTy → Type} [FloatOps F] : Cert.Kernel.defs (F := F) = Cert.KernelIdeal.defs (F := F) :=
  congrArg (Pipeline.defs Cert.KernelIdeal.pcfgs) sameBodies

/-- Over words. -/
theorem frame_kernel : Cert.quiescent_Kernel := fun m ρ _ => by
  have h := frame (F := Bits) m ρ
  rw [← sameDefs] at h
  exact h

/-- Over exact values. -/
theorem frame_kernelIdeal : Cert.quiescent_KernelIdeal := fun m ρ _ => frame (F := Ideal) m ρ

/-- The reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.K01

end
-- ==== Proof.Sort.lean ====
/-
A stable sort by numbers: the element that lands at a position has exactly that many elements before it, those with a
smaller number and the earlier ones with the same.
-/
module

public import Idealize.ShloMosaic.Lib.SortFacts
public import Mathlib.Algebra.BigOperators.Group.Finset.Basic
public import Mathlib.Data.Fintype.Card
public import Mathlib.Order.Interval.Finset.Fin

@[expose] public section

namespace Cert.K01

open Idealize.ShloMosaic

variable {n : ℕ} (f : Fin n → ℕ)

/-- Before by number alone. -/
def byKey (a b : Fin n) : Bool := decide (f a < f b)
/-- Before by number, then by position. -/
def byLex (a b : Fin n) : Bool := decide (f a < f b ∨ (f a = f b ∧ a < b))

/-- On an increasing list both sort alike: the sort keeps the order of equal elements. -/
theorem sort_lex (l : List (Fin n)) (hl : l.Pairwise (· < ·)) : stableSort (byKey f) l = stableSort (byLex f) l := by
  induction l with
  | nil => rfl
  | cons a l ih =>
    rw [List.pairwise_cons] at hl
    unfold stableSort
    rw [ih hl.2]
    refine insertBefore_congr _ _ _ _ fun b hb => ?_
    have hb' : a < b := hl.1 b ((perm_stableSort _ l).mem_iff.1 hb)
    unfold byKey byLex
    refine decide_eq_decide.2 ⟨Or.inl, fun h => ?_⟩
    rcases h with h | ⟨_, h⟩
    · exact h
    · exact absurd h (not_lt.2 hb'.le)

theorem sortedFrom_lex : sortedFrom (byKey f) = sortedFrom (byLex f) := by
  have e : sortPositions n (byKey f) = sortPositions n (byLex f) := sort_lex f _ (List.pairwise_lt_finRange n)
  funext k
  unfold sortedFrom
  rw [List.get_of_eq e]
  rfl

/-- Sorted positions rise. -/
theorem sortedFrom_lt {i j : Fin n} (h : i < j) : byLex f (sortedFrom (byKey f) i) (sortedFrom (byKey f) j) = true := by
  have hne : sortedFrom (byKey f) i ≠ sortedFrom (byKey f) j := fun e => absurd (sortedFrom_injective _ e) (Fin.ne_of_lt h)
  have hno := sortedFrom_noInversion (byLex f) (byLex f)
    (fun a b h => by unfold byLex at *; rw [decide_eq_true_eq] at h; rw [decide_eq_false_iff_not]; omega)
    (fun _ _ h => h)
    (fun a b c h₁ h₂ => by unfold byLex at *; rw [decide_eq_false_iff_not] at *; omega) i j h
  rw [← sortedFrom_lex] at hno
  unfold byLex at hno ⊢
  rw [decide_eq_false_iff_not] at hno
  rw [decide_eq_true_eq]
  have : (sortedFrom (byKey f) i).val ≠ (sortedFrom (byKey f) j).val := fun e => hne (Fin.ext e)
  omega

/-- The position an element lands at is the number of elements before it. -/
theorem sortedFrom_pos (k : Fin n) :
    (∑ g : Fin n, if byLex f g (sortedFrom (byKey f) k) = true then 1 else 0) = k.val := by
  have hbij : Function.Bijective (sortedFrom (byKey f)) := ⟨sortedFrom_injective _, sortedFrom_surjective _⟩
  rw [← Function.Bijective.sum_comp hbij (fun g => if byLex f g (sortedFrom (byKey f) k) = true then 1 else 0)]
  have e : ∀ i : Fin n, (byLex f (sortedFrom (byKey f) i) (sortedFrom (byKey f) k) = true) ↔ i < k := fun i => by
    refine ⟨fun h => ?_, sortedFrom_lt f⟩
    rcases lt_trichotomy i k with hlt | rfl | hgt
    · exact hlt
    · unfold byLex at h; rw [decide_eq_true_eq] at h; omega
    · have h2 := sortedFrom_lt f hgt
      unfold byLex at h h2; rw [decide_eq_true_eq] at h h2; omega
  rw [Finset.sum_congr rfl fun i _ => if_congr (e i) rfl rfl, Finset.sum_boole]
  have e2 : (Finset.univ.filter fun i : Fin n => i < k) = Finset.Iio k := by ext; simp
  rw [e2, Fin.card_Iio]; rfl

end Cert.K01
-- ==== Proof.Count.lean ====
/-
Counting at exact values: how many rows of a block go to each destination, and each row's rank among the rows of its
own destination, which the kernel takes block of 256 by block of 256 through a triangular product. Sums of zeros and
ones are natural numbers, so both are read here as counts over ranges of row numbers.
-/
module

public import proofs.«01_k».proof.Proof.Values
public import Idealize.ShloMosaic.Lib.ValueIdx
public import Idealize.ShloMosaic.Lib.ValueIdxRank1
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.K01

open Cert.KernelIdeal Cert.KernelIdeal.Gen
open Idealize.ShloMosaic Idealize.ShloMosaic.ValueIdx

/-! ## Destinations and counts -/

/-- The destination of row `q` of a block, as a number. -/
def dst (D : Vec Ideal S2048 .i32) (q : ℕ) : ℕ := if h : q < 2048 then BitVec.toNat (w := 32) (D (ix1 ⟨q, h⟩)) else 0
/-- How many of the first `n` rows go to `l`. -/
def cnt (D : Vec Ideal S2048 .i32) (n l : ℕ) : ℕ := ∑ q ∈ Finset.range n, if dst D q = l then 1 else 0

theorem cnt_le (D : Vec Ideal S2048 .i32) (n l : ℕ) : cnt D n l ≤ n := by
  refine (Finset.sum_le_card_nsmul _ _ 1 fun q _ => ?_).trans (by simp)
  split <;> omega

theorem cnt_add (D : Vec Ideal S2048 .i32) (a b l : ℕ) :
    cnt D (a + b) l = cnt D a l + ∑ q ∈ Finset.range b, if dst D (a + q) = l then 1 else 0 := by
  unfold cnt; rw [Finset.sum_range_add]

theorem cnt_succ (D : Vec Ideal S2048 .i32) (n l : ℕ) : cnt D (n + 1) l = cnt D n l + if dst D n = l then 1 else 0 := by
  unfold cnt; rw [Finset.sum_range_succ]

theorem cnt_mono (D : Vec Ideal S2048 .i32) (l : ℕ) {a b : ℕ} (h : a ≤ b) : cnt D a l ≤ cnt D b l := by
  obtain ⟨k, rfl⟩ := Nat.exists_eq_add_of_le h
  rw [cnt_add]; omega

/-- A row's rank is below the number of rows of its destination. -/
theorem cnt_lt (D : Vec Ideal S2048 .i32) {i : ℕ} (hi : i < 2048) : cnt D i (dst D i) < cnt D 2048 (dst D i) := by
  have h1 := cnt_succ D i (dst D i)
  have h2 := cnt_mono D (dst D i) (show i + 1 ≤ 2048 by omega)
  rw [if_pos rfl] at h1; omega

/-- Two rows of one destination have different ranks. -/
theorem cnt_inj (D : Vec Ideal S2048 .i32) {i i' : ℕ} (hd : dst D i = dst D i') (h : cnt D i (dst D i) = cnt D i' (dst D i')) : i = i' := by
  have key : ∀ {a b : ℕ}, a < b → dst D a = dst D b → cnt D a (dst D a) < cnt D b (dst D b) := fun {a b} hab e => by
    have h1 := cnt_succ D a (dst D a)
    have h2 := cnt_mono D (dst D a) (show a + 1 ≤ b by omega)
    rw [if_pos rfl] at h1; rw [← e]; omega
  rcases Nat.lt_trichotomy i i' with hlt | rfl | hlt
  · have := key hlt hd; omega
  · rfl
  · have := key hlt hd.symm; omega

/-! ## Exact values of words -/

/-- A bit widened and read as a float is zero or one. -/
theorem bit_real {s : Shape} {φ : FTy} (v : IVec s 1) (h : 1 < 32) (i : s.Idx) :
    (sitofp φ (extui 32 v h) : FVec Ideal s φ) i = if v i = 1#1 then (1 : EReal) else 0 := by
  rw [sitofp_apply, extui_apply]
  show ((((v i).setWidth 32).toInt : ℝ) : EReal) = _
  by_cases hv : v i = 1#1
  · rw [if_pos hv, hv]; simp
  · rw [if_neg hv, eq_zero_of_ne_one hv]; simp

/-- A natural number below 2³¹ converts to its word. -/
theorem fptosi_nat (n : ℕ) (h : n < 2 ^ 31) : Ideal.fptosi 32 ((n : ℕ) : EReal) = BitVec.ofNat 32 n := by
  have e : ((n : ℕ) : EReal) = (((n : ℕ) : ℝ) : EReal) := (EReal.coe_natCast).symm
  rw [e]
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  simp

/-- A sum of zeros and ones at exact values is the natural number. -/
theorem sum_bits {ι : Type} (s : Finset ι) (p : ι → Prop) [DecidablePred p] :
    (∑ q ∈ s, if p q then (1 : EReal) else 0) = ((∑ q ∈ s, if p q then 1 else 0 : ℕ) : EReal) := by
  rw [Nat.cast_sum]
  refine Finset.sum_congr rfl fun q _ => ?_
  split <;> simp

/-! ## The mask of destinations -/

section
variable (D : Vec Ideal S2048 .i32)

theorem pay2_apply (i : Fin 2048) (u : Fin 1) : k0_pay2 D (ix2 i u) = D (ix1 i) := by
  unfold k0_pay2
  show shapeCast S2048x1 (shapeCast S2048 D _) _ (ix2 i u) = _
  rw [shapeCast_self]
  exact shapeCast_a_a1_apply _ _ i u

theorem dst_val (i : Fin 2048) : dst D i.val = BitVec.toNat (w := 32) (D (ix1 i)) := dif_pos i.isLt

theorem pay3_apply (i : Fin 2048) (l : Fin 128) : k0_pay3 D (ix2 i l) = if dst D i.val = l.val then 1#1 else 0#1 := by
  unfold k0_pay3
  show cmpi .eq (broadcastTo S2048x128 (k0_pay2 D) _) (iota .tc S2048x128 32 [1] _) (ix2 i l) = _
  show IntOp.cmpi .eq (broadcastTo S2048x128 (k0_pay2 D) _ (ix2 i l)) (iota .tc S2048x128 32 [1] _ (ix2 i l)) = _
  rw [broadcastTo_apply _ _ (ix2 i l) (ix2 i (0 : Fin 1)) (fun a => by match a with | ⟨0, _⟩ => rfl | ⟨1, _⟩ => rfl), pay2_apply, dst_val]
  have e : iota .tc S2048x128 32 [1] iota_S2048x128_d1_w32 (ix2 i l) = BitVec.ofNat 32 l.val := by
    show BitVec.ofNat 32 (0 * 128 + l.val) = _
    rw [Nat.zero_mul, Nat.zero_add]
  rw [e]
  show BitVec.ofBool (decide (D (ix1 i) = BitVec.ofNat 32 l.val)) = _
  have hl := l.isLt
  by_cases h : BitVec.toNat (w := 32) (D (ix1 i)) = l.val
  · rw [if_pos h, decide_eq_true]
    · rfl
    · refine BitVec.eq_of_toNat_eq ?_
      rw [h, BitVec.toNat_ofNat]; omega
  · rw [if_neg h, decide_eq_false]
    · rfl
    · intro e
      refine h ?_
      rw [e, BitVec.toNat_ofNat]; omega

theorem pay3_one (i : Fin 2048) (l : Fin 128) : k0_pay3 D (ix2 i l) = 1#1 ↔ dst D i.val = l.val := by
  rw [pay3_apply]; split <;> simp [*]

/-! ## The counts the devices exchange -/

theorem pay4_apply (r : Fin 8) (l : Fin 128) :
    k0_pay4 D (ix2 r l) = if r.val = 0 then BitVec.ofNat 32 (cnt D 2048 l.val) else 0#32 := by
  unfold k0_pay4
  show shapeCast S8x128 (select _ _ _) _ (ix2 r l) = _
  rw [shapeCast_self, select_apply]
  have e1 : cmpi .eq (iota .tc S8x128 32 [0] iota_S8x128_d0_w32) (broadcast S8x128 0#32) (ix2 r l) = if r.val = 0 then 1#1 else 0#1 := by
    show BitVec.ofBool (decide (BitVec.ofNat 32 (0 * 8 + r.val) = 0#32)) = _
    have := r.isLt
    by_cases h : r.val = 0
    · rw [if_pos h, h]; rfl
    · rw [if_neg h, decide_eq_false]
      · rfl
      · intro e
        have := congrArg BitVec.toNat e
        rw [BitVec.toNat_ofNat] at this
        simp at this; omega
  rw [e1]
  by_cases h : r.val = 0
  · rw [if_pos h, if_pos h, select_one, shapeCast_self, broadcastTo_1b_ab_apply]
    show Ideal.fptosi 32 (shapeCast S1x128 _ shapeCasts_S128_S1x128 (ix2 (0 : Fin 1) l)) = _
    rw [shapeCast_a_1a_apply]
    refine (congrArg (Ideal.fptosi 32) (Ideal.multiReduction_add_single _ _ _ _ _ _)).trans ?_
    have e2 : ∀ k : Fin (S2048x128.size 0), (sitofp .f32 (extui 32 (k0_pay3 D) natLt_1_32) : FVec Ideal S2048x128 .f32)
        (reduces_S2048x128_S128.lift (ix1 l) k) = if dst D k.val = l.val then (1 : EReal) else 0 := fun k => by
      have e3 : reduces_S2048x128_S128.lift (ix1 l) k = ix2 (n0 := 2048) (n1 := 128) k l := by
        funext a; match a with | ⟨0, _⟩ => rfl | ⟨1, _⟩ => rfl
      rw [e3, bit_real]
      exact if_congr (pay3_one D k l) rfl rfl
    rw [Finset.sum_congr rfl fun k _ => e2 k, sum_bits]
    have e4 : (∑ k : Fin (S2048x128.size 0), if dst D k.val = l.val then 1 else 0 : ℕ) = cnt D 2048 l.val :=
      Fin.sum_univ_eq_sum_range (fun q => if dst D q = l.val then 1 else 0) 2048
    rw [e4]
    exact fptosi_nat _ (lt_of_le_of_lt (cnt_le _ _ _) (by norm_num))
  · rw [if_neg h, if_neg h, select_zero]; rfl

/-! ## Ranks, a block of 256 rows at a time -/

theorem tri_apply (r q : Fin 256) : (k0_pay5 (F := Ideal)) (ix2 r q) = if q.val < r.val then (1 : EReal) else 0 := by
  unfold k0_pay5
  show truncf .bf16 (sitofp .f32 (extui 32 (cmpi .slt (iota .tc S256x256 32 [1] _) (iota .tc S256x256 32 [0] _)) natLt_1_32) : FVec Ideal S256x256 .f32) _ (ix2 r q) = _
  rw [truncf_apply, bit_real]
  refine if_congr ?_ rfl rfl
  show BitVec.ofBool ((BitVec.ofNat 32 (0 * 256 + q.val)).slt (BitVec.ofNat 32 (0 * 256 + r.val))) = 1#1 ↔ _
  have := q.isLt; have := r.isLt
  rw [Nat.zero_mul, Nat.zero_add, Nat.zero_add]
  have e : (BitVec.ofNat 32 q.val).slt (BitVec.ofNat 32 r.val) = decide (q.val < r.val) := by
    rw [BitVec.slt_eq_decide]
    refine decide_eq_decide.2 ?_
    rw [BitVec.toInt_eq_toNat_cond, BitVec.toInt_eq_toNat_cond, BitVec.toNat_ofNat, BitVec.toNat_ofNat]
    rw [Nat.mod_eq_of_lt (by omega), Nat.mod_eq_of_lt (by omega), if_pos (by omega), if_pos (by omega)]
    omega
  rw [e]
  by_cases h : q.val < r.val <;> simp [h]

/-- The ranks of one block of rows, from its part of the mask and the counts before it. -/
def rankBlk (v73 : IVec S2048x128 1) (o : ℕ) (h : S2048x128.Slices ![o, 0] S256x128) (v163 : FVec Ideal S256x256 .bf16)
    (base : FVec Ideal S1x128 .f32) : FVec Ideal S256x1 .f32 :=
  shapeCast S256x1 (multiReduction .add [1] S256
    (select (extractStridedSlice S256x128 ![o, 0] v73 h)
      (addf (matmul dot_S256x256_S256x128_S256x128_1_0_0_1_n_n none v163
          (truncf .bf16 (sitofp .f32 (extui 32 (extractStridedSlice S256x128 ![o, 0] v73 h) natLt_1_32) : FVec Ideal S256x128 .f32) bitsLt_bf16_f32)
          (constant S256x128 .f32 0x00000000#32))
        (broadcastTo S256x128 base broadcasts_S1x128_S256x128))
      (broadcast S256x128 (Scalar.ofBits (F := Ideal) .f32 0x00000000#32)))
    0x00000000#32 reduces_S256x128_S256 (.inl rfl) rfl) shapeCasts_S256_S256x1

/-- The counts once a block's rows are added. -/
def baseNext (v73 : IVec S2048x128 1) (o : ℕ) (h : S2048x128.Slices ![o, 0] S256x128) (base : FVec Ideal S1x128 .f32) : FVec Ideal S1x128 .f32 :=
  addf base (shapeCast S1x128 (multiReduction .add [0] S128
    (sitofp .f32 (extui 32 (extractStridedSlice S256x128 ![o, 0] v73 h) natLt_1_32) : FVec Ideal S256x128 .f32)
    0x00000000#32 reduces_S256x128_S128 (.inl rfl) rfl) shapeCasts_S128_S1x128)

variable {D} {o : ℕ} {h : S2048x128.Slices ![o, 0] S256x128} {base : FVec Ideal S1x128 .f32}

theorem slice_one (ho : o ≤ 1792) (r : Fin 256) (l : Fin 128) :
    extractStridedSlice S256x128 ![o, 0] (k0_pay3 D) h (ix2 r l) = 1#1 ↔ dst D (o + r.val) = l.val := by
  have := r.isLt
  rw [slice2_axis0_apply o (k0_pay3 D) h r l ⟨o + r.val, by omega⟩ rfl]
  exact pay3_one D _ l

theorem baseNext_apply (ho : o ≤ 1792) (hb : ∀ l : Fin 128, base (ix2 (0 : Fin 1) l) = ((cnt D o l.val : ℕ) : EReal)) (l : Fin 128) :
    baseNext (k0_pay3 D) o h base (ix2 (0 : Fin 1) l) = ((cnt D (o + 256) l.val : ℕ) : EReal) := by
  unfold baseNext
  rw [addf_apply, hb, shapeCast_a_1a_apply, cnt_add, Nat.cast_add]
  refine congrArg (((cnt D o l.val : ℕ) : EReal) + ·) ?_
  refine (Ideal.multiReduction_add_single _ _ _ _ _ _).trans ?_
  have e2 : ∀ k : Fin (S256x128.size 0), (sitofp .f32 (extui 32 (extractStridedSlice S256x128 ![o, 0] (k0_pay3 D) h) natLt_1_32) : FVec Ideal S256x128 .f32)
      (reduces_S256x128_S128.lift (ix1 l) k) = if dst D (o + k.val) = l.val then (1 : EReal) else 0 := fun k => by
    have e3 : reduces_S256x128_S128.lift (ix1 l) k = ix2 (n0 := 256) (n1 := 128) k l := by
      funext a; match a with | ⟨0, _⟩ => rfl | ⟨1, _⟩ => rfl
    rw [e3, bit_real]
    exact if_congr (slice_one ho k l) rfl rfl
  rw [Finset.sum_congr rfl fun k _ => e2 k, sum_bits]
  exact congrArg _ (Fin.sum_univ_eq_sum_range (fun q => if dst D (o + q) = l.val then 1 else 0) 256)

theorem rankBlk_apply (ho : o ≤ 1792) (hb : ∀ l : Fin 128, base (ix2 (0 : Fin 1) l) = ((cnt D o l.val : ℕ) : EReal)) (r : Fin 256)
    (hd : dst D (o + r.val) < 128) :
    rankBlk (k0_pay3 D) o h k0_pay5 base (ix2 r (0 : Fin 1)) = ((cnt D (o + r.val) (dst D (o + r.val)) : ℕ) : EReal) := by
  unfold rankBlk
  rw [shapeCast_a_a1_apply]
  refine (Ideal.multiReduction_add_single _ _ _ _ _ _).trans ?_
  have e3 : ∀ l : Fin 128, reduces_S256x128_S256.lift (ix1 r) l = ix2 (n0 := 256) (n1 := 128) r l := fun l => by
    funext a; match a with | ⟨0, _⟩ => rfl | ⟨1, _⟩ => rfl
  -- one lane of the inner expression
  have e2 : ∀ l : Fin 128, select (extractStridedSlice S256x128 ![o, 0] (k0_pay3 D) h)
      (addf (matmul dot_S256x256_S256x128_S256x128_1_0_0_1_n_n none k0_pay5
          (truncf .bf16 (sitofp .f32 (extui 32 (extractStridedSlice S256x128 ![o, 0] (k0_pay3 D) h) natLt_1_32) : FVec Ideal S256x128 .f32) bitsLt_bf16_f32)
          (constant S256x128 .f32 0x00000000#32))
        (broadcastTo S256x128 base broadcasts_S1x128_S256x128))
      (broadcast S256x128 (Scalar.ofBits (F := Ideal) .f32 0x00000000#32)) (reduces_S256x128_S256.lift (ix1 r) l)
      = if dst D (o + r.val) = l.val then ((cnt D (o + r.val) l.val : ℕ) : EReal) else 0 := fun l => by
    rw [e3, select_apply]
    by_cases hl : dst D (o + r.val) = l.val
    · rw [(slice_one ho r l).2 hl, select_one, if_pos hl, addf_apply, broadcastTo_1b_ab_apply, hb, cnt_add, Nat.cast_add, add_comm]
      refine congrArg (((cnt D o l.val : ℕ) : EReal) + ·) ?_
      refine (Ideal.matmul_plain_apply (M := 256) (K := 256) (N := 128) none _ _ _ r l).trans ?_
      have e0 : (constant S256x128 .f32 0x00000000#32 : FVec Ideal S256x128 .f32) (ix2 r l) = 0 := Ideal.ofBits_zero_f32
      rw [e0, zero_add]
      have e5 : ∀ q : Fin 256, (k0_pay5 (F := Ideal)) (ix2 r q)
          * (truncf .bf16 (sitofp .f32 (extui 32 (extractStridedSlice S256x128 ![o, 0] (k0_pay3 D) h) natLt_1_32) : FVec Ideal S256x128 .f32) bitsLt_bf16_f32 : FVec Ideal S256x128 .bf16) (ix2 q l)
          = if q.val < r.val ∧ dst D (o + q.val) = l.val then (1 : EReal) else 0 := fun q => by
        rw [tri_apply, truncf_apply, bit_real, if_congr (slice_one ho q l) rfl rfl]
        by_cases h1 : q.val < r.val <;> by_cases h2 : dst D (o + q.val) = l.val <;> simp [h1, h2]
      rw [Finset.sum_congr rfl fun q _ => e5 q, sum_bits]
      refine congrArg _ ?_
      rw [Fin.sum_univ_eq_sum_range (fun q => if q < r.val ∧ dst D (o + q) = l.val then 1 else 0) 256]
      have hr := r.isLt
      rw [← Finset.sum_subset (Finset.range_mono (show r.val ≤ 256 by omega))]
      · refine Finset.sum_congr rfl fun q hq => ?_
        rw [Finset.mem_range] at hq
        simp [hq]
      · intro q _ hq
        rw [Finset.mem_range] at hq
        rw [if_neg (fun hh => hq hh.1)]
    · have hz := eq_zero_of_ne_one (fun hh => hl ((slice_one (D := D) (h := h) ho r l).1 hh))
      rw [hz, select_zero, if_neg hl]
      exact Ideal.ofBits_zero_f32
  refine (Finset.sum_congr rfl fun l _ => e2 l).trans ?_
  refine (Finset.sum_eq_single (⟨dst D (o + r.val), hd⟩ : Fin 128) (fun l _ hne => if_neg fun e => hne (Fin.ext e.symm))
    (fun hh => absurd (Finset.mem_univ _) hh)).trans ?_
  rw [if_pos rfl]

end

end Cert.K01

end
-- ==== Proof.Key.lean ====
/-
The key of a row: 560 times its destination plus its rank among the rows of that destination. The eight blocks of ranks
are read one by one, each over the counts of the rows before it.
-/
module

public import proofs.«01_k».proof.Proof.Count

@[expose] public section

noncomputable section

namespace Cert.K01

open Cert.KernelIdeal Cert.KernelIdeal.Gen
open Idealize.ShloMosaic Idealize.ShloMosaic.ValueIdx

variable (D : Vec Ideal S2048 .i32)

/-- The counts of the rows before each block of 256. -/
def base0 : FVec Ideal S1x128 .f32 := k0_pay6
def base1 := baseNext (k0_pay3 D) 0 slices_S2048x128_o0_0_S256x128 base0
def base2 := baseNext (k0_pay3 D) 256 slices_S2048x128_o256_0_S256x128 (base1 D)
def base3 := baseNext (k0_pay3 D) 512 slices_S2048x128_o512_0_S256x128 (base2 D)
def base4 := baseNext (k0_pay3 D) 768 slices_S2048x128_o768_0_S256x128 (base3 D)
def base5 := baseNext (k0_pay3 D) 1024 slices_S2048x128_o1024_0_S256x128 (base4 D)
def base6 := baseNext (k0_pay3 D) 1280 slices_S2048x128_o1280_0_S256x128 (base5 D)
def base7 := baseNext (k0_pay3 D) 1536 slices_S2048x128_o1536_0_S256x128 (base6 D)

/-- The ranks of each block of 256 rows. -/
def ranks : Fin 8 → FVec Ideal S256x1 .f32
  | 0 => rankBlk (k0_pay3 D) 0 slices_S2048x128_o0_0_S256x128 k0_pay5 base0
  | 1 => rankBlk (k0_pay3 D) 256 slices_S2048x128_o256_0_S256x128 k0_pay5 (base1 D)
  | 2 => rankBlk (k0_pay3 D) 512 slices_S2048x128_o512_0_S256x128 k0_pay5 (base2 D)
  | 3 => rankBlk (k0_pay3 D) 768 slices_S2048x128_o768_0_S256x128 k0_pay5 (base3 D)
  | 4 => rankBlk (k0_pay3 D) 1024 slices_S2048x128_o1024_0_S256x128 k0_pay5 (base4 D)
  | 5 => rankBlk (k0_pay3 D) 1280 slices_S2048x128_o1280_0_S256x128 k0_pay5 (base5 D)
  | 6 => rankBlk (k0_pay3 D) 1536 slices_S2048x128_o1536_0_S256x128 k0_pay5 (base6 D)
  | 7 => rankBlk (k0_pay3 D) 1792 slices_S2048x128_o1792_0_S256x128 k0_pay5 (base7 D)

theorem base0_apply (l : Fin 128) : base0 (ix2 (0 : Fin 1) l) = ((cnt D 0 l.val : ℕ) : EReal) := by
  have e : cnt D 0 l.val = 0 := rfl
  rw [e, Nat.cast_zero]
  exact Ideal.ofBits_zero_f32
theorem base1_apply (l : Fin 128) : base1 D (ix2 (0 : Fin 1) l) = ((cnt D 256 l.val : ℕ) : EReal) := baseNext_apply (o := 0) (by omega) (base0_apply D) l
theorem base2_apply (l : Fin 128) : base2 D (ix2 (0 : Fin 1) l) = ((cnt D 512 l.val : ℕ) : EReal) := baseNext_apply (o := 256) (by omega) (base1_apply D) l
theorem base3_apply (l : Fin 128) : base3 D (ix2 (0 : Fin 1) l) = ((cnt D 768 l.val : ℕ) : EReal) := baseNext_apply (o := 512) (by omega) (base2_apply D) l
theorem base4_apply (l : Fin 128) : base4 D (ix2 (0 : Fin 1) l) = ((cnt D 1024 l.val : ℕ) : EReal) := baseNext_apply (o := 768) (by omega) (base3_apply D) l
theorem base5_apply (l : Fin 128) : base5 D (ix2 (0 : Fin 1) l) = ((cnt D 1280 l.val : ℕ) : EReal) := baseNext_apply (o := 1024) (by omega) (base4_apply D) l
theorem base6_apply (l : Fin 128) : base6 D (ix2 (0 : Fin 1) l) = ((cnt D 1536 l.val : ℕ) : EReal) := baseNext_apply (o := 1280) (by omega) (base5_apply D) l
theorem base7_apply (l : Fin 128) : base7 D (ix2 (0 : Fin 1) l) = ((cnt D 1792 l.val : ℕ) : EReal) := baseNext_apply (o := 1536) (by omega) (base6_apply D) l

theorem ranks_apply (n : Fin 8) (r : Fin 256) (hd : dst D (256 * n.val + r.val) < 128) :
    ranks D n (ix2 r (0 : Fin 1)) = ((cnt D (256 * n.val + r.val) (dst D (256 * n.val + r.val)) : ℕ) : EReal) := by
  match n, hd with
  | 0, hd => exact rankBlk_apply (o := 0) (by omega) (base0_apply D) r hd
  | 1, hd => exact rankBlk_apply (o := 256) (by omega) (base1_apply D) r hd
  | 2, hd => exact rankBlk_apply (o := 512) (by omega) (base2_apply D) r hd
  | 3, hd => exact rankBlk_apply (o := 768) (by omega) (base3_apply D) r hd
  | 4, hd => exact rankBlk_apply (o := 1024) (by omega) (base4_apply D) r hd
  | 5, hd => exact rankBlk_apply (o := 1280) (by omega) (base5_apply D) r hd
  | 6, hd => exact rankBlk_apply (o := 1536) (by omega) (base6_apply D) r hd
  | 7, hd => exact rankBlk_apply (o := 1792) (by omega) (base7_apply D) r hd

theorem key_eq : key D = addi (muli (k0_pay2 D) (broadcast S2048x1 560#32))
    (fptosi 32 (concatenate S2048x1 0 (List.ofFn fun n : Fin 8 => (⟨S256x1, ranks D n⟩ : (s : Shape) × (s.Idx → Ideal .f32)))
      concatenates_S256x1_S256x1_S256x1_S256x1_S256x1_S256x1_S256x1_S256x1_S2048x1_d0)) := rfl

/-- A row's key, where its destination is below 4. -/
theorem key_apply (i : Fin 2048) (hd : dst D i.val < 4) :
    key D (ix2 i (0 : Fin 1)) = BitVec.ofNat 32 (560 * dst D i.val + cnt D i.val (dst D i.val)) := by
  rw [key_eq]
  show IntOp.addi (IntOp.muli (k0_pay2 D (ix2 i (0 : Fin 1))) 560#32) (Ideal.fptosi 32 (concatenate S2048x1 0 _ _ (ix2 i (0 : Fin 1)))) = _
  have hi := i.isLt
  have e0 : 256 * (i.val / 256) + i.val % 256 = i.val := Nat.div_add_mod _ _
  refine (congrArg (fun z => IntOp.addi (IntOp.muli (k0_pay2 D (ix2 i (0 : Fin 1))) 560#32) (Ideal.fptosi 32 z))
    ((concatenate_ofFn_apply (0 : Fin S2048x1.rank) (ranks D) _ rfl 256 rfl (ix2 i (0 : Fin 1)) ⟨i.val / 256, by omega⟩ rfl
      (ix2 (n0 := 256) ⟨i.val % 256, by omega⟩ (0 : Fin 1)) rfl
      (fun b hb => by match b, hb with | ⟨0, _⟩, hb => exact absurd rfl hb | ⟨1, _⟩, _ => rfl)).trans
    (ranks_apply D ⟨i.val / 256, by omega⟩ ⟨i.val % 256, by omega⟩
      (by show dst D (256 * (i.val / 256) + i.val % 256) < 128; rw [e0]; omega)))).trans ?_
  show (k0_pay2 D (ix2 i (0 : Fin 1)) * 560#32) + Ideal.fptosi 32 ((cnt D (256 * (i.val / 256) + i.val % 256) (dst D (256 * (i.val / 256) + i.val % 256)) : ℕ) : EReal) = _
  have h1 := cnt_le D i.val (dst D i.val)
  rw [e0, fptosi_nat _ (by omega), pay2_apply]
  have e1 : D (ix1 i) = BitVec.ofNat 32 (dst D i.val) := by rw [dst_val, BitVec.ofNat_toNat, BitVec.setWidth_eq]
  rw [e1, ← BitVec.ofNat_mul, ← BitVec.ofNat_add, Nat.mul_comm]

end Cert.K01

end
-- ==== Proof.Pack.lean ====
/-
Selecting rows by products with one-hot matrices, at exact values. A zero times anything is zero there and a one leaves
the factor, so a product with a matrix of zeros and ones whose line has a single one reads a single row, whatever the
rows hold. Packing keeps the rows of one destination in the order of their ranks; unpacking adds a source's rows where
an output row's place falls in that source's slot.
-/
module

public import proofs.«01_k».proof.Proof.Key

@[expose] public section

noncomputable section

namespace Cert.K01

open Cert.KernelIdeal Cert.KernelIdeal.Gen
open Idealize.ShloMosaic Idealize.ShloMosaic.ValueIdx

/-- The matrix with a one where a line's word is the column's number past `w`. -/
def oneHot (w : BitVec 32) (K : IVec S2048x1 32) : FVec Ideal S2048x560 .bf16 :=
  truncf .bf16 (sitofp .f32 (extui 32 (cmpi .eq (broadcastTo S2048x560 K broadcasts_S2048x1_S2048x560)
    (addi (broadcast S2048x560 w) io)) natLt_1_32) : FVec Ideal S2048x560 .f32) bitsLt_bf16_f32

theorem io_apply (i : Fin 2048) (r : Fin 560) : io (ix2 i r) = BitVec.ofNat 32 r.val := by
  show BitVec.ofNat 32 (0 * 560 + r.val) = _
  rw [Nat.zero_mul, Nat.zero_add]

theorem oneHot_apply (w : BitVec 32) (K : IVec S2048x1 32) (i : Fin 2048) (r : Fin 560) :
    oneHot w K (ix2 i r) = if K (ix2 i (0 : Fin 1)) = w + BitVec.ofNat 32 r.val then (1 : EReal) else 0 := by
  unfold oneHot
  rw [truncf_apply, bit_real]
  refine if_congr ?_ rfl rfl
  show IntOp.cmpi .eq (broadcastTo S2048x560 K _ (ix2 i r)) (w + io (ix2 i r)) = 1#1 ↔ _
  rw [broadcastTo_apply _ _ (ix2 i r) (ix2 i (0 : Fin 1)) (fun a => by match a with | ⟨0, _⟩ => rfl | ⟨1, _⟩ => rfl), io_apply]
  show BitVec.ofBool (decide _) = 1#1 ↔ _
  by_cases h : K (ix2 i (0 : Fin 1)) = w + BitVec.ofNat 32 r.val
  · simp [h]
  · simp [h]

/-! ## Packing -/

/-- The rows of `V` that a one-hot matrix's lines put at each of 560 places. -/
def chunk (w : BitVec 32) (K : IVec S2048x1 32) (V : FVec Ideal S2048x512 .bf16) : FVec Ideal S560x512 .bf16 :=
  truncf .bf16 (matmul dot_S2048x560_S2048x512_S560x512_0_0_1_1_n_n none (oneHot w K) V (constant S560x512 .f32 0x00000000#32)) bitsLt_bf16_f32

/-- The transposed product read at an index. -/
theorem matmulT_apply (A : FVec Ideal S2048x560 .bf16) (V : FVec Ideal S2048x512 .bf16) (r : Fin 560) (col : Fin 512) :
    (matmul dot_S2048x560_S2048x512_S560x512_0_0_1_1_n_n none A V (constant S560x512 .f32 0x00000000#32) : FVec Ideal S560x512 .f32) (ix2 r col)
      = ∑ i : Fin 2048, A (ix2 i r) * V (ix2 i col) := by
  have hr : dot_S2048x560_S2048x512_S560x512_0_0_1_1_n_n.contr.rank = 1 := rfl
  have hs : dot_S2048x560_S2048x512_S560x512_0_0_1_1_n_n.contr.size ⟨0, by rw [hr]; exact Nat.one_pos⟩ = 2048 := rfl
  refine (Ideal.matmul_constant_zero_apply _ none _ _ _).trans ?_
  rw [← Equiv.sum_comp (contrEquiv1 _ 2048 hr hs).symm]
  refine Finset.sum_congr rfl fun i _ => ?_
  have hk := contrEquiv1_symm_val _ 2048 hr hs i
  have el : dot_S2048x560_S2048x512_S560x512_0_0_1_1_n_n.lhsIdx (ix2 r col) ((contrEquiv1 _ 2048 hr hs).symm i) = ix2 i r := by
    funext a; apply Fin.ext
    match a with
    | ⟨0, _⟩ => exact hk
    | ⟨1, _⟩ => rfl
  have er : dot_S2048x560_S2048x512_S560x512_0_0_1_1_n_n.rhsIdx (ix2 r col) ((contrEquiv1 _ 2048 hr hs).symm i) = ix2 i col := by
    funext a; apply Fin.ext
    match a with
    | ⟨0, _⟩ => exact hk
    | ⟨1, _⟩ => rfl
  rw [el, er]

/-- Where the destinations are below 4 and no destination has more than 560 rows, the chunk for row `i`'s destination
    holds row `i` at the place of its rank. -/
theorem chunk_apply (D : Vec Ideal S2048 .i32) (hd : ∀ q, q < 2048 → dst D q < 4) (hc : ∀ t, t < 4 → cnt D 2048 t ≤ 560)
    (V : FVec Ideal S2048x512 .bf16) (i : Fin 2048) (r : Fin 560) (hr : cnt D i.val (dst D i.val) = r.val) (col : Fin 512) :
    chunk (BitVec.ofNat 32 (560 * dst D i.val)) (key D) V (ix2 r col) = V (ix2 i col) := by
  unfold chunk
  rw [truncf_apply, matmulT_apply]
  have e : ∀ q : Fin 2048, oneHot (BitVec.ofNat 32 (560 * dst D i.val)) (key D) (ix2 q r) * V (ix2 q col) = if q = i then V (ix2 q col) else 0 := fun q => by
    rw [oneHot_apply, key_apply D q (hd q.val q.isLt), ← BitVec.ofNat_add]
    have h1 := hd q.val q.isLt
    have h2 := hd i.val i.isLt
    have h3 := hc _ h1
    have h4 := cnt_lt D q.isLt
    have hrl := r.isLt
    by_cases hq : q = i
    · subst hq
      rw [if_pos (by rw [hr]), if_pos rfl, one_mul]
    · rw [if_neg hq, if_neg, zero_mul]
      intro he
      have he := congrArg BitVec.toNat he
      rw [BitVec.toNat_ofNat, BitVec.toNat_ofNat, Nat.mod_eq_of_lt (by omega), Nat.mod_eq_of_lt (by omega)] at he
      have e1 : dst D q.val = dst D i.val := by omega
      have e2 : cnt D q.val (dst D q.val) = cnt D i.val (dst D i.val) := by omega
      exact hq (Fin.ext (cnt_inj D e1 e2))
  rw [Finset.sum_congr rfl fun q _ => e q, Finset.sum_ite_eq' Finset.univ i, if_pos (Finset.mem_univ i)]

/-! ## Unpacking -/

/-- A chunk's rows put where a place falls in the slot at `w`. -/
def part (H : FVec Ideal S2048x560 .bf16) (M : FVec Ideal S560x512 .bf16) : FVec Ideal S2048x512 .bf16 :=
  truncf .bf16 (matmul dot_S2048x560_S560x512_S2048x512_1_0_0_1_n_n none H M (constant S2048x512 .f32 0x00000000#32)) bitsLt_bf16_f32

/-- A row whose place is `off` in slot `s` reads row `off` of slot `s`'s chunk and zero of any other's. -/
theorem part_apply (P : IVec S2048x1 32) (M : FVec Ideal S560x512 .bf16) (d s : ℕ) (hd : d < 4) (hs : s < 4) (off : Fin 560) (j : Fin 2048)
    (hP : P (ix2 j (0 : Fin 1)) = BitVec.ofNat 32 (560 * s + off.val)) (col : Fin 512) :
    part (oneHot (BitVec.ofNat 32 (560 * d)) P) M (ix2 j col) = if s = d then M (ix2 off col) else 0 := by
  unfold part
  rw [truncf_apply]
  refine (Ideal.matmul_plain_apply (M := 2048) (K := 560) (N := 512) none _ _ _ j col).trans ?_
  have e0 : (constant S2048x512 .f32 0x00000000#32 : FVec Ideal S2048x512 .f32) (ix2 j col) = 0 := Ideal.ofBits_zero_f32
  rw [e0, zero_add]
  have e : ∀ r : Fin 560, oneHot (BitVec.ofNat 32 (560 * d)) P (ix2 j r) * M (ix2 r col) = if r = off then (if s = d then M (ix2 r col) else 0) else 0 := fun r => by
    rw [oneHot_apply, hP, ← BitVec.ofNat_add]
    have h1 := off.isLt
    have h2 := r.isLt
    by_cases hq : s = d ∧ r = off
    · obtain ⟨rfl, rfl⟩ := hq
      rw [if_pos rfl, if_pos rfl, if_pos rfl, one_mul]
    · rw [if_neg, zero_mul]
      · by_cases hr : r = off
        · rw [if_pos hr, if_neg fun hh => hq ⟨hh, hr⟩]
        · rw [if_neg hr]
      · intro he
        have he := congrArg BitVec.toNat he
        rw [BitVec.toNat_ofNat, BitVec.toNat_ofNat, Nat.mod_eq_of_lt (by omega), Nat.mod_eq_of_lt (by omega)] at he
        exact hq ⟨by omega, Fin.ext (by omega)⟩
  rw [Finset.sum_congr rfl fun q _ => e q, Finset.sum_ite_eq' Finset.univ off, if_pos (Finset.mem_univ off)]

end Cert.K01

end
-- ==== Proof.Words.lean ====
/-
The words the kernel computes its places from, read as numbers: a device's z coordinate, the slots of its four sources,
the rows each source sends it, and each output row's place — 560 times the slot its rows come from plus the position
among that source's rows.
-/
module

public import proofs.«01_k».proof.Proof.Pack
public import Idealize.ShloMosaic.Lib.WordSum
public import Idealize.ShloMosaic.PureOps.Reduce

@[expose] public section

noncomputable section

namespace Cert.K01

open Cert.KernelIdeal Cert.KernelIdeal.Gen
open Idealize.ShloMosaic Idealize.ShloMosaic.ValueIdx

/-- A device's z coordinate. -/
def zc (c : Dev nD) : Fin 4 := ⟨c.val % 4, Nat.mod_lt _ (by norm_num)⟩
/-- The slot a device at `z` keeps source `s` in. -/
def sl (z s : Fin 4) : Fin 4 := ⟨(z.val + 4 - s.val) % 4, Nat.mod_lt _ (by norm_num)⟩

theorem zw_eq (c : Dev nD) : zw c = BitVec.ofNat 32 (zc c).val := by revert c; decide +kernel
theorem slot_eq (c : Dev nD) (s : Fin 4) : slot c (BitVec.ofNat 32 s.val) = BitVec.ofNat 32 (sl (zc c) s).val := by revert c s; decide +kernel
theorem zc_dn (j : Fin 3) (c : Dev nD) : sl (zc c) (zc (dn j c)) = j.succ := by revert c j; decide +kernel
theorem zc_dn' (s : Fin 4) (j : Fin 3) (c : Dev nD) (h : sl (zc c) s = j.succ) : zc (dn j c) = s := by revert s c j; decide +kernel
theorem zc_self (s : Fin 4) (c : Dev nD) (h : sl (zc c) s = 0) : zc c = s := by revert s c; decide +kernel
theorem zc_xp (c : Dev nD) : zc (xp c) = zc c := by revert c; decide +kernel
theorem sendW0 (c : Dev nD) : Scalar.muli (rmod (radd (zw (dn 0 c)) 1#32) w4) 560#32 = BitVec.ofNat 32 (560 * (zc c).val) := by revert c; decide +kernel
theorem sendW1 (c : Dev nD) : Scalar.muli (rmod (radd (zw (dn 1 c)) 2#32) w4) 560#32 = BitVec.ofNat 32 (560 * (zc c).val) := by revert c; decide +kernel
theorem sendW2 (c : Dev nD) : Scalar.muli (rmod (radd (zw (dn 2 c)) 3#32) w4) 560#32 = BitVec.ofNat 32 (560 * (zc c).val) := by revert c; decide +kernel
theorem keepW (c : Dev nD) : Scalar.muli (zw c) 560#32 = BitVec.ofNat 32 (560 * (zc c).val) := by revert c; decide +kernel

/-! ## The rows each source sends -/

/-- The element of a count block that a device reads off: row 0, its own z's column. -/
def lenOf (w : BitVec 32) (v : IVec S8x128 32) : BitVec 32 :=
  extractAt ![0, 0, 0] (shapeCast S1x1x1 (multiReductionI .add [1, 2] S1
    (shapeCast S1x8x128 (select (k0_pay37 w) v (broadcast S8x128 0#32)) shapeCasts_S8x128_S1x8x128) 0#32 reduces_S1x8x128_S1 rfl) shapeCasts_S1_S1x1x1)
    inpos_S1x1x1_p0_0_0

theorem pay37_apply (z : Fin 4) (a : Fin 8) (b : Fin 128) :
    k0_pay37 (BitVec.ofNat 32 z.val) (ix2 a b) = if a.val = 0 ∧ b.val = z.val then 1#1 else 0#1 := by
  have key : ∀ (z : Fin 4) (a : Fin 8) (b : Fin 128),
      IntOp.andi (IntOp.cmpi .eq (BitVec.ofNat 32 b.val) (BitVec.ofNat 32 z.val)) (IntOp.cmpi .eq (BitVec.ofNat 32 a.val) 0#32)
        = if a.val = 0 ∧ b.val = z.val then 1#1 else 0#1 := by decide +kernel
  refine Eq.trans ?_ (key z a b)
  show IntOp.andi (IntOp.cmpi .eq (BitVec.ofNat 32 (0 * 128 + b.val)) (BitVec.ofNat 32 z.val)) (IntOp.cmpi .eq (BitVec.ofNat 32 (0 * 8 + a.val)) 0#32) = _
  simp only [Nat.zero_mul, Nat.zero_add]

theorem lenOf_apply (z : Fin 4) (v : IVec S8x128 32) :
    lenOf (BitVec.ofNat 32 z.val) v = v (ix2 (0 : Fin 8) (⟨z.val, by omega⟩ : Fin 128)) := by
  have hsub : ∀ x y : S1.Idx, x = y := fun x y => funext fun a => by
    match a with
    | ⟨0, _⟩ => exact Subsingleton.elim (α := Fin 1) _ _
  have e0 : lenOf (BitVec.ofNat 32 z.val) v = multiReductionI .add [1, 2] S1
      (shapeCast S1x8x128 (select (k0_pay37 (BitVec.ofNat 32 z.val)) v (broadcast S8x128 0#32)) shapeCasts_S8x128_S1x8x128) 0#32 reduces_S1x8x128_S1 rfl (ix1 (0 : Fin 1)) := by
    unfold lenOf extractAt
    exact congrArg _ (hsub _ _)
  rw [e0]
  refine (congrFun (multiReductionI_eq_reduceFold .add _ _ _ _) _).trans ?_
  refine (reduceFold_add_eq_sum _ _ _ _).trans ?_
  rw [show (0#32 : BitVec 32) = 0 from rfl, zero_add]
  have e1 : ∀ (a : Fin 8) (b : Fin 128), shapeCast S1x8x128 (select (k0_pay37 (BitVec.ofNat 32 z.val)) v (broadcast S8x128 0#32)) shapeCasts_S8x128_S1x8x128 (ix3 (0 : Fin 1) a b)
      = if a.val = 0 ∧ b.val = z.val then v (ix2 a b) else 0 := fun a b => by
    rw [shapeCast_ab_1ab_apply, select_apply, pay37_apply]
    split
    · exact select_one _ _
    · exact select_zero _ _
  refine (Finset.sum_eq_single (ix3 (0 : Fin 1) (0 : Fin 8) (⟨z.val, by omega⟩ : Fin 128)) ?_ ?_).trans ?_
  · intro i _ hi
    obtain ⟨u, a, b, rfl⟩ : ∃ (u : Fin 1) (a : Fin 8) (b : Fin 128), i = ix3 u a b := ⟨_, _, _, eq_ix3 i⟩
    obtain rfl : u = 0 := Subsingleton.elim _ _
    refine (e1 a b).trans (if_neg fun hab => hi ?_)
    rw [show a = 0 from Fin.ext hab.1, show b = ⟨z.val, by omega⟩ from Fin.ext hab.2]
  · intro h
    exact (h (by rw [Finset.mem_filter]; exact ⟨Finset.mem_univ _, hsub _ _⟩)).elim
  · exact (e1 _ _).trans (if_pos ⟨rfl, rfl⟩)

theorem asCnt_apply (v : IVec S8x128 32) (a : Fin 8) (b : Fin 128) :
    shapeCast S8x128 (asCnt (F := Ideal) v) shapeCasts_S1x8x128_S8x128 (ix2 a b) = v (ix2 a b) := by
  rw [shapeCast_1ab_ab_apply]
  unfold asCnt
  refine congrArg v ((Equiv.symm_apply_eq _).2 ?_)
  exact (reshapeEquiv_ix2_1ab _ a b).symm

variable {D : Dev nD → Vec Ideal S2048 .i32} {Dg : Fin 4 → Vec Ideal S2048 .i32}

theorem cntV_apply (c : Dev nD) (z : Fin 4) : cntV D c (ix2 (0 : Fin 8) (⟨z.val, by omega⟩ : Fin 128)) = BitVec.ofNat 32 (cnt (D c) 2048 z.val) :=
  (pay4_apply (D c) 0 ⟨z.val, by omega⟩).trans (if_pos rfl)

theorem len0_eq (c : Dev nD) : len0 D c = BitVec.ofNat 32 (cnt (D c) 2048 (zc c).val) := by
  have e : len0 D c = lenOf (zw c) (cntV D c) := rfl
  rw [e, zw_eq, lenOf_apply, cntV_apply]
theorem len1_eq (c : Dev nD) : len1 D c = BitVec.ofNat 32 (cnt (D (dn 0 c)) 2048 (zc c).val) := by
  have e : len1 D c = lenOf (zw c) (shapeCast S8x128 (asCnt (F := Ideal) (cntV D (dn 0 c))) shapeCasts_S1x8x128_S8x128) := rfl
  rw [e, zw_eq, lenOf_apply, asCnt_apply, cntV_apply]
theorem len2_eq (c : Dev nD) : len2 D c = BitVec.ofNat 32 (cnt (D (dn 1 c)) 2048 (zc c).val) := by
  have e : len2 D c = lenOf (zw c) (shapeCast S8x128 (asCnt (F := Ideal) (cntV D (dn 1 c))) shapeCasts_S1x8x128_S8x128) := rfl
  rw [e, zw_eq, lenOf_apply, asCnt_apply, cntV_apply]
theorem len3_eq (c : Dev nD) : len3 D c = BitVec.ofNat 32 (cnt (D (dn 2 c)) 2048 (zc c).val) := by
  have e : len3 D c = lenOf (zw c) (shapeCast S8x128 (asCnt (F := Ideal) (cntV D (dn 2 c))) shapeCasts_S1x8x128_S8x128) := rfl
  rw [e, zw_eq, lenOf_apply, asCnt_apply, cntV_apply]

/-- The rows source `s` sends device `c`. -/
theorem slen_eq (hD : ∀ c, D c = Dg (zc c)) (c : Dev nD) (s : Fin 4) :
    slen D c (BitVec.ofNat 32 s.val) = BitVec.ofNat 32 (cnt (Dg s) 2048 (zc c).val) := by
  unfold slen
  rw [slot_eq, len0_eq, len1_eq, len2_eq, len3_eq, hD c, hD (dn 0 c), hD (dn 1 c), hD (dn 2 c)]
  generalize hd : sl (zc c) s = d
  match d, hd with
  | 0, hd => rw [zc_self s c hd]; rfl
  | 1, hd => rw [zc_dn' s 0 c hd]; rfl
  | 2, hd => rw [zc_dn' s 1 c hd]; rfl
  | 3, hd => rw [zc_dn' s 2 c hd]; rfl

/-! ## Places -/

/-- The position of an output row's place, from its number and the four slots and three lengths. -/
theorem sge_nat {a b : ℕ} (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  have e : (BitVec.ofNat 32 b).sle (BitVec.ofNat 32 a) = decide (b ≤ a) := by
    rw [BitVec.sle_eq_decide]
    refine decide_eq_decide.2 ?_
    rw [BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    omega
  rw [e]
  by_cases h : b ≤ a <;> simp [h]

/-- One row's place, as the kernel computes it from its number. -/
def placeW (jw t0 st1 t1 st2 t2 st3 t3 : BitVec 32) : BitVec 32 :=
  let n := ((0#32 + (IntOp.cmpi .sge jw st1).setWidth 32) + (IntOp.cmpi .sge jw st2).setWidth 32) + (IntOp.cmpi .sge jw st3).setWidth 32
  let st := Scalar.select (IntOp.cmpi .eq n 3#32) st3 (Scalar.select (IntOp.cmpi .eq n 2#32) st2 (Scalar.select (IntOp.cmpi .eq n 1#32) st1 0#32))
  let t := Scalar.select (IntOp.cmpi .eq n 3#32) t3 (Scalar.select (IntOp.cmpi .eq n 2#32) t2 (Scalar.select (IntOp.cmpi .eq n 1#32) t1 t0))
  t * 560#32 + (jw - st)

theorem place_eq (c : Dev nD) (j : Fin 2048) :
    place D c (ix2 j (0 : Fin 1)) = placeW (BitVec.ofNat 32 (0 * 2048 + j.val)) (slot c 0#32) (0#32 + slen D c 0#32) (slot c 1#32)
      (0#32 + slen D c 0#32 + slen D c 1#32) (slot c 2#32) (0#32 + slen D c 0#32 + slen D c 1#32 + slen D c 2#32) (slot c 3#32) := rfl

/-- A destination's rows from the sources before `s`. -/
def base (Dg : Fin 4 → Vec Ideal S2048 .i32) (z : ℕ) (s : Fin 4) : ℕ := ∑ u ∈ Finset.univ.filter (· < s), cnt (Dg u) 2048 z

theorem start0 (z : ℕ) : base Dg z 0 = 0 := rfl
theorem start1 (z : ℕ) : base Dg z 1 = cnt (Dg 0) 2048 z := by
  unfold base; rw [show (Finset.univ.filter fun u : Fin 4 => u < 1) = {0} by decide, Finset.sum_singleton]
theorem start2 (z : ℕ) : base Dg z 2 = cnt (Dg 0) 2048 z + cnt (Dg 1) 2048 z := by
  unfold base; rw [show (Finset.univ.filter fun u : Fin 4 => u < 2) = {0, 1} by decide, Finset.sum_pair (by decide)]
theorem start3 (z : ℕ) : base Dg z 3 = cnt (Dg 0) 2048 z + cnt (Dg 1) 2048 z + cnt (Dg 2) 2048 z := by
  unfold base
  rw [show (Finset.univ.filter fun u : Fin 4 => u < 3) = {0, 1, 2} by decide, Finset.sum_insert (by decide), Finset.sum_pair (by decide), Nat.add_assoc]

theorem starts_eq (Dg : Fin 4 → Vec Ideal S2048 .i32) (z : ℕ) (s : Fin 4) :
    (![0, base Dg z 1, base Dg z 2, base Dg z 3] : Fin 4 → ℕ) s = base Dg z s := by
  match s with
  | 0 => rfl
  | 1 => rfl
  | 2 => rfl
  | 3 => rfl

theorem start_add_le (Dg : Fin 4 → Vec Ideal S2048 .i32) (z : ℕ) {s u : Fin 4} (h : s < u) : base Dg z s + cnt (Dg s) 2048 z ≤ base Dg z u := by
  unfold base
  rw [Nat.add_comm, ← Finset.sum_insert (f := fun u => cnt (Dg u) 2048 z) (a := s) (s := Finset.univ.filter (· < s)) (by simp)]
  refine Finset.sum_le_sum_of_subset fun v hv => ?_
  simp only [Finset.mem_insert, Finset.mem_filter, Finset.mem_univ, true_and] at hv ⊢
  rcases hv with rfl | hv
  · exact h
  · exact hv.trans h

theorem placeW_end {t j a off : ℕ} (hj : j = a + off) :
    BitVec.ofNat 32 t * 560#32 + (BitVec.ofNat 32 j - BitVec.ofNat 32 a) = BitVec.ofNat 32 (560 * t + off) := by
  have e : BitVec.ofNat 32 j - BitVec.ofNat 32 a = BitVec.ofNat 32 off := by
    rw [hj, BitVec.ofNat_add, add_sub_cancel_left]
  rw [e, ← BitVec.ofNat_mul, ← BitVec.ofNat_add, Nat.mul_comm]

theorem placeW_nat {j a1 a2 a3 : ℕ} (hj : j < 2 ^ 31) (h1 : a1 ≤ a2) (h2 : a2 ≤ a3) (h3 : a3 < 2 ^ 31) (t : Fin 4 → ℕ) (s : Fin 4) (off : ℕ)
    (hjo : j = ![0, a1, a2, a3] s + off) (hlt : ∀ u, s < u → j < ![0, a1, a2, a3] u) :
    placeW (BitVec.ofNat 32 j) (BitVec.ofNat 32 (t 0)) (BitVec.ofNat 32 a1) (BitVec.ofNat 32 (t 1)) (BitVec.ofNat 32 a2) (BitVec.ofNat 32 (t 2))
      (BitVec.ofNat 32 a3) (BitVec.ofNat 32 (t 3)) = BitVec.ofNat 32 (560 * t s + off) := by
  unfold placeW
  rw [sge_nat hj (by omega), sge_nat hj (by omega), sge_nat hj (by omega)]
  match s, hjo, hlt with
  | 0, hjo, hlt =>
    have b1 : j < a1 := hlt 1 (by decide)
    rw [if_neg (by omega), if_neg (by omega), if_neg (by omega)]
    exact placeW_end hjo
  | 1, hjo, hlt =>
    have b1 : j = a1 + off := hjo
    have b2 : j < a2 := hlt 2 (by decide)
    rw [if_pos (by omega), if_neg (by omega), if_neg (by omega)]
    exact placeW_end hjo
  | 2, hjo, hlt =>
    have b1 : j = a2 + off := hjo
    have b2 : j < a3 := hlt 3 (by decide)
    rw [if_pos (by omega), if_pos (by omega), if_neg (by omega)]
    exact placeW_end hjo
  | 3, hjo, hlt =>
    have b1 : j = a3 + off := hjo
    rw [if_pos (by omega), if_pos (by omega), if_pos (by omega)]
    exact placeW_end hjo

/-- The row `off` past the start of source `s`'s rows has the place `off` in that source's slot. -/
theorem place_apply (hD : ∀ c, D c = Dg (zc c)) (c : Dev nD) (s : Fin 4) (off : ℕ) (hoff : off < cnt (Dg s) 2048 (zc c).val) (j : Fin 2048)
    (hj : j.val = base Dg (zc c).val s + off) :
    place D c (ix2 j (0 : Fin 1)) = BitVec.ofNat 32 (560 * (sl (zc c) s).val + off) := by
  have c0 := cnt_le (Dg 0) 2048 (zc c).val
  have c1 := cnt_le (Dg 1) 2048 (zc c).val
  have c2 := cnt_le (Dg 2) 2048 (zc c).val
  have hjl := j.isLt
  have w1 : 0#32 + slen D c 0#32 = BitVec.ofNat 32 (base Dg (zc c).val 1) := by
    rw [start1]; exact (BitVec.zero_add _).trans (slen_eq hD c 0)
  have w2 : 0#32 + slen D c 0#32 + slen D c 1#32 = BitVec.ofNat 32 (base Dg (zc c).val 2) := by
    rw [start2, w1, start1, BitVec.ofNat_add]; exact congrArg _ (slen_eq hD c 1)
  have w3 : 0#32 + slen D c 0#32 + slen D c 1#32 + slen D c 2#32 = BitVec.ofNat 32 (base Dg (zc c).val 3) := by
    rw [start3, w2, start2, BitVec.ofNat_add _ (cnt (Dg 2) 2048 (zc c).val)]; exact congrArg _ (slen_eq hD c 2)
  have e1 := start1 (Dg := Dg) (zc c).val
  have e2 := start2 (Dg := Dg) (zc c).val
  have e3 := start3 (Dg := Dg) (zc c).val
  have e0 := start0 (Dg := Dg) (zc c).val
  rw [place_eq, w3, w2, w1, Nat.zero_mul, Nat.zero_add]
  refine Eq.trans ?_ (placeW_nat (j := j.val) (by omega) (show base Dg (zc c).val 1 ≤ base Dg (zc c).val 2 by omega)
    (show base Dg (zc c).val 2 ≤ base Dg (zc c).val 3 by omega) (by omega) (fun u => (sl (zc c) u).val) s off ?_ ?_)
  · have t0 : slot c 0#32 = _ := slot_eq c 0
    have t1 : slot c 1#32 = _ := slot_eq c 1
    have t2 : slot c 2#32 = _ := slot_eq c 2
    have t3 : slot c 3#32 = _ := slot_eq c 3
    rw [t0, t1, t2, t3]
  · rw [starts_eq]; exact hj
  · intro u hu
    rw [starts_eq]
    have := start_add_le Dg (zc c).val hu
    omega

end Cert.K01

end
-- ==== Proof.Ref.lean ====
/-
The reference's row at a position: the row whose destination and rank name it. Where every destination is below 4 and
gets 2048 rows, row `k` of the sorted array is the row `g` with `k = 2048 · dest g + rank g`, the rank counted over all
the rows before `g`, block by block.
-/
module

public import proofs.«01_k».proof.Proof.Sort
public import proofs.«01_k».proof.Proof.Words
public import proofs.«01_k».proof.ReferenceIdeal
public import Idealize.ShloMosaic.Lib.Routing.Ops
public import Idealize.ShloMosaic.Lib.DynamicIndex

@[expose] public section

noncomputable section

namespace Cert.K01

open Idealize.ShloMosaic Idealize.ShloMosaic.ValueIdx
open Cert.KernelIdeal (S2048 S2048x1024)

/-- The whole array of destinations' shape. -/
abbrev SD : Shape := ⟨1, ![8192]⟩
/-- The whole array of rows' shape. -/
abbrev SX : Shape := ⟨2, ![8192, 1024]⟩

variable (d : IVec SD 32) (x : FVec Ideal SX .bf16)

/-- The destination of row `q` of the whole array. -/
def gd (q : ℕ) : ℕ := if h : q < 8192 then (d (ix1 ⟨q, h⟩)).toNat else 0
/-- How many of the first `n` rows go to `t`. -/
def gcnt (n t : ℕ) : ℕ := ∑ q ∈ Finset.range n, if gd d q = t then 1 else 0

/-- Block `s` of the destinations. -/
def blkD (s : Fin 4) : Vec Ideal S2048 .i32 := fun i => d (ix1 ⟨2048 * s.val + (i (0 : Fin 1)).val, by
  have h : (i (0 : Fin 1)).val < 2048 := (i (0 : Fin 1)).isLt
  have := s.isLt
  omega⟩)
/-- Block `s` of the rows. -/
def blkX (s : Fin 4) : Vec Ideal S2048x1024 .bf16 := fun i => x (ix2 ⟨2048 * s.val + (i (0 : Fin 2)).val, by
  have h : (i (0 : Fin 2)).val < 2048 := (i (0 : Fin 2)).isLt
  have := s.isLt
  omega⟩ (i (1 : Fin 2)))

theorem gd_blk (s : Fin 4) {i : ℕ} (hi : i < 2048) : gd d (2048 * s.val + i) = dst (blkD d s) i := by
  have := s.isLt
  unfold gd dst
  rw [dif_pos (by omega), dif_pos hi]
  rfl

theorem gcnt_block (s : Fin 4) {i : ℕ} (hi : i ≤ 2048) (t : ℕ) : gcnt d (2048 * s.val + i) t = gcnt d (2048 * s.val) t + cnt (blkD d s) i t := by
  unfold gcnt cnt
  rw [Finset.sum_range_add]
  refine congrArg _ (Finset.sum_congr rfl fun q hq => ?_)
  rw [gd_blk d s (by rw [Finset.mem_range] at hq; omega)]

theorem gcnt_start (s : Fin 4) (t : ℕ) : gcnt d (2048 * s.val) t = base (blkD d) t s := by
  have h0 : gcnt d (2048 * (0 : Fin 4).val) t = 0 := rfl
  have h1 : gcnt d (2048 * (1 : Fin 4).val) t = gcnt d (2048 * (0 : Fin 4).val) t + cnt (blkD d 0) 2048 t := gcnt_block d 0 (le_refl _) t
  have h2 : gcnt d (2048 * (2 : Fin 4).val) t = gcnt d (2048 * (1 : Fin 4).val) t + cnt (blkD d 1) 2048 t := gcnt_block d 1 (le_refl _) t
  have h3 : gcnt d (2048 * (3 : Fin 4).val) t = gcnt d (2048 * (2 : Fin 4).val) t + cnt (blkD d 2) 2048 t := gcnt_block d 2 (le_refl _) t
  have e1 := start1 (Dg := blkD d) t
  have e2 := start2 (Dg := blkD d) t
  have e3 := start3 (Dg := blkD d) t
  have e0 := start0 (Dg := blkD d) t
  match s with
  | 0 => omega
  | 1 => omega
  | 2 => omega
  | 3 => omega

theorem gcnt_all (t : ℕ) : gcnt d 8192 t = cnt (blkD d 0) 2048 t + cnt (blkD d 1) 2048 t + cnt (blkD d 2) 2048 t + cnt (blkD d 3) 2048 t := by
  have h := gcnt_block d 3 (le_refl 2048) t
  rw [gcnt_start, start3] at h
  exact h

/-! ## The sort's positions -/

/-- The row that lands at each position. -/
def src : Fin 8192 → Fin 8192 := sortedFrom (byKey fun g : Fin 8192 => gd d g.val)

section
variable {d}
variable (htot : ∀ t, t < 4 → gcnt d 8192 t = 2048)

include htot in
theorem below_eq (T : ℕ) (hT : T ≤ 4) : (∑ q ∈ Finset.range 8192, if gd d q < T then 1 else 0) = 2048 * T := by
  induction T with
  | zero => simp
  | succ T ih =>
    have e : ∀ q, (if gd d q < T + 1 then 1 else 0) = (if gd d q < T then 1 else 0) + (if gd d q = T then 1 else 0) := fun q => by
      split_ifs <;> omega
    rw [Finset.sum_congr rfl fun q _ => e q, Finset.sum_add_distrib, ih (by omega)]
    have := htot T (by omega)
    unfold gcnt at this
    omega

include htot in
theorem all_lt (q : ℕ) (hq : q < 8192) : gd d q < 4 := by
  by_contra h
  have h4 := below_eq htot 4 (le_refl _)
  have hle : (∑ q ∈ Finset.range 8192, if gd d q < 4 then 1 else 0) < ∑ q ∈ Finset.range 8192, 1 := by
    refine Finset.sum_lt_sum (fun i _ => by split <;> omega) ⟨q, Finset.mem_range.2 hq, ?_⟩
    rw [if_neg h]; exact Nat.one_pos
  rw [Finset.sum_const, Finset.card_range, h4] at hle
  simp at hle

include htot in
theorem src_pos (k : Fin 8192) : k.val = 2048 * gd d (src d k).val + gcnt d (src d k).val (gd d (src d k).val) := by
  have h := sortedFrom_pos (fun g : Fin 8192 => gd d g.val) k
  change (∑ g : Fin 8192, if byLex (fun g : Fin 8192 => gd d g.val) g (src d k) = true then 1 else 0) = k.val at h
  generalize src d k = g at h ⊢
  have hg := g.isLt
  have e : ∀ q : Fin 8192, (if byLex (fun g : Fin 8192 => gd d g.val) q g = true then 1 else 0)
      = (if gd d q.val < gd d g.val then 1 else 0) + (if q.val < g.val ∧ gd d q.val = gd d g.val then 1 else 0) := fun q => by
    unfold byLex
    simp only [decide_eq_true_eq, Fin.lt_def]
    split_ifs <;> omega
  rw [Finset.sum_congr rfl fun q _ => e q, Finset.sum_add_distrib,
    Fin.sum_univ_eq_sum_range (fun q => if gd d q < gd d g.val then 1 else 0) 8192,
    Fin.sum_univ_eq_sum_range (fun q => if q < g.val ∧ gd d q = gd d g.val then 1 else 0) 8192,
    below_eq htot _ (all_lt htot _ hg).le] at h
  rw [← h]
  refine congrArg _ ?_
  unfold gcnt
  rw [← Finset.sum_subset (Finset.range_mono (show g.val ≤ 8192 by omega)) (fun q _ hq => by
    rw [Finset.mem_range] at hq
    exact if_neg (fun hh => hq hh.1))]
  refine Finset.sum_congr rfl fun q hq => ?_
  rw [Finset.mem_range] at hq
  simp [hq]

include htot in
/-- The row at position `2048 z + j` goes to `z`, and `j` is its rank, from the start of its block's rows. -/
theorem src_blk (z : Fin 4) (j : Fin 2048) (k : Fin 8192) (hk : k.val = 2048 * z.val + j.val) :
    ∃ (s : Fin 4) (i : Fin 2048), (src d k).val = 2048 * s.val + i.val ∧ dst (blkD d s) i.val = z.val
      ∧ j.val = base (blkD d) z.val s + cnt (blkD d s) i.val z.val := by
  have hp := src_pos htot k
  have hg := (src d k).isLt
  generalize src d k = g at hp hg ⊢
  have h4 := all_lt htot _ hg
  have hlt : gcnt d g.val (gd d g.val) < 2048 := by
    rw [← htot _ h4]
    unfold gcnt
    refine Finset.sum_lt_sum_of_subset (Finset.range_mono (show g.val ≤ 8192 by omega)) (i := g.val) (Finset.mem_range.2 hg) (by simp) ?_
      (fun _ _ _ => Nat.zero_le _)
    rw [if_pos rfl]; exact Nat.one_pos
  have hj := j.isLt
  have hz : gd d g.val = z.val := by omega
  rw [hz] at hp hlt
  have e0 : 2048 * (g.val / 2048) + g.val % 2048 = g.val := Nat.div_add_mod _ _
  refine ⟨⟨g.val / 2048, by omega⟩, ⟨g.val % 2048, by omega⟩, e0.symm, ?_, ?_⟩
  · rw [← gd_blk d _ (Nat.mod_lt _ (by norm_num))]
    show gd d (2048 * (g.val / 2048) + g.val % 2048) = _
    rw [e0, hz]
  · rw [← gcnt_start, ← gcnt_block d _ (by show g.val % 2048 ≤ 2048; omega)]
    show j.val = gcnt d (2048 * (g.val / 2048) + g.val % 2048) z.val
    rw [e0]; omega

end

/-! ## The reference's value -/

section
open Cert.ReferenceIdeal

variable [Cert.ReferenceIdeal.Facts₀]

theorem ofFin_eq {n : ℕ} (k : Fin n) : (Shape.Idx.ofFin k : (⟨1, ![n]⟩ : Shape).Idx) = ix1 k := by
  funext a; match a with | ⟨0, _⟩ => rfl

/-- The second operand of a two-operand sort of a line is read at the first's sorted position. -/
theorem sort2_snd {n : ℕ} {α β : Type} (cmp : α × β → α × β → BitVec 1) (x : (⟨1, ![n]⟩ : Shape).Idx → α) (y : (⟨1, ![n]⟩ : Shape).Idx → β) (k : Fin n) :
    (Host.sort2 ⟨1, ![n]⟩ 0 cmp x y).2 (ix1 k) = y (Shape.Idx.ofFin (sortedFrom (fun k k' =>
      cmp (x (Shape.Idx.ofFin k), y (Shape.Idx.ofFin k)) (x (Shape.Idx.ofFin k'), y (Shape.Idx.ofFin k')) == 1#1) k)) := by
  unfold Host.sort2
  simp

theorem iota_at (g : Fin 8192) : iotaInDim Cert.ReferenceIdeal.S8192 32 0 (Shape.Idx.ofFin g) = BitVec.ofNat 32 g.val := rfl

/-- The sorted positions as words. -/
theorem order_apply (hall : ∀ q, q < 8192 → gd d q < 4) (k : Fin 8192) :
    (Host.sort2 Cert.ReferenceIdeal.S8192 0 comparator_i32_i32_d0 d (iotaInDim Cert.ReferenceIdeal.S8192 32 0)).2 (ix1 k) = BitVec.ofNat 32 (src d k).val := by
  have e : (fun k k' : Fin 8192 => comparator_i32_i32_d0 (d (Shape.Idx.ofFin k), iotaInDim Cert.ReferenceIdeal.S8192 32 0 (Shape.Idx.ofFin k))
      (d (Shape.Idx.ofFin k'), iotaInDim Cert.ReferenceIdeal.S8192 32 0 (Shape.Idx.ofFin k')) == 1#1) = byKey fun g : Fin 8192 => gd d g.val := by
    funext a b
    have ha := hall _ a.isLt
    have hb := hall _ b.isLt
    unfold byKey
    have ea : gd d a.val = (d (Shape.Idx.ofFin a)).toNat := (dif_pos a.isLt).trans (congrArg (fun z => (d z).toNat) (ofFin_eq a).symm)
    have eb : gd d b.val = (d (Shape.Idx.ofFin b)).toNat := (dif_pos b.isLt).trans (congrArg (fun z => (d z).toNat) (ofFin_eq b).symm)
    show (BitVec.ofBool ((d (Shape.Idx.ofFin a)).slt (d (Shape.Idx.ofFin b))) == 1#1) = decide (gd d a.val < gd d b.val)
    rw [ea] at ha ⊢
    rw [eb] at hb ⊢
    generalize d (Shape.Idx.ofFin a) = u at *
    generalize d (Shape.Idx.ofFin b) = v at *
    have e : u.slt v = decide (u.toNat < v.toNat) := by
      rw [BitVec.slt_eq_decide]
      refine decide_eq_decide.2 ?_
      rw [BitVec.toInt_eq_toNat_cond, BitVec.toInt_eq_toNat_cond, if_pos (by omega), if_pos (by omega)]
      omega
    rw [e]
    by_cases h : u.toNat < v.toNat <;> simp [h]
  have h := sort2_snd comparator_i32_i32_d0 d (iotaInDim Cert.ReferenceIdeal.S8192 32 0) k
  rw [e] at h
  exact h.trans (iota_at _)

/-- The reference's result, from its operands. -/
def refV : FVec Ideal SX .bf16 :=
  let o := (Host.sort2 Cert.ReferenceIdeal.S8192 0 comparator_i32_i32_d0 d (iotaInDim Cert.ReferenceIdeal.S8192 32 0)).2
  Host.gather gather_S8192x1024_S8192x1_S8192x1024_1_0_n_n_0_1_11024 x
    (broadcastInDim Cert.ReferenceIdeal.S8192x1 ![0] Facts₀.bcast_S8192_S8192x1_0
      (select (cmpi .slt o (broadcastInDim Cert.ReferenceIdeal.S8192 ![] Facts₀.bcast_S_S8192 (constantI Cert.ReferenceIdeal.S_ 32 0#32)))
        (addi o (broadcastInDim Cert.ReferenceIdeal.S8192 ![] Facts₀.bcast_S_S8192 (constantI Cert.ReferenceIdeal.S_ 32 8192#32))) o))

/-- The reference's row at a position. -/
theorem refV_apply (hall : ∀ q, q < 8192 → gd d q < 4) (k : Fin 8192) (col : Fin 1024) : refV d x (ix2 k col) = x (ix2 (src d k) col) := by
  unfold refV
  refine Routing.gather_row (nb := 8192) (B := 1024) (n := 8192) gather_S8192x1024_S8192x1_S8192x1024_1_0_n_n_0_1_11024 rfl rfl rfl rfl rfl x _ k col
    (src d k) ?_ (by norm_num)
  rw [← order_apply d hall k]
  generalize ho : (Host.sort2 Cert.ReferenceIdeal.S8192 0 comparator_i32_i32_d0 d (iotaInDim Cert.ReferenceIdeal.S8192 32 0)).2 = o
  have hk : o (ix1 k) = BitVec.ofNat 32 (src d k).val := by rw [← ho]; exact order_apply d hall k
  have e1 : ∀ v : IVec SD 32, broadcastInDim Cert.ReferenceIdeal.S8192x1 ![0] Facts₀.bcast_S8192_S8192x1_0 v (ix2 k (0 : Fin 1)) = v (ix1 k) := fun v => by
    unfold broadcastInDim
    refine congrArg v (funext fun a => Fin.ext ?_)
    match a with
    | ⟨0, _⟩ => rfl
  rw [e1]
  have e2 : (broadcastInDim Cert.ReferenceIdeal.S8192 ![] Facts₀.bcast_S_S8192 (constantI Cert.ReferenceIdeal.S_ 32 0#32) : IVec SD 32) = constantI SD 32 0#32 := rfl
  rw [e2]
  refine select_slt_zero_of_nonneg o _ _ _ ?_
  rw [hk]
  have := (src d k).isLt
  generalize (src d k).val = g at this
  rw [BitVec.toInt_eq_toNat_cond, BitVec.toNat_ofNat, Nat.mod_eq_of_lt (by omega), if_pos (by omega)]
  omega

end

end Cert.K01

end
-- ==== Proof.Mask.lean ====
/-
The mask, read: where it is set, every destination 0 to 3 gets 2048 rows in all and no block sends more than 560 rows to one
destination.
-/
module

public import proofs.«01_k».proof.Proof.Ref
public import proofs.«01_k».proof.On_sized
public import Idealize.ShloMosaic.Lib.IndicatorCount
public import Idealize.ShloMosaic.Lib.ReduceAll

@[expose] public section

noncomputable section

namespace Cert.K01

open Idealize.ShloMosaic Idealize.ShloMosaic.ValueIdx
open Cert.On_sized (S4x4 S4x2048x4 S4x2048x1 S1x1x4 S4 S_)

/-- The shape relations of the mask's operations. -/
theorem sizedFacts : Cert.On_sized.Facts where
  shapeCasts_S8192_S4x2048x1 := by decide
  bcast_S4_S1x1x4_2 := by decide
  bcast_S4x2048x1_S4x2048x4_0_1_2 := by decide
  bcast_S1x1x4_S4x2048x4_0_1_2 := by decide
  natLt_1_32 := by decide
  reducesTo_S4x2048x4_S4x4_d1 := by decide
  h_S_ := by decide
  reducesTo_S4x4_S4_d0 := by decide
  bcast_S_S4 := by decide
  reducesTo_S4_S_d0 := by decide
  bcast_S_S4x4 := by decide
  reducesTo_S4x4_S_d0_1 := by decide
  bcast_S_S8192x1024 := by decide

attribute [local instance] sizedFacts

theorem ofBool_eq_one {b : Bool} : BitVec.ofBool b = 1#1 ↔ b = true := by cases b <;> decide

/-- A fold of words by addition is the word of the sum. -/
theorem fold_addi_ofNat {ι : Type} (f : ι → ℕ) (S : Finset ι) :
    S.fold IntOp.addi (0#32) (fun k => BitVec.ofNat 32 (f k)) = BitVec.ofNat 32 (∑ k ∈ S, f k) := by
  classical
  induction S using Finset.induction_on with
  | empty => rfl
  | insert a S ha ih =>
    rw [Finset.fold_insert ha, ih, Finset.sum_insert ha, BitVec.ofNat_add]
    rfl

variable (d : IVec SD 32)

/-- Whether row `k` of block `s` goes to `t`, over all three. -/
def mHit : IVec S4x2048x4 1 :=
  cmpi .eq (broadcastInDim S4x2048x4 ![0, 1, 2] Cert.On_sized.Facts.bcast_S4x2048x1_S4x2048x4_0_1_2
      (shapeCast S4x2048x1 d Cert.On_sized.Facts.shapeCasts_S8192_S4x2048x1))
    (broadcastInDim S4x2048x4 ![0, 1, 2] Cert.On_sized.Facts.bcast_S1x1x4_S4x2048x4_0_1_2
      (broadcastInDim S1x1x4 ![2] Cert.On_sized.Facts.bcast_S4_S1x1x4_2 (iotaInDim S4 32 0)))
/-- The mask's table of counts. -/
def mCnt : IVec S4x4 32 :=
  Host.reduce IntOp.addi ((extui 32 · Cert.On_sized.Facts.natLt_1_32) (mHit d)) (constantI S_ 32 0#32) Cert.On_sized.Facts.reducesTo_S4x2048x4_S4x4_d1
    Cert.On_sized.Facts.h_S_
/-- The mask's row of totals. -/
def mTot : IVec S4 32 :=
  Host.reduce IntOp.addi (mCnt d) (constantI S_ 32 0#32) Cert.On_sized.Facts.reducesTo_S4x4_S4_d0 Cert.On_sized.Facts.h_S_

theorem mHit_apply (s : Fin 4) (k : Fin 2048) (t : Fin 4) : mHit d (ix3 s k t) = 1#1 ↔ dst (blkD d s) k.val = t.val := by
  have e1 : ∀ v : IVec S4x2048x1 32, broadcastInDim S4x2048x4 ![0, 1, 2] Cert.On_sized.Facts.bcast_S4x2048x1_S4x2048x4_0_1_2 v (ix3 s k t)
      = v (ix3 s k (0 : Fin 1)) := fun v => by
    unfold broadcastInDim
    refine congrArg v (funext fun a => Fin.ext ?_)
    match a with
    | ⟨0, _⟩ => rfl
    | ⟨1, _⟩ => rfl
    | ⟨2, _⟩ => rfl
  have e2 : ∀ v : IVec S1x1x4 32, broadcastInDim S4x2048x4 ![0, 1, 2] Cert.On_sized.Facts.bcast_S1x1x4_S4x2048x4_0_1_2 v (ix3 s k t)
      = v (ix3 (0 : Fin 1) (0 : Fin 1) t) := fun v => by
    unfold broadcastInDim
    refine congrArg v (funext fun a => Fin.ext ?_)
    match a with
    | ⟨0, _⟩ => rfl
    | ⟨1, _⟩ => rfl
    | ⟨2, _⟩ => rfl
  have e3 : ∀ v : IVec S4 32, broadcastInDim S1x1x4 ![2] Cert.On_sized.Facts.bcast_S4_S1x1x4_2 v (ix3 (0 : Fin 1) (0 : Fin 1) t)
      = v (ix1 t) := fun v => by
    unfold broadcastInDim
    refine congrArg v (funext fun a => Fin.ext ?_)
    match a with
    | ⟨0, _⟩ => rfl
  have hs := s.isLt
  have hk := k.isLt
  have e4 : shapeCast S4x2048x1 d Cert.On_sized.Facts.shapeCasts_S8192_S4x2048x1 (ix3 s k (0 : Fin 1)) = d (ix1 ⟨2048 * s.val + k.val, by omega⟩) := by
    refine shapeCast_apply d _ _ _ ?_
    rw [Shape.rowMajor_val_one, Shape.rowMajor_val_three]
    simp
    try omega
  unfold mHit
  have hlhs : ∀ (u v : IVec S4x2048x4 32), cmpi .eq u v (ix3 s k t) = 1#1 ↔ u (ix3 s k t) = v (ix3 s k t) := fun u v => by
    show IntOp.cmpi .eq _ _ = 1#1 ↔ _
    unfold IntOp.cmpi
    exact ofBool_eq_one.trans beq_iff_eq
  rw [hlhs, e1, e2, e3, e4]
  show d _ = BitVec.ofNat 32 t.val ↔ _
  rw [dst_val (blkD d s) k]
  show d (ix1 ⟨2048 * s.val + k.val, _⟩) = _ ↔ (d (ix1 ⟨2048 * s.val + k.val, _⟩)).toNat = _
  generalize d (ix1 ⟨2048 * s.val + k.val, _⟩) = w
  have ht := t.isLt
  rw [← BitVec.toNat_inj, BitVec.toNat_ofNat, Nat.mod_eq_of_lt (by omega)]

theorem mCnt_apply (s t : Fin 4) : mCnt d (ix2 s t) = BitVec.ofNat 32 (cnt (blkD d s) 2048 t.val) := by
  have hR : S4x2048x4.Reduces [1] S4x4 := by decide
  unfold mCnt
  refine (Host.reduce_eq_fold_single _ _ _ _ hR _ _).trans ?_
  refine (IndicatorCount.fold_addi_setWidth_eq_card (w := 32) (fun k : Fin 2048 => mHit d (hR.lift (ix2 s t) k)) Finset.univ).trans (congrArg _ ?_)
  rw [Finset.card_filter]
  unfold cnt
  rw [← Fin.sum_univ_eq_sum_range (fun q => if dst (blkD d s) q = t.val then 1 else 0) 2048]
  refine Finset.sum_congr rfl fun k _ => ?_
  have e : hR.lift (ix2 s t) k = ix3 s k t := by
    funext a
    match a with
    | ⟨0, _⟩ => rfl
    | ⟨1, _⟩ => rfl
    | ⟨2, _⟩ => rfl
  rw [e]
  simp only [mHit_apply]

/-- Adding up the rows of a table of words. -/
theorem colSum_apply (A : IVec S4x4 32) (f : Fin 4 → ℕ) (t : Fin 4) (h : ∀ s, A (ix2 s t) = BitVec.ofNat 32 (f s)) :
    Host.reduce IntOp.addi A (constantI S_ 32 0#32) Cert.On_sized.Facts.reducesTo_S4x4_S4_d0 Cert.On_sized.Facts.h_S_ (ix1 t)
      = BitVec.ofNat 32 (∑ s, f s) := by
  have hR : S4x4.Reduces [0] S4 := by decide
  refine (Host.reduce_eq_fold_single _ _ _ _ hR _ _).trans ?_
  have e : (A ∘ hR.lift (ix1 t)) = fun s : Fin 4 => BitVec.ofNat 32 (f s) := by
    funext s
    have e : hR.lift (ix1 t) s = ix2 s t := by
      funext a
      match a with
      | ⟨0, _⟩ => rfl
      | ⟨1, _⟩ => rfl
    exact (congrArg A e).trans (h s)
  rw [e]
  exact fold_addi_ofNat _ _

theorem mTot_apply (t : Fin 4) : mTot d (ix1 t) = BitVec.ofNat 32 (gcnt d 8192 t.val) := by
  unfold mTot
  refine (colSum_apply (mCnt d) (fun s => cnt (blkD d s) 2048 t.val) t fun s => mCnt_apply d s t).trans (congrArg _ ?_)
  rw [gcnt_all, Fin.sum_univ_four]

theorem gcnt_le (n t : ℕ) : gcnt d n t ≤ n := by
  refine (Finset.sum_le_card_nsmul _ _ 1 fun q _ => ?_).trans (by simp)
  split <;> omega

/-- Where the mask is set, the totals and the counts are as the kernel needs them. -/
theorem sized_apply (x : FVec Ideal SX .bf16) (i : SX.Idx) (h : Cert.On_sized.fn (F := Ideal) x d i = 1#1) :
    (∀ t, t < 4 → gcnt d 8192 t = 2048) ∧ ∀ (s : Fin 4) t, t < 4 → cnt (blkD d s) 2048 t ≤ 560 := by
  have h' : ∃ j : S_.Idx, andi (Host.reduce IntOp.andi (cmpi .eq (mTot d) (broadcastInDim S4 ![] Cert.On_sized.Facts.bcast_S_S4 (constantI S_ 32 2048#32)))
        (constantI S_ 1 1#1) Cert.On_sized.Facts.reducesTo_S4_S_d0 Cert.On_sized.Facts.h_S_)
      (Host.reduce IntOp.andi (cmpi .sle (mCnt d) (broadcastInDim S4x4 ![] Cert.On_sized.Facts.bcast_S_S4x4 (constantI S_ 32 560#32)))
        (constantI S_ 1 1#1) Cert.On_sized.Facts.reducesTo_S4x4_S_d0_1 Cert.On_sized.Facts.h_S_) j = 1#1 := ⟨_, h⟩
  obtain ⟨j, h'⟩ := h'
  obtain ⟨h1, h2⟩ := IntOp.andi_eq_one.1 h'
  have hj : Subsingleton S_.Idx := ⟨fun a b => funext fun q => q.elim0⟩
  refine ⟨fun t ht => ?_, fun s t ht => ?_⟩
  · have e := Host.reduce_andi_all _ _ _ _ _ h1 (ix1 (⟨t, ht⟩ : Fin 4))
    have e' : mTot d (ix1 (⟨t, ht⟩ : Fin 4)) = 2048#32 := by
      by_contra hne
      have : IntOp.cmpi .eq (mTot d (ix1 (⟨t, ht⟩ : Fin 4))) 2048#32 = 1#1 := e
      unfold IntOp.cmpi at this
      exact hne (beq_iff_eq.1 (ofBool_eq_one.1 this))
    rw [mTot_apply] at e'
    have := congrArg BitVec.toNat e'
    have hle := gcnt_le d 8192 t
    rw [BitVec.toNat_ofNat, Nat.mod_eq_of_lt (by show gcnt d 8192 t < _; omega)] at this
    exact this
  · have e := Host.reduce_andi_all _ _ _ _ _ h2 (ix2 s (⟨t, ht⟩ : Fin 4))
    have e' : IntOp.cmpi .sle (mCnt d (ix2 s (⟨t, ht⟩ : Fin 4))) 560#32 = 1#1 := e
    rw [mCnt_apply] at e'
    have hle := cnt_le (blkD d s) 2048 t
    show cnt (blkD d s) 2048 t ≤ 560
    change IntOp.cmpi .sle (BitVec.ofNat 32 (cnt (blkD d s) 2048 t)) 560#32 = 1#1 at e'
    generalize cnt (blkD d s) 2048 t = n at *
    by_contra hgt
    unfold IntOp.cmpi at e'
    have : ¬ (BitVec.ofNat 32 n).toInt ≤ (560#32).toInt := by
      rw [BitVec.toInt_eq_toNat_cond, BitVec.toNat_ofNat, Nat.mod_eq_of_lt (by omega), if_pos (by omega)]
      show ¬ (n : ℤ) ≤ 560
      omega
    exact this (of_decide_eq_true (ofBool_eq_one.1 e'))

end Cert.K01

end
-- ==== Proof.Out.lean ====
/-
The device's result at an output row: the row whose place it is. Each of the four slots adds its chunk's row where the
place falls in it and zero elsewhere, so the four partial sums hold exactly one row, the source's own.
-/
module

public import proofs.«01_k».proof.Proof.Words

@[expose] public section

noncomputable section

namespace Cert.K01

open Cert.KernelIdeal Cert.KernelIdeal.Gen
open Idealize.ShloMosaic Idealize.ShloMosaic.ValueIdx

/-- Half `h` of a block's columns. -/
def halfV (X : Vec Ideal S2048x1024 .bf16) : Fin 2 → FVec Ideal S2048x512 .bf16
  | 0 => colLo X
  | 1 => colHi X

/-- The chunk source `s` holds for the devices at `z`, half `h`. -/
def chunkOf (Dg : Fin 4 → Vec Ideal S2048 .i32) (Xg : Fin 4 → Vec Ideal S2048x1024 .bf16) (z s : Fin 4) (h : Fin 2) : FVec Ideal S560x512 .bf16 :=
  chunk (BitVec.ofNat 32 (560 * z.val)) (key (Dg s)) (halfV (Xg s) h)

theorem zc_dn_xp (j : Fin 3) (c : Dev nD) : zc (dn j (xp c)) = zc (dn j c) := by revert j c; decide +kernel

/-! ## Recasts -/

theorem cast_xbf (X : Vec Ideal S2048x1024 .bf16) (h : Fin 2) :
    shapeCast S2048x512 (xbf X h) shapeCasts_S1x2048x512_S2048x512 = halfV X h := by
  have key : ∀ v : FVec Ideal S2048x512 .bf16, shapeCast S2048x512 (shapeCast S1x2048x512 (shapeCast S2048x512 v shapeCasts_S2048x512_S2048x512)
      shapeCasts_S2048x512_S1x2048x512) shapeCasts_S1x2048x512_S2048x512 = v := fun v => by
    funext i
    obtain ⟨r, col, rfl⟩ : ∃ (r : Fin 2048) (col : Fin 512), i = ix2 r col := ⟨_, _, eq_ix2 i⟩
    rw [shapeCast_1ab_ab_apply, shapeCast_ab_1ab_apply, shapeCast_self]
  match h with
  | 0 =>
    have e : xbf X 0 = k0_pay29 (colLo X) := rfl
    rw [e]; unfold k0_pay29; exact key (colLo X)
  | 1 =>
    have e : xbf X 1 = k0_pay30 (colHi X) := rfl
    rw [e]; unfold k0_pay30; exact key (colHi X)

theorem cast_1ab (v : FVec Ideal S2048x512 .bf16) (i : Fin 2048) (col : Fin 512) :
    shapeCast S2048x512 (shapeCast S1x2048x512 v shapeCasts_S2048x512_S1x2048x512) shapeCasts_S1x2048x512_S2048x512 (ix2 i col) = v (ix2 i col) := by
  rw [shapeCast_1ab_ab_apply, shapeCast_ab_1ab_apply]

/-- A slab's element and its two-axis index are at the same row-major position. -/
theorem slab_row (r : Fin 560) (col : Fin 512) :
    (S1x1x560x512.rowMajor (ix4 (0 : Fin 1) (0 : Fin 1) r col)).val = (S560x512.rowMajor (ix2 r col)).val := by
  have e1 := Shape.rowMajor_val_four (ix4 (0 : Fin 1) (0 : Fin 1) r col)
  have e2 := Shape.rowMajor_val_two (ix2 r col)
  refine e1.trans (Eq.trans ?_ e2.symm)
  show (((0 * 1 + 0) * 560 + r.val) * 512 + col.val) = r.val * 512 + col.val
  simp only [Nat.zero_mul, Nat.zero_add]

theorem cast_slab (v : FVec Ideal S560x512 .bf16) :
    shapeCast S560x512 (asSlab (F := Ideal) (shapeCast S1x560x512 v shapeCasts_S560x512_S1x560x512)) shapeCasts_S1x1x560x512_S560x512 = v := by
  funext i
  obtain ⟨r, col, rfl⟩ : ∃ (r : Fin 560) (col : Fin 512), i = ix2 r col := ⟨_, _, eq_ix2 i⟩
  refine (shapeCast_apply _ _ _ (ix4 (0 : Fin 1) (0 : Fin 1) r col) ?_).trans ?_
  · exact slab_row r col
  · unfold asSlab
    have e : (Shape.reshapeEquiv (squeezes_S1x1x560x512_S560x512).numel_eq).symm (ix4 (0 : Fin 1) (0 : Fin 1) r col) = ix2 r col :=
      (Equiv.symm_apply_eq _).2 (reshapeEquiv_ix2_11ab _ _ _).symm
    rw [e]
    refine (congrArg _ (reshapeEquiv_ix2_1ab _ r col)).trans ?_
    exact shapeCast_ab_1ab_apply _ _ _ _ _

theorem cast_keep (v : FVec Ideal S560x512 .bf16) :
    shapeCast S560x512 (shapeCast S1x1x560x512 v shapeCasts_S560x512_S1x1x560x512) shapeCasts_S1x1x560x512_S560x512 = v := by
  funext i
  obtain ⟨r, col, rfl⟩ : ∃ (r : Fin 560) (col : Fin 512), i = ix2 r col := ⟨_, _, eq_ix2 i⟩
  have e := slab_row r col
  exact (shapeCast_apply _ _ _ (ix4 (0 : Fin 1) (0 : Fin 1) r col) e).trans (shapeCast_apply _ _ _ (ix2 r col) e.symm)

/-! ## Chunks -/

variable {D : Dev nD → Vec Ideal S2048 .i32} {X : Dev nD → Vec Ideal S2048x1024 .bf16}
variable {Dg : Fin 4 → Vec Ideal S2048 .i32} {Xg : Fin 4 → Vec Ideal S2048x1024 .bf16}

/-- A sent chunk, from its word. -/
theorem sendV_eq (c : Dev nD) (j : Fin 3) :
    sendV D X (dn j c) j = shapeCast S1x560x512 (chunk (BitVec.ofNat 32 (560 * (zc c).val)) (key (D (dn j c))) (halfV (X (dn j c)) (hx (dn j c))))
      shapeCasts_S560x512_S1x560x512 := by
  rw [← cast_xbf]
  match j with
  | 0 => rw [← sendW0]; rfl
  | 1 => rw [← sendW1]; rfl
  | 2 => rw [← sendW2]; rfl

theorem rcv_eq (hD : ∀ c, D c = Dg (zc c)) (hX : ∀ c, X c = Xg (zc c)) (c : Dev nD) (j : Fin 3) :
    shapeCast S560x512 (rcvV D X c j) shapeCasts_S1x1x560x512_S560x512 = chunkOf Dg Xg (zc c) (zc (dn j c)) (hx c) := by
  unfold rcvV
  rw [sendV_eq, cast_slab, hD, hX, hx_dn]
  rfl

theorem keep_eq (hD : ∀ c, D c = Dg (zc c)) (hX : ∀ c, X c = Xg (zc c)) (c : Dev nD) (h : Fin 2) :
    shapeCast S560x512 (keepV D X c h) shapeCasts_S1x1x560x512_S560x512 = chunkOf Dg Xg (zc c) (zc c) h := by
  have e : keepV D X c h = shapeCast S1x1x560x512 (chunk (BitVec.ofNat 32 (560 * (zc c).val)) (key (D c)) (halfV (X c) h)) shapeCasts_S560x512_S1x1x560x512 := by
    rw [← cast_xbf, ← keepW]
    match h with
    | 0 => rfl
    | 1 => rfl
  rw [e, cast_keep, hD, hX]
  rfl

/-! ## The partial sums -/

theorem hot0_eq (c : Dev nD) : hot0 D c = oneHot (BitVec.ofNat 32 (560 * 0)) (place D c) := by
  have e : addi (broadcast S2048x560 (BitVec.ofNat 32 (560 * 0))) io = io := by
    funext i; exact BitVec.zero_add _
  unfold oneHot
  rw [e]; rfl

theorem hot_eq (c : Dev nD) (j : Fin 3) : hot D c j = oneHot (BitVec.ofNat 32 (560 * j.succ.val)) (place D c) := by
  match j with
  | 0 => rfl
  | 1 => rfl
  | 2 => rfl

theorem stg0_eq (c : Dev nD) (h : Fin 2) : stg0V D X c h = shapeCast S1x2048x512
    (part (hot0 D c) (shapeCast S560x512 (keepV D X c h) shapeCasts_S1x1x560x512_S560x512)) shapeCasts_S2048x512_S1x2048x512 := by
  match h with
  | 0 => rfl
  | 1 => rfl

/-- A partial sum with one more slot's rows. -/
def accV (H : FVec Ideal S2048x560 .bf16) (A : FVec Ideal S1x2048x512 .bf16) (M : FVec Ideal S1x1x560x512 .bf16) : FVec Ideal S1x2048x512 .bf16 :=
  shapeCast S1x2048x512 (addf (shapeCast S2048x512 A shapeCasts_S1x2048x512_S2048x512)
    (part H (shapeCast S560x512 M shapeCasts_S1x1x560x512_S560x512))) shapeCasts_S2048x512_S1x2048x512

theorem accV_apply (H : FVec Ideal S2048x560 .bf16) (A : FVec Ideal S1x2048x512 .bf16) (M : FVec Ideal S1x1x560x512 .bf16) (j : Fin 2048) (col : Fin 512) :
    shapeCast S2048x512 (accV H A M) shapeCasts_S1x2048x512_S2048x512 (ix2 j col)
      = (shapeCast S2048x512 A shapeCasts_S1x2048x512_S2048x512 (ix2 j col) : EReal)
        + part H (shapeCast S560x512 M shapeCasts_S1x1x560x512_S560x512) (ix2 j col) := by
  unfold accV
  rw [cast_1ab, addf_apply]

/-- All four slots' rows summed. -/
def sumV (c : Dev nD) (h : Fin 2) (M : Fin 3 → FVec Ideal S1x1x560x512 .bf16) : FVec Ideal S1x2048x512 .bf16 :=
  accV (hot D c 2) (accV (hot D c 1) (accV (hot D c 0) (stg0V D X c h) (M 0)) (M 1)) (M 2)

variable (hd : ∀ s q, q < 2048 → dst (Dg s) q < 4) (hc : ∀ s t, t < 4 → cnt (Dg s) 2048 t ≤ 560)

include hd hc in
theorem sumV_apply (hD : ∀ c, D c = Dg (zc c)) (hX : ∀ c, X c = Xg (zc c)) (c : Dev nD) (h : Fin 2) (M : Fin 3 → FVec Ideal S1x1x560x512 .bf16)
    (hM : ∀ j, shapeCast S560x512 (M j) shapeCasts_S1x1x560x512_S560x512 = chunkOf Dg Xg (zc c) (zc (dn j c)) h)
    (s : Fin 4) (i j : Fin 2048) (hdi : dst (Dg s) i.val = (zc c).val) (hj : j.val = base Dg (zc c).val s + cnt (Dg s) i.val (zc c).val) (col : Fin 512) :
    shapeCast S2048x512 (sumV (D := D) (X := X) c h M) shapeCasts_S1x2048x512_S2048x512 (ix2 j col) = halfV (Xg s) h (ix2 i col) := by
  have hlt : cnt (Dg s) i.val (zc c).val < cnt (Dg s) 2048 (zc c).val := by rw [← hdi]; exact cnt_lt _ i.isLt
  have hle := hc s (zc c).val (zc c).isLt
  have hP := place_apply hD c s _ hlt j hj
  -- one slot's part
  have hone : ∀ (d u : Fin 4), (sl (zc c) s = d → u = s) →
      part (oneHot (BitVec.ofNat 32 (560 * d.val)) (place D c)) (chunkOf Dg Xg (zc c) u h) (ix2 j col)
        = if sl (zc c) s = d then halfV (Xg s) h (ix2 i col) else 0 := fun d u hu => by
    rw [part_apply (place D c) _ d.val (sl (zc c) s).val d.isLt (sl (zc c) s).isLt ⟨cnt (Dg s) i.val (zc c).val, by omega⟩ j hP col]
    by_cases hsd : sl (zc c) s = d
    · rw [if_pos (congrArg Fin.val hsd), if_pos hsd, hu hsd]
      have ch := chunk_apply (Dg s) (hd s) (hc s) (halfV (Xg s) h) i ⟨cnt (Dg s) i.val (zc c).val, by omega⟩ (by rw [hdi]) col
      rw [hdi] at ch
      exact ch
    · rw [if_neg (fun hh => hsd (Fin.ext hh)), if_neg hsd]
  unfold sumV
  rw [accV_apply, accV_apply, accV_apply, stg0_eq, cast_1ab, keep_eq hD hX, hM, hM, hM, hot0_eq, hot_eq, hot_eq, hot_eq]
  have p0 := hone 0 (zc c) (fun hh => zc_self s c hh)
  have p1 := hone 1 (zc (dn 0 c)) (fun hh => zc_dn' s 0 c hh)
  have p2 := hone 2 (zc (dn 1 c)) (fun hh => zc_dn' s 1 c hh)
  have p3 := hone 3 (zc (dn 2 c)) (fun hh => zc_dn' s 2 c hh)
  refine (congr (congrArg HAdd.hAdd (congr (congrArg HAdd.hAdd (congr (congrArg HAdd.hAdd p0) p1)) p2)) p3).trans ?_
  generalize sl (zc c) s = d
  match d with
  | 0 => simp
  | 1 => simp
  | 2 => simp
  | 3 => simp

include hd hc in
theorem finV_apply (hD : ∀ c, D c = Dg (zc c)) (hX : ∀ c, X c = Xg (zc c)) (c : Dev nD) (h : Fin 2)
    (s : Fin 4) (i j : Fin 2048) (hdi : dst (Dg s) i.val = (zc c).val) (hj : j.val = base Dg (zc c).val s + cnt (Dg s) i.val (zc c).val) (col : Fin 512) :
    shapeCast S2048x512 (finV D X c h) shapeCasts_S1x2048x512_S2048x512 (ix2 j col) = halfV (Xg s) h (ix2 i col) := by
  unfold finV
  by_cases hh : h = hx c
  · rw [if_pos hh]
    subst hh
    exact sumV_apply hd hc hD hX c (hx c) (fun j => rcvV D X c j) (fun j => rcv_eq hD hX c j) s i j hdi hj col
  · rw [if_neg hh]
    have ho : h = ot (hx c) := by
      generalize hx c = k at hh
      revert h k; decide
    subst ho
    refine sumV_apply hd hc hD hX c (ot (hx c)) (fun j => rcvV D X (xp c) j) (fun j => ?_) s i j hdi hj col
    have e := zc_dn_xp j c
    rw [rcv_eq hD hX, zc_xp, e, hx_xp]

include hd hc in
/-- The result at the row `rank` past the start of source `s`'s rows is that source's row. -/
theorem outV_apply (hD : ∀ c, D c = Dg (zc c)) (hX : ∀ c, X c = Xg (zc c)) (c : Dev nD)
    (s : Fin 4) (i j : Fin 2048) (hdi : dst (Dg s) i.val = (zc c).val) (hj : j.val = base Dg (zc c).val s + cnt (Dg s) i.val (zc c).val) (col : Fin 1024) :
    outV D X c (ix2 j col) = Xg s (ix2 i col) := by
  unfold outV
  by_cases h : col.val < 512
  · refine (dif_pos h).trans ?_
    refine (finV_apply hd hc hD hX c 0 s i j hdi hj ⟨col.val, h⟩).trans ?_
    refine congrArg (Xg s) (funext fun a => Fin.ext ?_)
    match a with
    | ⟨0, _⟩ => show 0 + 1 * i.val = i.val; omega
    | ⟨1, _⟩ => show 0 + 1 * col.val = col.val; omega
  · refine (dif_neg h).trans ?_
    have hcl := col.isLt
    refine (finV_apply hd hc hD hX c 1 s i j hdi hj ⟨col.val - 512, by omega⟩).trans ?_
    refine congrArg (Xg s) (funext fun a => Fin.ext ?_)
    match a with
    | ⟨0, _⟩ => show 0 + 1 * i.val = i.val; omega
    | ⟨1, _⟩ => show 512 + 1 * (col.val - 512) = col.val; omega

end Cert.K01

end
-- ==== Proof.Final.lean ====
/-
The value claim: where the mask is set, a device's rows are its block of the rows sorted by destination.
-/
module

public import proofs.«01_k».proof.Proof.Frames
public import proofs.«01_k».proof.Proof.Mask
public import proofs.«01_k».proof.Proof.Out

@[expose] public section

noncomputable section

namespace Cert.K01

open Cert.KernelIdeal Cert.KernelIdeal.Gen
open Idealize.ShloMosaic Idealize.ShloMosaic.ValueIdx Idealize.SL.Sem
open Idealize.ShloMosaic.TcCoe

attribute [local instance] Cert.KernelIdeal.Gen.facts Cert.ReferenceIdeal.Gen.facts sizedFacts

section
variable {F : FTy → Type} [FloatOps F]
variable (m : (ℓ : Loc nD τ sig) → Buf (Elt F) ℓ) (ρ : Dev nD → PrngReg)

theorem rows_eq (c : Dev nD) : rows m c = m ((c : Thread nD τ).loc main_arg0) :=
  Memref.read_access_unit_zero (Elt F) main_arg0 (by decide) _ (m ((c : Thread nD τ).loc main_arg0))
theorem dests_eq (c : Dev nD) : dests m c = m ((c : Thread nD τ).loc main_arg1) :=
  Memref.read_access_unit_zero (Elt F) main_arg1 (by decide) _ (m ((c : Thread nD τ).loc main_arg1))

/-- The result array ends holding the value the body leaves. -/
theorem finalA_o (c : Dev nD) : finalA m ρ c (2 : Fin 3) = outV (dests m) (rows m) c := by
  have h : (win0_2.blk (0 : Fin 1)).view.read (Elt F) (finalA m ρ c (2 : Fin 3)) = outV (dests m) (rows m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (by decide) _ (finalA m ρ c (2 : Fin 3))).symm.trans h
end

/-! ## Blocks -/

/-- A device's block along the exchanged axis is the one its place on that axis names. -/
theorem block_val2 (c : Dev nD) : ((Layout.meshBlock [2, 4, 4] ![[2], []] c (by decide)) (0 : Fin 2)).val = (zc c).val := by
  revert c; decide
theorem block_val2' (c : Dev nD) : ((Layout.meshBlock [2, 4, 4] ![[2], []] c (by decide)) (1 : Fin 2)).val = 0 := by
  revert c; decide
theorem block_val1 (c : Dev nD) : ((Layout.meshBlock [2, 4, 4] ![[2]] c (by decide)) (0 : Fin 1)).val = (zc c).val := by
  revert c; decide

theorem blockN_rows {α : Type} (v : SX.Idx → α) (c : Dev nD) (j : Fin 2048) (col : Fin 1024) (h : 2048 * (zc c).val + j.val < 8192) :
    Layout.blockN S2048x1024 SX (Layout.meshBlock [2, 4, 4] ![[2], []] c) v (by decide) (ix2 j col) = v (ix2 ⟨2048 * (zc c).val + j.val, h⟩ col) := by
  rw [Layout.blockN_apply]
  refine congrArg v (funext fun a => Fin.ext ?_)
  rw [Layout.TilesN.idx_val]
  match a with
  | ⟨0, _⟩ =>
    show ((Layout.meshBlock [2, 4, 4] ![[2], []] c) (0 : Fin 2)).val * 2048 + j.val = 2048 * (zc c).val + j.val
    rw [block_val2, Nat.mul_comm]
  | ⟨1, _⟩ =>
    show ((Layout.meshBlock [2, 4, 4] ![[2], []] c) (1 : Fin 2)).val * 1024 + col.val = col.val
    rw [block_val2', Nat.zero_mul, Nat.zero_add]

theorem blockN_dests (d : IVec SD 32) (c : Dev nD) :
    Layout.blockN S2048 SD (Layout.meshBlock [2, 4, 4] ![[2]] c) d (by decide) = blkD d (zc c) := by
  funext i
  rw [Layout.blockN_apply]
  refine congrArg d (funext fun a => Fin.ext ?_)
  rw [Layout.TilesN.idx_val]
  match a with
  | ⟨0, _⟩ =>
    show ((Layout.meshBlock [2, 4, 4] ![[2]] c) (0 : Fin 1)).val * 2048 + (i (0 : Fin 1)).val = 2048 * (zc c).val + (i (0 : Fin 1)).val
    rw [block_val1, Nat.mul_comm]

theorem blockN_x (x : FVec Ideal SX .bf16) (c : Dev nD) :
    Layout.blockN S2048x1024 SX (Layout.meshBlock [2, 4, 4] ![[2], []] c) x (by decide) = blkX x (zc c) := by
  funext i
  obtain ⟨j, col, rfl⟩ : ∃ (j : Fin 2048) (col : Fin 1024), i = ix2 j col := ⟨_, _, eq_ix2 i⟩
  have := (zc c).isLt
  exact blockN_rows x c j col (by omega)

/-! ## The value -/

/-- Where the mask is set, a device's result at a position is the sorted array's at that position of its block. -/
theorem out_eq (d : IVec SD 32) (x : FVec Ideal SX .bf16) (D : Dev nD → Vec Ideal S2048 .i32) (X : Dev nD → Vec Ideal S2048x1024 .bf16)
    (hD : ∀ c, D c = blkD d (zc c)) (hX : ∀ c, X c = blkX x (zc c)) (htot : ∀ t, t < 4 → gcnt d 8192 t = 2048)
    (hc : ∀ (s : Fin 4) t, t < 4 → cnt (blkD d s) 2048 t ≤ 560) (c : Dev nD) (j : Fin 2048) (col : Fin 1024) (h : 2048 * (zc c).val + j.val < 8192) :
    outV D X c (ix2 j col) = refV d x (ix2 ⟨2048 * (zc c).val + j.val, h⟩ col) := by
  have hall := all_lt htot
  obtain ⟨s, i, hsrc, hdi, hj⟩ := src_blk htot (zc c) j ⟨2048 * (zc c).val + j.val, h⟩ rfl
  have hd : ∀ (s : Fin 4) q, q < 2048 → dst (blkD d s) q < 4 := fun s q hq => by
    have := s.isLt
    rw [← gd_blk d s hq]
    exact hall _ (by omega)
  rw [refV_apply d x hall]
  refine (outV_apply (Dg := blkD d) (Xg := blkX x) hd hc hD hX c s i j hdi hj col).trans ?_
  show x _ = x _
  refine congrArg x (congrArg (fun k => ix2 k col) (Fin.ext ?_))
  exact hsrc.symm

theorem algebraic : Cert.algebraic_KernelIdeal_ReferenceIdeal_on_sized := by
  intro m ρ m' ρ' _ hagree
  refine ⟨refV (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg0)), ?_, ?_⟩
  · refine (θ_run defs _ _).mono (fun r hr c => ⟨fun i hi => ?_, (hr.1 c 0).trans (finalA_x m ρ c), (hr.1 c 1).trans (finalA_dest m ρ c)⟩)
      (run_main (F := Ideal) m ρ)
    obtain ⟨j, col, rfl⟩ : ∃ (j : Fin 2048) (col : Fin 1024), i = ix2 j col := ⟨_, _, eq_ix2 i⟩
    have hz := (zc c).isLt
    have h : 2048 * (zc c).val + j.val < 8192 := by omega
    obtain ⟨htot, hc⟩ := sized_apply _ _ _ ((blockN_rows _ c j col h).symm.trans hi)
    refine (congrFun ((hr.1 c 2).trans (finalA_o m ρ c)) (ix2 j col)).trans ?_
    refine (out_eq _ _ (dests m) (rows m) (fun c => ?_) (fun c => ?_) htot hc c j col h).trans (blockN_rows _ c j col h).symm
    · exact (dests_eq m c).trans ((hagree c).2.trans (blockN_dests _ c))
    · exact (rows_eq m c).trans ((hagree c).1.trans (blockN_x _ c))
  · exact (θ_run Cert.ReferenceIdeal.defs _ _).mono (fun r hr => ⟨fun i _ => congrFun (hr 0).1 i, (hr 0).2⟩)
      (Cert.ReferenceIdeal.Value.run (F := Ideal) m' ρ')

end Cert.K01

end
-- ==== Proof.lean ====
/-
The certificate: the frames of the kernel over words and over exact values and of the reference, the two printed kernels'
agreement, and the value claim.
-/
module

public import proofs.«01_k».proof.Proof.Final

@[expose] public section

namespace Cert.Proof

theorem claim : Cert.Claim :=
  ⟨Cert.Kernel.Gen.facts, Cert.KernelIdeal.Gen.facts, Cert.ReferenceIdeal.Gen.facts, Cert.K01.sizedFacts,
    Cert.K01.frame_kernel, Cert.K01.frame_kernelIdeal, Cert.K01.frame_reference, trivial, Cert.K01.algebraic⟩

end Cert.Proof
